-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_positive [hPre_finite_and_positive : Cert.Pre_finite_and_positive.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_positive [hPre_finite_and_positive : Cert.Pre_finite_and_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_in_range [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_positive [hKernelIdeal : Cert.KernelIdeal.Facts] [hPre_finite_and_positive : Cert.Pre_finite_and_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_positive [hReferenceIdeal : Cert.ReferenceIdeal.Facts] [hPre_finite_and_positive : Cert.Pre_finite_and_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tables_in_range [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)

def algebraic_KernelIdeal_ReferenceIdeal_pre_finite_and_positive [hKernelIdeal : Cert.KernelIdeal.Facts] [hReferenceIdeal : Cert.ReferenceIdeal.Facts] [hPre_finite_and_positive : Cert.Pre_finite_and_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v19_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v18)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_and_positive : Cert.Pre_finite_and_positive.Facts) (hPre_tables_in_range : Cert.Pre_tables_in_range.Facts),
    quiescent_Kernel (hKernel := hKernel)
    ∧ quiescent_KernelIdeal (hKernelIdeal := hKernelIdeal)
    ∧ quiescent_KernelIdeal_pre_finite_and_positive (hKernelIdeal := hKernelIdeal) (hPre_finite_and_positive := hPre_finite_and_positive)
    ∧ quiescent_ReferenceIdeal (hReferenceIdeal := hReferenceIdeal)
    ∧ quiescent_ReferenceIdeal_pre_finite_and_positive (hReferenceIdeal := hReferenceIdeal) (hPre_finite_and_positive := hPre_finite_and_positive)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal)
    ∧ quiescent_Reference2Ideal_pre_tables_in_range (hReference2Ideal := hReference2Ideal) (hPre_tables_in_range := hPre_tables_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite_and_positive (hKernelIdeal := hKernelIdeal) (hReferenceIdeal := hReferenceIdeal) (hPre_finite_and_positive := hPre_finite_and_positive)
    ∧ preserves_Kernel2_Kernel2Ideal
    ∧ algebraic_Kernel2Ideal_Reference2Ideal (hKernel2Ideal := hKernel2Ideal) (hReference2Ideal := hReference2Ideal) (hPre_tables_in_range := hPre_tables_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite_and_positive.lean ====
abbrev S8x2048x1024 : Shape := ⟨3, ![8, 2048, 1024]⟩
abbrev S128 : Shape := ⟨1, ![128]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn_part1 {F : FTy → Type} [FloatOps F] (main_arg2 : FVec F S8x2048x1024 .f32) (main_v12 : IVec S_ 1) (main_v14 : IVec S8x2048x1024 1) (main_v15 : FVec F S8x2048x1024 .f32) : IVec S_ 1 :=
  let main_v16 : IVec S8x2048x1024 1 := cmpf .olt main_arg2 main_v15
  let main_v17 : IVec S8x2048x1024 1 := andi main_v14 main_v16
  let main_c_6 : IVec S_ 1 := constantI S_ 1 1#1
  let main_v18 : IVec S_ 1 := (fun x v => Host.reduce IntOp.andi x v reducesTo_S8x2048x1024_S_d0_1_2 h_S_) main_v17 main_c_6
  let main_v19 : IVec S_ 1 := andi main_v12 main_v18
  main_v19

def fn {F : FTy → Type} [FloatOps F] (main_arg0 : FVec F S8x2048x1024 .f32) (main_arg1 : FVec F S8x2048x1024 .f32) (main_arg2 : FVec F S8x2048x1024 .f32) (main_arg3 : FVec F S8x2048x1024 .f32) (main_arg4 : FVec F S128 .f32) : IVec S_ 1 :=
  let main_cst : FVec F S_ .f32 := constant S_ .f32 0xFF800000#32
  let main_v0 : FVec F S8x2048x1024 .f32 := broadcastInDim S8x2048x1024 ![] bcast_S_S8x2048x1024 main_cst
  let main_v1 : IVec S8x2048x1024 1 := cmpf .ogt main_arg0 main_v0
  let main_cst_0 : FVec F S_ .f32 := constant S_ .f32 0x7F800000#32
  let main_v2 : FVec F S8x2048x1024 .f32 := broadcastInDim S8x2048x1024 ![] bcast_S_S8x2048x1024 main_cst_0
  let main_v3 : IVec S8x2048x1024 1 := cmpf .olt main_arg0 main_v2
  let main_v4 : IVec S8x2048x1024 1 := andi main_v1 main_v3
  let main_c : IVec S_ 1 := constantI S_ 1 1#1
  let main_v5 : IVec S_ 1 := (fun x v => Host.reduce IntOp.andi x v reducesTo_S8x2048x1024_S_d0_1_2 h_S_) main_v4 main_c
  let main_cst_1 : FVec F S_ .f32 := constant S_ .f32 0x00000000#32
  let main_v6 : FVec F S8x2048x1024 .f32 := broadcastInDim S8x2048x1024 ![] bcast_S_S8x2048x1024 main_cst_1
  let main_v7 : IVec S8x2048x1024 1 := cmpf .ogt main_arg1 main_v6
  let main_cst_2 : FVec F S_ .f32 := constant S_ .f32 0x7F800000#32
  let main_v8 : FVec F S8x2048x1024 .f32 := broadcastInDim S8x2048x1024 ![] bcast_S_S8x2048x1024 main_cst_2
  let main_v9 : IVec S8x2048x1024 1 := cmpf .olt main_arg1 main_v8
  let main_v10 : IVec S8x2048x1024 1 := andi main_v7 main_v9
  let main_c_3 : IVec S_ 1 := constantI S_ 1 1#1
  let main_v11 : IVec S_ 1 := (fun x v => Host.reduce IntOp.andi x v reducesTo_S8x2048x1024_S_d0_1_2 h_S_) main_v10 main_c_3
  let main_v12 : IVec S_ 1 := andi main_v5 main_v11
  let main_cst_4 : FVec F S_ .f32 := constant S_ .f32 0xFF800000#32
  let main_v13 : FVec F S8x2048x1024 .f32 := broadcastInDim S8x2048x1024 ![] bcast_S_S8x2048x1024 main_cst_4
  let main_v14 : IVec S8x2048x1024 1 := cmpf .ogt main_arg2 main_v13
  let main_cst_5 : FVec F S_ .f32 := constant S_ .f32 0x7F800000#32
  let main_v15 : FVec F S8x2048x1024 .f32 := broadcastInDim S8x2048x1024 ![] bcast_S_S8x2048x1024 main_cst_5
  fn_part1 (F := F) main_arg2 main_v12 main_v14 main_v15
-- ==== Pre_tables_in_range.lean ====
abbrev S164 : Shape := ⟨1, ![164]⟩
abbrev S1 : Shape := ⟨1, ![1]⟩
abbrev S671744x128 : Shape := ⟨2, ![671744, 128]⟩
abbrev S1x32x2048x512 : Shape := ⟨4, ![1, 32, 2048, 512]⟩
abbrev S1x32x512x2048 : Shape := ⟨4, ![1, 32, 512, 2048]⟩
abbrev S_ : Shape := ⟨0, ![]⟩

class Facts : Prop where
  bcast_S_S164 : S_.BroadcastsInDim S164 (![] : Fin 0 → Fin S164.rank)
  reducesTo_S164_S_d0 : S164.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S164 32) (main_arg1 : IVec S1 32) (main_arg2 : FVec F S671744x128 .f32) (main_arg3 : FVec F S1x32x2048x512 .f32) (main_arg4 : FVec F S1x32x2048x512 .f32) (main_arg5 : FVec F S1x32x512x2048 .f32) : IVec S_ 1 :=
  let main_c : IVec S_ 32 := constantI S_ 32 0#32
  let main_v0 : IVec S164 32 := broadcastInDim S164 ![] bcast_S_S164 main_c
  let main_v1 : IVec S164 1 := cmpi .sge main_arg0 main_v0
  let main_c_0 : IVec S_ 32 := constantI S_ 32 32#32
  let main_v2 : IVec S164 32 := broadcastInDim S164 ![] bcast_S_S164 main_c_0
  let main_v3 : IVec S164 1 := cmpi .slt main_arg0 main_v2
  let main_v4 : IVec S164 1 := andi main_v1 main_v3
  let main_c_1 : IVec S_ 1 := constantI S_ 1 1#1
  let main_v5 : IVec S_ 1 := (fun x v => Host.reduce IntOp.andi x v reducesTo_S164_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 164#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S8x2048x1024 : Shape := ⟨3, ![8, 2048, 1024]⟩
abbrev S128 : Shape := ⟨1, ![128]⟩
abbrev S16384x1024 : Shape := ⟨2, ![16384, 1024]⟩
abbrev S1x128 : Shape := ⟨2, ![1, 128]⟩
abbrev S8x8x128x128 : Shape := ⟨4, ![8, 8, 128, 128]⟩
abbrev S128x1024 : Shape := ⟨2, ![128, 1024]⟩
abbrev S1x8x128x128 : Shape := ⟨4, ![1, 8, 128, 128]⟩
abbrev S8x128x128 : Shape := ⟨3, ![8, 128, 128]⟩
abbrev S128x128 : Shape := ⟨2, ![128, 128]⟩
abbrev S128x2048 : Shape := ⟨2, ![128, 2048]⟩
abbrev S1x1024 : Shape := ⟨2, ![1, 1024]⟩
abbrev S1x128x128 : Shape := ⟨3, ![1, 128, 128]⟩
abbrev S128x1 : Shape := ⟨2, ![128, 1]⟩
abbrev S1x1x128x128 : Shape := ⟨4, ![1, 1, 128, 128]⟩

abbrev nBuf : Space → Nat
  | .hbm => 13
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S8x2048x1024, .f32⟩
  | .hbm, ⟨4, _⟩ => ⟨S128, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .bf16⟩
  | .hbm, ⟨9, _⟩ => ⟨S16384x1024, .f32⟩
  | .hbm, ⟨10, _⟩ => ⟨S1x128, .f32⟩
  | .hbm, ⟨11, _⟩ => ⟨S16384x1024, .bf16⟩
  | .hbm, ⟨12, _⟩ => ⟨S8x8x128x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .bf16⟩
  | .local _ .vmem, ⟨5, _⟩ => ⟨S128x1024, .bf16⟩
  | .local _ .vmem, ⟨6, _⟩ => ⟨S128x1024, .f32⟩
  | .local _ .vmem, ⟨7, _⟩ => ⟨S128x1024, .f32⟩
  | .local _ .vmem, ⟨8, _⟩ => ⟨S1x128, .f32⟩
  | .local _ .vmem, ⟨9, _⟩ => ⟨S128x1024, .bf16⟩
  | .local _ .vmem, ⟨10, _⟩ => ⟨S128x1024, .bf16⟩
  | .local _ .vmem, ⟨11, _⟩ => ⟨S1x8x128x128, .f32⟩
  | .local _ .vmem, ⟨12, _⟩ => ⟨S1x8x128x128, .f32⟩
  | .local _ .vmem, ⟨13, _⟩ => ⟨S8x128x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32_279 : BitVec 32 := 15#32
  let v867 : BitVec 1 := Scalar.cmpi .eq arg1 c15_i32_279
  let v868 : BitVec 32 := Scalar.extui v867
  let c0_i32_280 : BitVec 32 := 0#32
  let v869 : BitVec 1 := Scalar.cmpi .ne v868 c0_i32_280
  v869

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "inv_ln2" => some (((Real.log 2)⁻¹ : ℝ) : EReal)
  | _ => none
-- ==== ReferenceIdeal.lean ====
abbrev S8x2048x1024 : Shape := ⟨3, ![8, 2048, 1024]⟩
abbrev S128 : Shape := ⟨1, ![128]⟩
abbrev S_ : Shape := ⟨0, ![]⟩
abbrev S8x8x128x128 : Shape := ⟨4, ![8, 8, 128, 128]⟩
abbrev S8x2048x8x128 : Shape := ⟨4, ![8, 2048, 8, 128]⟩
abbrev S64x64 : Shape := ⟨2, ![64, 64]⟩
abbrev S8x32x64x8x128 : Shape := ⟨5, ![8, 32, 64, 8, 128]⟩
abbrev S32x8x8x64x128 : Shape := ⟨5, ![32, 8, 8, 64, 128]⟩
abbrev S1x8x8x64x128 : Shape := ⟨5, ![1, 8, 8, 64, 128]⟩
abbrev S8x8x64x128 : Shape := ⟨4, ![8, 8, 64, 128]⟩
abbrev S8x8x64x1x128 : Shape := ⟨5, ![8, 8, 64, 1, 128]⟩
abbrev S8x8x1x64x128 : Shape := ⟨5, ![8, 8, 1, 64, 128]⟩
abbrev S8x8x64x64x128 : Shape := ⟨5, ![8, 8, 64, 64, 128]⟩
abbrev S64x64x1 : Shape := ⟨3, ![64, 64, 1]⟩
abbrev S8x8x64x64 : Shape := ⟨4, ![8, 8, 64, 64]⟩
abbrev S8x8x1x128 : Shape := ⟨4, ![8, 8, 1, 128]⟩
abbrev S8x8x128 : Shape := ⟨3, ![8, 8, 128]⟩
abbrev S8x8x128x1 : Shape := ⟨4, ![8, 8, 128, 1]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S16384x1024 : Shape := ⟨2, ![16384, 1024]⟩

abbrev nBuf : Space → Nat
  | .hbm => 142
  | .vmem => 0
  | .smem => 0
  | _ => 0

abbrev hbmTy0_0 (i : Nat) : BufTy := match i % 128 with
  | 0 => ⟨S8x2048x1024, .f32⟩
  | 1 => ⟨S8x2048x1024, .f32⟩
  | 2 => ⟨S8x2048x1024, .f32⟩
  | 3 => ⟨S8x2048x1024, .f32⟩
  | 4 => ⟨S128, .f32⟩
  | 5 => ⟨S_, .f32⟩
  | 6 => ⟨S8x8x128x128, .f32⟩
  | 7 => ⟨S8x2048x8x128, .f32⟩
  | 8 => ⟨S8x2048x1024, .f32⟩
  | 9 => ⟨S8x2048x8x128, .f32⟩
  | 10 => ⟨S_, .f32⟩
  | 11 => ⟨S8x2048x1024, .f32⟩
  | 12 => ⟨S8x2048x1024, .f32⟩
  | 13 => ⟨S8x2048x8x128, .f32⟩
  | 14 => ⟨S8x2048x8x128, .f32⟩
  | 15 => ⟨S_, .i1⟩
  | 16 => ⟨S64x64, .i1⟩
  | 17 => ⟨S64x64, .i32⟩
  | 18 => ⟨S_, .i32⟩
  | 19 => ⟨S64x64, .i32⟩
  | 20 => ⟨S64x64, .i32⟩
  | 21 => ⟨S64x64, .i32⟩
  | 22 => ⟨S64x64, .i1⟩
  | 23 => ⟨S_, .i1⟩
  | 24 => ⟨S64x64, .i1⟩
  | 25 => ⟨S64x64, .i1⟩
  | 26 => ⟨S8x32x64x8x128, .f32⟩
  | 27 => ⟨S32x8x8x64x128, .f32⟩
  | 28 => ⟨S8x32x64x8x128, .f32⟩
  | 29 => ⟨S32x8x8x64x128, .f32⟩
  | 30 => ⟨S8x32x64x8x128, .f32⟩
  | 31 => ⟨S32x8x8x64x128, .f32⟩
  | 32 => ⟨S8x32x64x8x128, .f32⟩
  | 33 => ⟨S32x8x8x64x128, .f32⟩
  | 34 => ⟨S_, .f32⟩
  | 35 => ⟨S32x8x8x64x128, .f32⟩
  | 36 => ⟨S_, .i32⟩
  | 37 => ⟨S32x8x8x64x128, .f32⟩
  | 38 => ⟨S32x8x8x64x128, .f32⟩
  | 39 => ⟨S32x8x8x64x128, .f32⟩
  | 40 => ⟨S32x8x8x64x128, .f32⟩
  | 41 => ⟨S64x64, .i1⟩
  | 42 => ⟨S_, .i32⟩
  | 43 => ⟨S8x8x128x128, .f32⟩
  | 44 => ⟨S32x8x8x64x128, .f32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S1x8x8x64x128, .f32⟩
  | 52 => ⟨S8x8x64x128, .f32⟩
  | 53 => ⟨S_, .i32⟩
  | 54 => ⟨S_, .i32⟩
  | 55 => ⟨S_, .i32⟩
  | 56 => ⟨S_, .i32⟩
  | 57 => ⟨S1x8x8x64x128, .f32⟩
  | 58 => ⟨S8x8x64x128, .f32⟩
  | 59 => ⟨S_, .i32⟩
  | 60 => ⟨S_, .i32⟩
  | 61 => ⟨S_, .i32⟩
  | 62 => ⟨S_, .i32⟩
  | 63 => ⟨S1x8x8x64x128, .f32⟩
  | 64 => ⟨S8x8x64x128, .f32⟩
  | 65 => ⟨S_, .i32⟩
  | 66 => ⟨S_, .i32⟩
  | 67 => ⟨S_, .i32⟩
  | 68 => ⟨S_, .i32⟩
  | 69 => ⟨S1x8x8x64x128, .f32⟩
  | 70 => ⟨S8x8x64x128, .f32⟩
  | 71 => ⟨S_, .f32⟩
  | 72 => ⟨S_, .f32⟩
  | 73 => ⟨S8x8x64x128, .f32⟩
  | 74 => ⟨S8x8x64x128, .f32⟩
  | 75 => ⟨S8x8x64x128, .f32⟩
  | 76 => ⟨S8x8x64x128, .f32⟩
  | 77 => ⟨S8x8x64x1x128, .f32⟩
  | 78 => ⟨S8x8x1x64x128, .f32⟩
  | 79 => ⟨S8x8x64x64x128, .f32⟩
  | 80 => ⟨S8x8x64x64x128, .f32⟩
  | 81 => ⟨S8x8x64x64x128, .f32⟩
  | 82 => ⟨S64x64x1, .i1⟩
  | 83 => ⟨S_, .f32⟩
  | 84 => ⟨S_, .f32⟩
  | 85 => ⟨S8x8x64x64x128, .i1⟩
  | 86 => ⟨S8x8x64x64x128, .f32⟩
  | 87 => ⟨S8x8x64x64x128, .f32⟩
  | 88 => ⟨S8x8x64x64x128, .f32⟩
  | 89 => ⟨S8x8x64x1x128, .f32⟩
  | 90 => ⟨S8x8x1x64x128, .f32⟩
  | 91 => ⟨S8x8x64x64x128, .f32⟩
  | 92 => ⟨S8x8x64x64x128, .f32⟩
  | 93 => ⟨S8x8x64x64x128, .f32⟩
  | 94 => ⟨S8x8x64x64x128, .f32⟩
  | 95 => ⟨S_, .f32⟩
  | 96 => ⟨S8x8x64x64, .f32⟩
  | 97 => ⟨S8x8x64x128, .f32⟩
  | 98 => ⟨S8x8x1x128, .f32⟩
  | 99 => ⟨S8x8x128, .f32⟩
  | 100 => ⟨S8x8x128, .f32⟩
  | 101 => ⟨S8x8x128x1, .f32⟩
  | 102 => ⟨S8x8x128x128, .f32⟩
  | 103 => ⟨S8x8x128x128, .f32⟩
  | 104 => ⟨S8x8x1x128, .f32⟩
  | 105 => ⟨S8x8x64x128, .f32⟩
  | 106 => ⟨S8x8x64x128, .f32⟩
  | 107 => ⟨S8x8x64x128, .f32⟩
  | 108 => ⟨S8x8x64x128, .f32⟩
  | 109 => ⟨S8x8x128x128, .f32⟩
  | 110 => ⟨S8x8x128x128, .f32⟩
  | 111 => ⟨S8x8x64x128, .f32⟩
  | 112 => ⟨S1x8x8x64x128, .f32⟩
  | 113 => ⟨S_, .i32⟩
  | 114 => ⟨S_, .i32⟩
  | 115 => ⟨S_, .i32⟩
  | 116 => ⟨S_, .i32⟩
  | 117 => ⟨S32x8x8x64x128, .f32⟩
  | 118 => ⟨S_, .i32⟩
  | 119 => ⟨S_, .i32⟩
  | 120 => ⟨S8x32x64x8x128, .f32⟩
  | 121 => ⟨S8x2048x8x128, .f32⟩
  | 122 => ⟨S8x2048x8x128, .f32⟩
  | 123 => ⟨S_, .f32⟩
  | 124 => ⟨S8x2048x8, .f32⟩
  | 125 => ⟨S8x2048x8x1, .f32⟩
  | 126 => ⟨S_, .f32⟩
  | 127 => ⟨S8x2048x8x1, .f32⟩
  | _ => ⟨S8x2048x1024, .f32⟩

abbrev hbmTy0_1 (i : Nat) : BufTy := match i % 128 with
  | 0 => ⟨S8x2048x8x1, .f32⟩
  | 1 => ⟨S_, .f32⟩
  | 2 => ⟨S8x2048x8x1, .f32⟩
  | 3 => ⟨S8x2048x8x1, .f32⟩
  | 4 => ⟨S8x2048x8x1, .f32⟩
  | 5 => ⟨S8x2048x8x128, .f32⟩
  | 6 => ⟨S8x2048x8x128, .f32⟩
  | 7 => ⟨S1x1x1x128, .f32⟩
  | 8 => ⟨S8x2048x8x128, .f32⟩
  | 9 => ⟨S8x2048x8x128, .f32⟩
  | 10 => ⟨S8x2048x8x128, .f32⟩
  | 11 => ⟨S8x2048x8x128, .f32⟩
  | 12 => ⟨S16384x1024, .f32⟩
  | 13 => ⟨S16384x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_0 : Ref sig .tc := ⟨.hbm, 23, rfl⟩
abbrev main_call0_v5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_c_2 : Ref sig .tc := ⟨.hbm, 36, rfl⟩
abbrev main_v19_0 : Ref sig .tc := ⟨.hbm, 37, rfl⟩
abbrev main_v19_1 : Ref sig .tc := ⟨.hbm, 38, rfl⟩
abbrev main_v19_2 : Ref sig .tc := ⟨.hbm, 39, rfl⟩
abbrev main_v19_3 : Ref sig .tc := ⟨.hbm, 40, rfl⟩
abbrev main_v19_4 : Ref sig .tc := ⟨.hbm, 41, rfl⟩
abbrev main_v19_5 : Ref sig .tc := ⟨.hbm, 42, rfl⟩
abbrev main_v19_6 : Ref sig .tc := ⟨.hbm, 43, rfl⟩
abbrev main_v19_7 : Ref sig .tc := ⟨.hbm, 44, rfl⟩
abbrev main_while0c_c_13 : Ref sig .tc := ⟨.hbm, 45, rfl⟩
abbrev main_while0c_v39 : Ref sig .tc := ⟨.hbm, 46, rfl⟩
abbrev main_while0b_call1_c : Ref sig .tc := ⟨.hbm, 47, rfl⟩
abbrev main_while0b_call1_c_0 : Ref sig .tc := ⟨.hbm, 48, rfl⟩
abbrev main_while0b_call1_c_1 : Ref sig .tc := ⟨.hbm, 49, rfl⟩
abbrev main_while0b_call1_c_2 : Ref sig .tc := ⟨.hbm, 50, rfl⟩
abbrev main_while0b_call1_v0 : Ref sig .tc := ⟨.hbm, 51, rfl⟩
abbrev main_while0b_v39 : Ref sig .tc := ⟨.hbm, 52, rfl⟩
abbrev main_while0b_call2_c : Ref sig .tc := ⟨.hbm, 53, rfl⟩
abbrev main_while0b_call2_c_0 : Ref sig .tc := ⟨.hbm, 54, rfl⟩
abbrev main_while0b_call2_c_1 : Ref sig .tc := ⟨.hbm, 55, rfl⟩
abbrev main_while0b_call2_c_2 : Ref sig .tc := ⟨.hbm, 56, rfl⟩
abbrev main_while0b_call2_v0 : Ref sig .tc := ⟨.hbm, 57, rfl⟩
abbrev main_while0b_v40 : Ref sig .tc := ⟨.hbm, 58, rfl⟩
abbrev main_while0b_call3_c : Ref sig .tc := ⟨.hbm, 59, rfl⟩
abbrev main_while0b_call3_c_0 : Ref sig .tc := ⟨.hbm, 60, rfl⟩
abbrev main_while0b_call3_c_1 : Ref sig .tc := ⟨.hbm, 61, rfl⟩
abbrev main_while0b_call3_c_2 : Ref sig .tc := ⟨.hbm, 62, rfl⟩
abbrev main_while0b_call3_v0 : Ref sig .tc := ⟨.hbm, 63, rfl⟩
abbrev main_while0b_v41 : Ref sig .tc := ⟨.hbm, 64, rfl⟩
abbrev main_while0b_call4_c : Ref sig .tc := ⟨.hbm, 65, rfl⟩
abbrev main_while0b_call4_c_0 : Ref sig .tc := ⟨.hbm, 66, rfl⟩
abbrev main_while0b_call4_c_1 : Ref sig .tc := ⟨.hbm, 67, rfl⟩
abbrev main_while0b_call4_c_2 : Ref sig .tc := ⟨.hbm, 68, rfl⟩
abbrev main_while0b_call4_v0 : Ref sig .tc := ⟨.hbm, 69, rfl⟩
abbrev main_while0b_v42 : Ref sig .tc := ⟨.hbm, 70, rfl⟩
abbrev main_while0b_call5_call0_cst : Ref sig .tc := ⟨.hbm, 71, rfl⟩
abbrev main_while0b_call5_call0_v0 : Ref sig .tc := ⟨.hbm, 72, rfl⟩
abbrev main_while0b_v43 : Ref sig .tc := ⟨.hbm, 73, rfl⟩
abbrev main_while0b_v44 : Ref sig .tc := ⟨.hbm, 74, rfl⟩
abbrev main_while0b_v45 : Ref sig .tc := ⟨.hbm, 75, rfl⟩
abbrev main_while0b_v46 : Ref sig .tc := ⟨.hbm, 76, rfl⟩
abbrev main_while0b_v47 : Ref sig .tc := ⟨.hbm, 77, rfl⟩
abbrev main_while0b_v48 : Ref sig .tc := ⟨.hbm, 78, rfl⟩
abbrev main_while0b_v49 : Ref sig .tc := ⟨.hbm, 79, rfl⟩
abbrev main_while0b_v50 : Ref sig .tc := ⟨.hbm, 80, rfl⟩
abbrev main_while0b_v51 : Ref sig .tc := ⟨.hbm, 81, rfl⟩
abbrev main_while0b_v52 : Ref sig .tc := ⟨.hbm, 82, rfl⟩
abbrev main_while0b_cst_13 : Ref sig .tc := ⟨.hbm, 83, rfl⟩
abbrev main_while0b_call6_v0 : Ref sig .tc := ⟨.hbm, 84, rfl⟩
abbrev main_while0b_call6_v1 : Ref sig .tc := ⟨.hbm, 85, rfl⟩
abbrev main_while0b_call6_v2 : Ref sig .tc := ⟨.hbm, 86, rfl⟩
abbrev main_while0b_v53 : Ref sig .tc := ⟨.hbm, 87, rfl⟩
abbrev main_while0b_v54 : Ref sig .tc := ⟨.hbm, 88, rfl⟩
abbrev main_while0b_v55 : Ref sig .tc := ⟨.hbm, 89, rfl⟩
abbrev main_while0b_v56 : Ref sig .tc := ⟨.hbm, 90, rfl⟩
abbrev main_while0b_v57 : Ref sig .tc := ⟨.hbm, 91, rfl⟩
abbrev main_while0b_v58 : Ref sig .tc := ⟨.hbm, 92, rfl⟩
abbrev main_while0b_v59 : Ref sig .tc := ⟨.hbm, 93, rfl⟩
abbrev main_while0b_v60 : Ref sig .tc := ⟨.hbm, 94, rfl⟩
abbrev main_while0b_cst_14 : Ref sig .tc := ⟨.hbm, 95, rfl⟩
abbrev main_while0b_v61 : Ref sig .tc := ⟨.hbm, 96, rfl⟩
abbrev main_while0b_v62 : Ref sig .tc := ⟨.hbm, 97, rfl⟩
abbrev main_while0b_v63 : Ref sig .tc := ⟨.hbm, 98, rfl⟩
abbrev main_while0b_v64 : Ref sig .tc := ⟨.hbm, 99, rfl⟩
abbrev main_while0b_v65 : Ref sig .tc := ⟨.hbm, 100, rfl⟩
abbrev main_while0b_v66 : Ref sig .tc := ⟨.hbm, 101, rfl⟩
abbrev main_while0b_v67 : Ref sig .tc := ⟨.hbm, 102, rfl⟩
abbrev main_while0b_v68 : Ref sig .tc := ⟨.hbm, 103, rfl⟩
abbrev main_while0b_v69 : Ref sig .tc := ⟨.hbm, 104, rfl⟩
abbrev main_while0b_v70 : Ref sig .tc := ⟨.hbm, 105, rfl⟩
abbrev main_while0b_v71 : Ref sig .tc := ⟨.hbm, 106, rfl⟩
abbrev main_while0b_v72 : Ref sig .tc := ⟨.hbm, 107, rfl⟩
abbrev main_while0b_v73 : Ref sig .tc := ⟨.hbm, 108, rfl⟩
abbrev main_while0b_v74 : Ref sig .tc := ⟨.hbm, 109, rfl⟩
abbrev main_while0b_v75 : Ref sig .tc := ⟨.hbm, 110, rfl⟩
abbrev main_while0b_v76 : Ref sig .tc := ⟨.hbm, 111, rfl⟩
abbrev main_while0b_call7_v0 : Ref sig .tc := ⟨.hbm, 112, rfl⟩
abbrev main_while0b_call7_c : Ref sig .tc := ⟨.hbm, 113, rfl⟩
abbrev main_while0b_call7_c_0 : Ref sig .tc := ⟨.hbm, 114, rfl⟩
abbrev main_while0b_call7_c_1 : Ref sig .tc := ⟨.hbm, 115, rfl⟩
abbrev main_while0b_call7_c_2 : Ref sig .tc := ⟨.hbm, 116, rfl⟩
abbrev main_while0b_v77 : Ref sig .tc := ⟨.hbm, 117, rfl⟩
abbrev main_while0b_c_15 : Ref sig .tc := ⟨.hbm, 118, rfl⟩
abbrev main_while0b_v78 : Ref sig .tc := ⟨.hbm, 119, rfl⟩
abbrev main_v20 : Ref sig .tc := ⟨.hbm, 120, rfl⟩
abbrev main_v21 : Ref sig .tc := ⟨.hbm, 121, rfl⟩
abbrev main_v22 : Ref sig .tc := ⟨.hbm, 122, rfl⟩
abbrev main_cst_3 : Ref sig .tc := ⟨.hbm, 123, rfl⟩
abbrev main_v23 : Ref sig .tc := ⟨.hbm, 124, rfl⟩
abbrev main_v24 : Ref sig .tc := ⟨.hbm, 125, rfl⟩
abbrev main_cst_4 : Ref sig .tc := ⟨.hbm, 126, rfl⟩
abbrev main_v25 : Ref sig .tc := ⟨.hbm, 127, rfl⟩
abbrev main_v26 : Ref sig .tc := ⟨.hbm, 128, rfl⟩
abbrev main_cst_5 : Ref sig .tc := ⟨.hbm, 129, rfl⟩
abbrev main_v27 : Ref sig .tc := ⟨.hbm, 130, rfl⟩
abbrev main_v28 : Ref sig .tc := ⟨.hbm, 131, rfl⟩
abbrev main_v29 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩
abbrev main_v38 : Ref sig .tc := ⟨.hbm, 141, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S164 : Shape := ⟨1, ![164]⟩
abbrev S1 : Shape := ⟨1, ![1]⟩
abbrev S671744x128 : Shape := ⟨2, ![671744, 128]⟩
abbrev S1x32x2048x512 : Shape := ⟨4, ![1, 32, 2048, 512]⟩
abbrev S1x32x512x2048 : Shape := ⟨4, ![1, 32, 512, 2048]⟩
abbrev S4096x128 : Shape := ⟨2, ![4096, 128]⟩
abbrev S1x1x2048x512 : Shape := ⟨4, ![1, 1, 2048, 512]⟩
abbrev S1x1x512x2048 : Shape := ⟨4, ![1, 1, 512, 2048]⟩
abbrev S2048x512 : Shape := ⟨2, ![2048, 512]⟩
abbrev S512x2048 : Shape := ⟨2, ![512, 2048]⟩
abbrev S128x128 : Shape := ⟨2, ![128, 128]⟩
abbrev S128x2048 : Shape := ⟨2, ![128, 2048]⟩
abbrev S128x512 : Shape := ⟨2, ![128, 512]⟩

abbrev nBuf : Space → Nat
  | .hbm => 5
  | .vmem => 13
  | .smem => 2
  | _ => 0

abbrev bufTy : (tb : Table) → Fin (tcTables nBuf tb) → BufTy
  | .hbm, ⟨0, _⟩ => ⟨S671744x128, .f32⟩
  | .hbm, ⟨1, _⟩ => ⟨S1x32x2048x512, .f32⟩
  | .hbm, ⟨2, _⟩ => ⟨S1x32x2048x512, .f32⟩
  | .hbm, ⟨3, _⟩ => ⟨S1x32x512x2048, .f32⟩
  | .hbm, ⟨4, _⟩ => ⟨S671744x128, .f32⟩
  | .local _ .vmem, ⟨0, _⟩ => ⟨S4096x128, .f32⟩
  | .local _ .vmem, ⟨1, _⟩ => ⟨S4096x128, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S4096x128, .f32⟩
  | .local _ .vmem, ⟨9, _⟩ => ⟨S4096x128, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S164, .i32⟩
  | .local _ .smem, ⟨1, _⟩ => ⟨S1, .i32⟩
  | _, _ => ⟨S671744x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![164], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S164 : Shape := ⟨1, ![164]⟩
abbrev S1 : Shape := ⟨1, ![1]⟩
abbrev S671744x128 : Shape := ⟨2, ![671744, 128]⟩
abbrev S1x32x2048x512 : Shape := ⟨4, ![1, 32, 2048, 512]⟩
abbrev S1x32x512x2048 : Shape := ⟨4, ![1, 32, 512, 2048]⟩
abbrev S41984x2048 : Shape := ⟨2, ![41984, 2048]⟩
abbrev S164x256 : Shape := ⟨2, ![164, 256]⟩
abbrev S41984 : Shape := ⟨1, ![41984]⟩
abbrev S_ : Shape := ⟨0, ![]⟩
abbrev S32 : Shape := ⟨1, ![32]⟩
abbrev S32x2048x512 : Shape := ⟨3, ![32, 2048, 512]⟩
abbrev S32x512x2048 : Shape := ⟨3, ![32, 512, 2048]⟩
abbrev S1x2048x512 : Shape := ⟨3, ![1, 2048, 512]⟩
abbrev S2048x512 : Shape := ⟨2, ![2048, 512]⟩
abbrev S1x512x2048 : Shape := ⟨3, ![1, 512, 2048]⟩
abbrev S512x2048 : Shape := ⟨2, ![512, 2048]⟩
abbrev S41984x512 : Shape := ⟨2, ![41984, 512]⟩
abbrev S41984x1 : Shape := ⟨2, ![41984, 1]⟩

abbrev nBuf : Space → Nat
  | .hbm => 73
  | .vmem => 0
  | .smem => 0
  | _ => 0

abbrev bufTy : (tb : Table) → Fin (tcTables nBuf tb) → BufTy
  | .hbm, ⟨0, _⟩ => ⟨S164, .i32⟩
  | .hbm, ⟨1, _⟩ => ⟨S1, .i32⟩
  | .hbm, ⟨2, _⟩ => ⟨S671744x128, .f32⟩
  | .hbm, ⟨3, _⟩ => ⟨S1x32x2048x512, .f32⟩
  | .hbm, ⟨4, _⟩ => ⟨S1x32x2048x512, .f32⟩
  | .hbm, ⟨5, _⟩ => ⟨S1x32x512x2048, .f32⟩
  | .hbm, ⟨6, _⟩ => ⟨S41984x2048, .f32⟩
  | .hbm, ⟨7, _⟩ => ⟨S164, .i32⟩
  | .hbm, ⟨8, _⟩ => ⟨S164x256, .i32⟩
  | .hbm, ⟨9, _⟩ => ⟨S41984, .i32⟩
  | .hbm, ⟨10, _⟩ => ⟨S_, .i32⟩
  | .hbm, ⟨11, _⟩ => ⟨S41984, .i32⟩
  | .hbm, ⟨12, _⟩ => ⟨S41984, .i1⟩
  | .hbm, ⟨13, _⟩ => ⟨S164x256, .i32⟩
  | .hbm, ⟨14, _⟩ => ⟨S41984, .i32⟩
  | .hbm, ⟨15, _⟩ => ⟨S_, .i32⟩
  | .hbm, ⟨16, _⟩ => ⟨S_, .i32⟩
  | .hbm, ⟨17, _⟩ => ⟨S41984, .i32⟩
  | .hbm, ⟨18, _⟩ => ⟨S41984, .i32⟩
  | .hbm, ⟨19, _⟩ => ⟨S_, .f32⟩
  | .hbm, ⟨20, _⟩ => ⟨S41984x2048, .f32⟩
  | .hbm, ⟨21, _⟩ => ⟨S32, .i32⟩
  | .hbm, ⟨22, _⟩ => ⟨S32x2048x512, .f32⟩
  | .hbm, ⟨23, _⟩ => ⟨S32x2048x512, .f32⟩
  | .hbm, ⟨24, _⟩ => ⟨S32x512x2048, .f32⟩
  | .hbm, ⟨25, _⟩ => ⟨S_, .i32⟩
  | .hbm, ⟨26, _⟩ => ⟨S32, .i32⟩
  | .hbm, ⟨27, _⟩ => ⟨S32x2048x512, .f32⟩
  | .hbm, ⟨28, _⟩ => ⟨S32x2048x512, .f32⟩
  | .hbm, ⟨29, _⟩ => ⟨S32x512x2048, .f32⟩
  | .hbm, ⟨30, _⟩ => ⟨S41984x2048, .f32⟩
  | .hbm, ⟨31, _⟩ => ⟨S41984, .i32⟩
  | .hbm, ⟨32, _⟩ => ⟨S_, .i32⟩
  | .hbm, ⟨33, _⟩ => ⟨S41984x2048, .f32⟩
  | .hbm, ⟨34, _⟩ => ⟨S_, .i32⟩
  | .hbm, ⟨35, _⟩ => ⟨S_, .i1⟩
  | .hbm, ⟨36, _⟩ => ⟨S1, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1x2048x512, .f32⟩
  | .hbm, ⟨41, _⟩ => ⟨S2048x512, .f32⟩
  | .hbm, ⟨42, _⟩ => ⟨S_, .i32⟩
  | .hbm, ⟨43, _⟩ => ⟨S_, .i32⟩
  | .hbm, ⟨44, _⟩ => ⟨S1x2048x512, .f32⟩
  | .hbm, ⟨45, _⟩ => ⟨S2048x512, .f32⟩
  | .hbm, ⟨46, _⟩ => ⟨S_, .i32⟩
  | .hbm, ⟨47, _⟩ => ⟨S_, .i32⟩
  | .hbm, ⟨48, _⟩ => ⟨S1x512x2048, .f32⟩
  | .hbm, ⟨49, _⟩ => ⟨S512x2048, .f32⟩
  | .hbm, ⟨50, _⟩ => ⟨S41984x512, .f32⟩
  | .hbm, ⟨51, _⟩ => ⟨S41984x512, .f32⟩
  | .hbm, ⟨52, _⟩ => ⟨S41984x512, .f32⟩
  | .hbm, ⟨53, _⟩ => ⟨S_, .f32⟩
  | .hbm, ⟨54, _⟩ => ⟨S41984x512, .f32⟩
  | .hbm, ⟨55, _⟩ => ⟨S41984x512, .f32⟩
  | .hbm, ⟨56, _⟩ => ⟨S_, .f32⟩
  | .hbm, ⟨57, _⟩ => ⟨S41984x512, .f32⟩
  | .hbm, ⟨58, _⟩ => ⟨S41984x512, .f32⟩
  | .hbm, ⟨59, _⟩ => ⟨S41984x512, .f32⟩
  | .hbm, ⟨60, _⟩ => ⟨S41984x512, .f32⟩
  | .hbm, ⟨61, _⟩ => ⟨S41984x512, .f32⟩
  | .hbm, ⟨62, _⟩ => ⟨S41984, .i32⟩
  | .hbm, ⟨63, _⟩ => ⟨S41984, .i1⟩
  | .hbm, ⟨64, _⟩ => ⟨S41984, .f32⟩
  | .hbm, ⟨65, _⟩ => ⟨S41984x1, .f32⟩
  | .hbm, ⟨66, _⟩ => ⟨S41984x2048, .f32⟩
  | .hbm, ⟨67, _⟩ => ⟨S41984x2048, .f32⟩
  | .hbm, ⟨68, _⟩ => ⟨S41984x2048, .f32⟩
  | .hbm, ⟨69, _⟩ => ⟨S41984x2048, .f32⟩
  | .hbm, ⟨70, _⟩ => ⟨S_, .i32⟩
  | .hbm, ⟨71, _⟩ => ⟨S_, .i32⟩
  | .hbm, ⟨72, _⟩ => ⟨S671744x128, .f32⟩
  | _, _ => ⟨S164, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev main_v15_5 : Ref sig .tc := ⟨.hbm, 31, rfl⟩
abbrev main_v15_6 : Ref sig .tc := ⟨.hbm, 32, rfl⟩
abbrev main_v15_7 : Ref sig .tc := ⟨.hbm, 33, rfl⟩
abbrev main_while0c_c_8 : Ref sig .tc := ⟨.hbm, 34, rfl⟩
abbrev main_while0c_v17 : Ref sig .tc := ⟨.hbm, 35, rfl⟩
abbrev main_while0b_call1_v0 : Ref sig .tc := ⟨.hbm, 36, rfl⟩
abbrev main_while0b_v17 : Ref sig .tc := ⟨.hbm, 37, rfl⟩
abbrev main_while0b_call2_c : Ref sig .tc := ⟨.hbm, 38, rfl⟩
abbrev main_while0b_call2_c_0 : Ref sig .tc := ⟨.hbm, 39, rfl⟩
abbrev main_while0b_call2_v0 : Ref sig .tc := ⟨.hbm, 40, rfl⟩
abbrev main_while0b_v18 : Ref sig .tc := ⟨.hbm, 41, rfl⟩
abbrev main_while0b_call3_c : Ref sig .tc := ⟨.hbm, 42, rfl⟩
abbrev main_while0b_call3_c_0 : Ref sig .tc := ⟨.hbm, 43, rfl⟩
abbrev main_while0b_call3_v0 : Ref sig .tc := ⟨.hbm, 44, rfl⟩
abbrev main_while0b_v19 : Ref sig .tc := ⟨.hbm, 45, rfl⟩
abbrev main_while0b_call4_c : Ref sig .tc := ⟨.hbm, 46, rfl⟩
abbrev main_while0b_call4_c_0 : Ref sig .tc := ⟨.hbm, 47, rfl⟩
abbrev main_while0b_call4_v0 : Ref sig .tc := ⟨.hbm, 48, rfl⟩
abbrev main_while0b_v20 : Ref sig .tc := ⟨.hbm, 49, rfl⟩
abbrev main_while0b_v21 : Ref sig .tc := ⟨.hbm, 50, rfl⟩
abbrev main_while0b_call5_v0 : Ref sig .tc := ⟨.hbm, 51, rfl⟩
abbrev main_while0b_call5_v1 : Ref sig .tc := ⟨.hbm, 52, rfl⟩
abbrev main_while0b_call5_cst : Ref sig .tc := ⟨.hbm, 53, rfl⟩
abbrev main_while0b_call5_v2 : Ref sig .tc := ⟨.hbm, 54, rfl⟩
abbrev main_while0b_call5_v3 : Ref sig .tc := ⟨.hbm, 55, rfl⟩
abbrev main_while0b_call5_cst_0 : Ref sig .tc := ⟨.hbm, 56, rfl⟩
abbrev main_while0b_call5_v4 : Ref sig .tc := ⟨.hbm, 57, rfl⟩
abbrev main_while0b_call5_v5 : Ref sig .tc := ⟨.hbm, 58, rfl⟩
abbrev main_while0b_v22 : Ref sig .tc := ⟨.hbm, 59, rfl⟩
abbrev main_while0b_v23 : Ref sig .tc := ⟨.hbm, 60, rfl⟩
abbrev main_while0b_v24 : Ref sig .tc := ⟨.hbm, 61, rfl⟩
abbrev main_while0b_v25 : Ref sig .tc := ⟨.hbm, 62, rfl⟩
abbrev main_while0b_v26 : Ref sig .tc := ⟨.hbm, 63, rfl⟩
abbrev main_while0b_v27 : Ref sig .tc := ⟨.hbm, 64, rfl⟩
abbrev main_while0b_v28 : Ref sig .tc := ⟨.hbm, 65, rfl⟩
abbrev main_while0b_v29 : Ref sig .tc := ⟨.hbm, 66, rfl⟩
abbrev main_while0b_v30 : Ref sig .tc := ⟨.hbm, 67, rfl⟩
abbrev main_while0b_v31 : Ref sig .tc := ⟨.hbm, 68, rfl⟩
abbrev main_while0b_v32 : Ref sig .tc := ⟨.hbm, 69, rfl⟩
abbrev main_while0b_c_8 : Ref sig .tc := ⟨.hbm, 70, rfl⟩
abbrev main_while0b_v33 : Ref sig .tc := ⟨.hbm, 71, rfl⟩
abbrev main_v16 : Ref sig .tc := ⟨.hbm, 72, rfl⟩

abbrev nD : Nat := 1
abbrev τ : Topo := Topo.v7x

variable {F : FTy → Type} [FloatOps F]

abbrev main_while0_count : Scf.Loop 32 := ⟨0#32, 32#32, 1#32⟩
-- ==== Kernel3.lean ====
abbrev S128x4x2048 : Shape := ⟨3, ![128, 4, 2048]⟩
abbrev S1x2048x7168 : Shape := ⟨3, ![1, 2048, 7168]⟩
abbrev S512x2048 : Shape := ⟨2, ![512, 2048]⟩
abbrev S512x1024 : Shape := ⟨2, ![512, 1024]⟩
abbrev S1x2048x1024 : Shape := ⟨3, ![1, 2048, 1024]⟩
abbrev S2048x1024 : Shape := ⟨2, ![2048, 1024]⟩

abbrev nBuf : Space → Nat
  | .hbm => 6
  | .vmem => 3
  | .smem => 0
  | _ => 0

abbrev bufTy : (tb : Table) → Fin (tcTables nBuf tb) → BufTy
  | .hbm, ⟨0, _⟩ => ⟨S128x4x2048, .f32⟩
  | .hbm, ⟨1, _⟩ => ⟨S1x2048x7168, .f32⟩
  | .hbm, ⟨2, _⟩ => ⟨S512x2048, .f32⟩
  | .hbm, ⟨3, _⟩ => ⟨S512x2048, .bf16⟩
  | .hbm, ⟨4, _⟩ => ⟨S1x2048x7168, .bf16⟩
  | .hbm, ⟨5, _⟩ => ⟨S512x1024, .f32⟩
  | .local _ .vmem, ⟨0, _⟩ => ⟨S512x2048, .bf16⟩
  | .local _ .vmem, ⟨1, _⟩ => ⟨S1x2048x1024, .bf16⟩
  | .local _ .vmem, ⟨2, _⟩ => ⟨S512x1024, .f32⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference3Ideal.lean ====
abbrev S128x4x2048 : Shape := ⟨3, ![128, 4, 2048]⟩
abbrev S1x2048x7168 : Shape := ⟨3, ![1, 2048, 7168]⟩
abbrev S2048x7168 : Shape := ⟨2, ![2048, 7168]⟩
abbrev S128x4x7168 : Shape := ⟨3, ![128, 4, 7168]⟩
abbrev S128x4x1024 : Shape := ⟨3, ![128, 4, 1024]⟩
abbrev S512x1024 : Shape := ⟨2, ![512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S1x2048x7168, .f32⟩
  | .hbm, ⟨2, _⟩ => ⟨S2048x7168, .f32⟩
  | .hbm, ⟨3, _⟩ => ⟨S128x4x7168, .f32⟩
  | .hbm, ⟨4, _⟩ => ⟨S128x4x1024, .f32⟩
  | .hbm, ⟨5, _⟩ => ⟨S128x4x1024, .f32⟩
  | .hbm, ⟨6, _⟩ => ⟨S128x4x1024, .f32⟩
  | .hbm, ⟨7, _⟩ => ⟨S128x4x1024, .f32⟩
  | .hbm, ⟨8, _⟩ => ⟨S128x4x1024, .f32⟩
  | .hbm, ⟨9, _⟩ => ⟨S128x4x1024, .f32⟩
  | .hbm, ⟨10, _⟩ => ⟨S128x4x1024, .f32⟩
  | .hbm, ⟨11, _⟩ => ⟨S512x1024, .f32⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel4.lean ====
abbrev S128x4x2048 : Shape := ⟨3, ![128, 4, 2048]⟩
abbrev S1x2048x7168 : Shape := ⟨3, ![1, 2048, 7168]⟩
abbrev S512x2048 : Shape := ⟨2, ![512, 2048]⟩
abbrev S512x1024 : Shape := ⟨2, ![512, 1024]⟩
abbrev S1x2048x1024 : Shape := ⟨3, ![1, 2048, 1024]⟩
abbrev S2048x1024 : Shape := ⟨2, ![2048, 1024]⟩

abbrev nBuf : Space → Nat
  | .hbm => 6
  | .vmem => 3
  | .smem => 0
  | _ => 0

abbrev bufTy : (tb : Table) → Fin (tcTables nBuf tb) → BufTy
  | .hbm, ⟨0, _⟩ => ⟨S128x4x2048, .f32⟩
  | .hbm, ⟨1, _⟩ => ⟨S1x2048x7168, .f32⟩
  | .hbm, ⟨2, _⟩ => ⟨S512x2048, .f32⟩
  | .hbm, ⟨3, _⟩ => ⟨S512x2048, .bf16⟩
  | .hbm, ⟨4, _⟩ => ⟨S1x2048x7168, .bf16⟩
  | .hbm, ⟨5, _⟩ => ⟨S512x1024, .f32⟩
  | .local _ .vmem, ⟨0, _⟩ => ⟨S512x2048, .bf16⟩
  | .local _ .vmem, ⟨1, _⟩ => ⟨S1x2048x1024, .bf16⟩
  | .local _ .vmem, ⟨2, _⟩ => ⟨S512x1024, .f32⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c6_i32 : BitVec 32 := 6#32
  let c0_i32_1 : BitVec 32 := 0#32
  ![c0_i32.toNat, c0_i32_0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference4Ideal.lean ====
abbrev S128x4x2048 : Shape := ⟨3, ![128, 4, 2048]⟩
abbrev S1x2048x7168 : Shape := ⟨3, ![1, 2048, 7168]⟩
abbrev S2048x7168 : Shape := ⟨2, ![2048, 7168]⟩
abbrev S128x4x7168 : Shape := ⟨3, ![128, 4, 7168]⟩
abbrev S128x4x1024 : Shape := ⟨3, ![128, 4, 1024]⟩
abbrev S512x1024 : Shape := ⟨2, ![512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S1x2048x7168, .f32⟩
  | .hbm, ⟨2, _⟩ => ⟨S2048x7168, .f32⟩
  | .hbm, ⟨3, _⟩ => ⟨S128x4x7168, .f32⟩
  | .hbm, ⟨4, _⟩ => ⟨S128x4x1024, .f32⟩
  | .hbm, ⟨5, _⟩ => ⟨S128x4x1024, .f32⟩
  | .hbm, ⟨6, _⟩ => ⟨S128x4x1024, .f32⟩
  | .hbm, ⟨7, _⟩ => ⟨S128x4x1024, .f32⟩
  | .hbm, ⟨8, _⟩ => ⟨S128x4x1024, .f32⟩
  | .hbm, ⟨9, _⟩ => ⟨S128x4x1024, .f32⟩
  | .hbm, ⟨10, _⟩ => ⟨S128x4x1024, .f32⟩
  | .hbm, ⟨11, _⟩ => ⟨S512x1024, .f32⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel5.lean ====
abbrev S8x2048x2048 : Shape := ⟨3, ![8, 2048, 2048]⟩
abbrev S1x2048x7168 : Shape := ⟨3, ![1, 2048, 7168]⟩
abbrev S16384x2048 : Shape := ⟨2, ![16384, 2048]⟩
abbrev S16384x1024 : Shape := ⟨2, ![16384, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8x2048x2048, .f32⟩
  | .hbm, ⟨1, _⟩ => ⟨S1x2048x7168, .f32⟩
  | .hbm, ⟨2, _⟩ => ⟨S16384x2048, .f32⟩
  | .hbm, ⟨3, _⟩ => ⟨S16384x2048, .bf16⟩
  | .hbm, ⟨4, _⟩ => ⟨S1x2048x7168, .bf16⟩
  | .hbm, ⟨5, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1024x1024, .f32⟩
  | .local _ .vmem, ⟨4, _⟩ => ⟨S1024x1024, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8x2048x2048 : Shape := ⟨3, ![8, 2048, 2048]⟩
abbrev S1x2048x7168 : Shape := ⟨3, ![1, 2048, 7168]⟩
abbrev S2048x7168 : Shape := ⟨2, ![2048, 7168]⟩
abbrev S8x2048x7168 : Shape := ⟨3, ![8, 2048, 7168]⟩
abbrev S8x2048x1024 : Shape := ⟨3, ![8, 2048, 1024]⟩
abbrev S_ : Shape := ⟨0, ![]⟩
abbrev S16384x1024 : Shape := ⟨2, ![16384, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048x7168, .f32⟩
  | .hbm, ⟨2, _⟩ => ⟨S2048x7168, .f32⟩
  | .hbm, ⟨3, _⟩ => ⟨S8x2048x7168, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S16384x1024, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel6.lean ====
abbrev S8x2048x2048 : Shape := ⟨3, ![8, 2048, 2048]⟩
abbrev S1x2048x7168 : Shape := ⟨3, ![1, 2048, 7168]⟩
abbrev S2x1024 : Shape := ⟨2, ![2, 1024]⟩
abbrev S_ : Shape := ⟨0, ![]⟩
abbrev S1024 : Shape := ⟨1, ![1024]⟩
abbrev S1x1024 : Shape := ⟨2, ![1, 1024]⟩
abbrev S16384x2048 : Shape := ⟨2, ![16384, 2048]⟩
abbrev S16384x1024 : Shape := ⟨2, ![16384, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 27
  | .vmem => 6
  | .smem => 0
  | _ => 0

abbrev bufTy : (tb : Table) → Fin (tcTables nBuf tb) → BufTy
  | .hbm, ⟨0, _⟩ => ⟨S8x2048x2048, .f32⟩
  | .hbm, ⟨1, _⟩ => ⟨S1x2048x7168, .f32⟩
  | .hbm, ⟨2, _⟩ => ⟨S2x1024, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S2x1024, .f32⟩
  | .hbm, ⟨16, _⟩ => ⟨S2x1024, .f32⟩
  | .hbm, ⟨17, _⟩ => ⟨S_, .f32⟩
  | .hbm, ⟨18, _⟩ => ⟨S_, .f32⟩
  | .hbm, ⟨19, _⟩ => ⟨S2x1024, .f32⟩
  | .hbm, ⟨20, _⟩ => ⟨S16384x2048, .f32⟩
  | .hbm, ⟨21, _⟩ => ⟨S16384x2048, .bf16⟩
  | .hbm, ⟨22, _⟩ => ⟨S1x2048x7168, .bf16⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8x2048x2048 : Shape := ⟨3, ![8, 2048, 2048]⟩
abbrev S1x2048x7168 : Shape := ⟨3, ![1, 2048, 7168]⟩
abbrev S2x1024 : Shape := ⟨2, ![2, 1024]⟩
abbrev S_ : Shape := ⟨0, ![]⟩
abbrev S1024 : Shape := ⟨1, ![1024]⟩
abbrev S1x1024 : Shape := ⟨2, ![1, 1024]⟩
abbrev S2048x7168 : Shape := ⟨2, ![2048, 7168]⟩
abbrev S8x2048x7168 : Shape := ⟨3, ![8, 2048, 7168]⟩
abbrev S8x2048x1024 : Shape := ⟨3, ![8, 2048, 1024]⟩
abbrev S1x1x1024 : Shape := ⟨3, ![1, 1, 1024]⟩
abbrev S16384x1024 : Shape := ⟨2, ![16384, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048x7168, .f32⟩
  | .hbm, ⟨2, _⟩ => ⟨S2x1024, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S2x1024, .f32⟩
  | .hbm, ⟨16, _⟩ => ⟨S2x1024, .f32⟩
  | .hbm, ⟨17, _⟩ => ⟨S_, .f32⟩
  | .hbm, ⟨18, _⟩ => ⟨S_, .f32⟩
  | .hbm, ⟨19, _⟩ => ⟨S2x1024, .f32⟩
  | .hbm, ⟨20, _⟩ => ⟨S1x1024, .f32⟩
  | .hbm, ⟨21, _⟩ => ⟨S1024, .f32⟩
  | .hbm, ⟨22, _⟩ => ⟨S2048x7168, .f32⟩
  | .hbm, ⟨23, _⟩ => ⟨S8x2048x7168, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048x1024, .f32⟩
  | .hbm, ⟨38, _⟩ => ⟨S8x2048x1024, .f32⟩
  | .hbm, ⟨39, _⟩ => ⟨S_, .f32⟩
  | .hbm, ⟨40, _⟩ => ⟨S8x2048x1024, .f32⟩
  | .hbm, ⟨41, _⟩ => ⟨S8x2048x1024, .f32⟩
  | .hbm, ⟨42, _⟩ => ⟨S1x1x1024, .f32⟩
  | .hbm, ⟨43, _⟩ => ⟨S8x2048x1024, .f32⟩
  | .hbm, ⟨44, _⟩ => ⟨S8x2048x1024, .f32⟩
  | .hbm, ⟨45, _⟩ => ⟨S1x1x1024, .f32⟩
  | .hbm, ⟨46, _⟩ => ⟨S8x2048x1024, .f32⟩
  | .hbm, ⟨47, _⟩ => ⟨S8x2048x1024, .f32⟩
  | .hbm, ⟨48, _⟩ => ⟨S16384x1024, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel7.lean ====
abbrev S8x2048x2048 : Shape := ⟨3, ![8, 2048, 2048]⟩
abbrev S1x2048x7168 : Shape := ⟨3, ![1, 2048, 7168]⟩
abbrev S16384x2048 : Shape := ⟨2, ![16384, 2048]⟩
abbrev S16384x1024 : Shape := ⟨2, ![16384, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8x2048x2048, .f32⟩
  | .hbm, ⟨1, _⟩ => ⟨S1x2048x7168, .f32⟩
  | .hbm, ⟨2, _⟩ => ⟨S16384x2048, .f32⟩
  | .hbm, ⟨3, _⟩ => ⟨S16384x2048, .bf16⟩
  | .hbm, ⟨4, _⟩ => ⟨S1x2048x7168, .bf16⟩
  | .hbm, ⟨5, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1024x1024, .bf16⟩
  | .local _ .vmem, ⟨4, _⟩ => ⟨S1024x1024, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8x2048x2048 : Shape := ⟨3, ![8, 2048, 2048]⟩
abbrev S1x2048x7168 : Shape := ⟨3, ![1, 2048, 7168]⟩
abbrev S2048x7168 : Shape := ⟨2, ![2048, 7168]⟩
abbrev S8x2048x7168 : Shape := ⟨3, ![8, 2048, 7168]⟩
abbrev S8x2048x1024 : Shape := ⟨3, ![8, 2048, 1024]⟩
abbrev S16384x1024 : Shape := ⟨2, ![16384, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048x7168, .f32⟩
  | .hbm, ⟨2, _⟩ => ⟨S2048x7168, .f32⟩
  | .hbm, ⟨3, _⟩ => ⟨S8x2048x7168, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S16384x1024, .f32⟩
  | .hbm, ⟨12, _⟩ => ⟨S16384x1024, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel8.lean ====
abbrev S8x2048x2048 : Shape := ⟨3, ![8, 2048, 2048]⟩
abbrev S1x2048x7168 : Shape := ⟨3, ![1, 2048, 7168]⟩
abbrev S16384x2048 : Shape := ⟨2, ![16384, 2048]⟩
abbrev S16384x1024 : Shape := ⟨2, ![16384, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8x2048x2048, .f32⟩
  | .hbm, ⟨1, _⟩ => ⟨S1x2048x7168, .f32⟩
  | .hbm, ⟨2, _⟩ => ⟨S16384x2048, .f32⟩
  | .hbm, ⟨3, _⟩ => ⟨S16384x2048, .bf16⟩
  | .hbm, ⟨4, _⟩ => ⟨S1x2048x7168, .bf16⟩
  | .hbm, ⟨5, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1024x1024, .f32⟩
  | .local _ .vmem, ⟨4, _⟩ => ⟨S1024x1024, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8x2048x2048 : Shape := ⟨3, ![8, 2048, 2048]⟩
abbrev S1x2048x7168 : Shape := ⟨3, ![1, 2048, 7168]⟩
abbrev S2048x7168 : Shape := ⟨2, ![2048, 7168]⟩
abbrev S8x2048x7168 : Shape := ⟨3, ![8, 2048, 7168]⟩
abbrev S8x2048x1024 : Shape := ⟨3, ![8, 2048, 1024]⟩
abbrev S_ : Shape := ⟨0, ![]⟩
abbrev S16384x1024 : Shape := ⟨2, ![16384, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048x7168, .f32⟩
  | .hbm, ⟨2, _⟩ => ⟨S2048x7168, .f32⟩
  | .hbm, ⟨3, _⟩ => ⟨S8x2048x7168, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S16384x1024, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel9.lean ====
abbrev S8x2048x2048 : Shape := ⟨3, ![8, 2048, 2048]⟩
abbrev S1x2048x7168 : Shape := ⟨3, ![1, 2048, 7168]⟩
abbrev S16384x2048 : Shape := ⟨2, ![16384, 2048]⟩
abbrev S16384x1024 : Shape := ⟨2, ![16384, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8x2048x2048, .f32⟩
  | .hbm, ⟨1, _⟩ => ⟨S1x2048x7168, .f32⟩
  | .hbm, ⟨2, _⟩ => ⟨S16384x2048, .f32⟩
  | .hbm, ⟨3, _⟩ => ⟨S16384x2048, .bf16⟩
  | .hbm, ⟨4, _⟩ => ⟨S1x2048x7168, .bf16⟩
  | .hbm, ⟨5, _⟩ => ⟨S16384x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1024x1024, .bf16⟩
  | .local _ .vmem, ⟨4, _⟩ => ⟨S1024x1024, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8x2048x2048 : Shape := ⟨3, ![8, 2048, 2048]⟩
abbrev S1x2048x7168 : Shape := ⟨3, ![1, 2048, 7168]⟩
abbrev S2048x7168 : Shape := ⟨2, ![2048, 7168]⟩
abbrev S8x2048x7168 : Shape := ⟨3, ![8, 2048, 7168]⟩
abbrev S8x2048x1024 : Shape := ⟨3, ![8, 2048, 1024]⟩
abbrev S16384x1024 : Shape := ⟨2, ![16384, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048x7168, .f32⟩
  | .hbm, ⟨2, _⟩ => ⟨S2048x7168, .f32⟩
  | .hbm, ⟨3, _⟩ => ⟨S8x2048x7168, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S16384x1024, .f32⟩
  | .hbm, ⟨12, _⟩ => ⟨S16384x1024, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Proof.Recurrence.lean ====
module
public import Mathlib.Analysis.SpecialFunctions.Log.Basic
public import Mathlib.Analysis.SpecialFunctions.Pow.Real
public import Mathlib.Algebra.BigOperators.Intervals
public import Mathlib.Tactic.Ring

/-!
# The recurrence over tokens, and a chunk of it

The layer's state obeys `S (t + 1) = f t * S t + (1 - f t) * v t`, per key and value coordinate, and its output at token
`t` is the query times the state after `t`. A chunk of any length, computed from the state at its start with decays
written as exponentials of differences of cumulative logarithms, gives the same state and outputs.
-/

@[expose] public section

noncomputable section

namespace Cert.Rec

open Finset

/-- The state after `t` tokens, at a key coordinate `k` and a value coordinate `i`. -/
def S (f v : ℕ → ℕ → ℝ) : ℕ → ℕ → ℕ → ℝ
  | 0, _, _ => 0
  | t + 1, k, i => f t k * S f v t k i + (1 - f t k) * v t i

/-- The output at token `t`. -/
def O (q f v : ℕ → ℕ → ℝ) (t i : ℕ) : ℝ := ∑ k ∈ range 128, q t k * S f v (t + 1) k i

/-- The cumulative logarithm of the gates of the first `t` tokens of a chunk. -/
def B (f : ℕ → ℕ → ℝ) (k t : ℕ) : ℝ := ∑ s ∈ range t, Real.log (f s k)

/-- The running sum of logarithms, one token on. -/
theorem B_succ (f : ℕ → ℕ → ℝ) (k t : ℕ) : B f k (t + 1) = B f k t + Real.log (f t k) := by
  unfold B; rw [sum_range_succ]

/-- The tokens from `T` on. -/
def sh (T : ℕ) (f : ℕ → ℕ → ℝ) : ℕ → ℕ → ℝ := fun t k => f (T + t) k

/-- The state after `C` tokens of a chunk that starts at token `T`, from the state at `T`. -/
theorem S_chunk (f v : ℕ → ℕ → ℝ) (hf : ∀ t k, 0 < f t k) (T C k i : ℕ) :
    S f v (T + C) k i = Real.exp (B (sh T f) k C) * S f v T k i
      + ∑ s ∈ range C, (1 - sh T f s k) * Real.exp (B (sh T f) k C - B (sh T f) k (s + 1)) * sh T v s i := by
  induction C with
  | zero => simp [B]
  | succ C ih =>
    have e : ∀ a, Real.exp (B (sh T f) k (C + 1) - a) = f (T + C) k * Real.exp (B (sh T f) k C - a) := by
      intro a
      rw [B_succ, show B (sh T f) k C + Real.log (sh T f C k) - a = Real.log (f (T + C) k) + (B (sh T f) k C - a) by
        unfold sh; ring, Real.exp_add, Real.exp_log (hf _ _)]
    have e0 := e 0
    rw [sub_zero, sub_zero] at e0
    rw [sum_range_succ, sub_self, Real.exp_zero, e0, show T + (C + 1) = (T + C) + 1 from rfl, S, ih, mul_add, mul_sum]
    simp only [e]
    rw [add_assoc, mul_assoc]
    congr 1
    congr 1
    · apply sum_congr rfl; intro s _; ring
    · unfold sh; ring

/-- The output at token `t` of a chunk that starts at token `T`: the decayed state's part, and the scores times the values. -/
theorem O_chunk (q f v : ℕ → ℕ → ℝ) (hf : ∀ t k, 0 < f t k) (T t i : ℕ) :
    O q f v (T + t) i = (∑ k ∈ range 128, sh T q t k * Real.exp (B (sh T f) k (t + 1)) * S f v T k i)
      + ∑ s ∈ range (t + 1), (∑ k ∈ range 128, sh T q t k * (1 - sh T f s k)
          * Real.exp (B (sh T f) k (t + 1) - B (sh T f) k (s + 1))) * sh T v s i := by
  unfold O
  have h : ∀ k, S f v (T + t + 1) k i = _ := fun k => S_chunk f v hf T (t + 1) k i
  simp only [h, mul_add, sum_add_distrib, mul_sum, sum_mul]
  congr 1
  · apply sum_congr rfl; intro k _; unfold sh; ring
  · rw [sum_comm]; apply sum_congr rfl; intro s _; apply sum_congr rfl; intro k _; unfold sh; ring

end Cert.Rec

end
-- ==== Proof.Data.lean ====
module
public import proofs.«01_k».proof.Proof.Recurrence
public import Idealize.ShloMosaic.Lib.Pointwise
public import Idealize.ShloMosaic.PureOps.Ideal

/-!
# The layer's arrays as real sequences

Queries, gates and values of one batch entry and one head, as sequences of reals over tokens, and the state and output
of the recurrence over them.
-/

@[expose] public section

noncomputable section

namespace Cert.Rec

open Idealize.ShloMosaic

/-- The arrays of queries, gates and values: batch entry, token, column. -/
abbrev Tokens : Type := Vec Ideal (⟨3, ![8, 2048, 1024]⟩ : Shape) .f32

/-- Batch entry `b` of an array, by token and column. -/
def rd (x : Tokens) (b : Fin 8) (t c : ℕ) : ℝ := (x (ix3 b (Fin.ofNat 2048 t) (Fin.ofNat 1024 c))).toReal

/-- Head `h`'s 128 columns. -/
def hd (h : Fin 8) (g : ℕ → ℕ → ℝ) : ℕ → ℕ → ℝ := fun t k => g t (128 * h + k)

/-- Every element of an array is a real. -/
def IsReal (x : Tokens) : Prop := ∀ j, x j = ((x j).toReal : EReal)

/-- Every element of an array is positive. -/
def IsPos (x : Tokens) : Prop := ∀ j, 0 < (x j).toReal

/-- An array of reals at an element. -/
theorem rd_apply {x : Tokens} (hx : IsReal x) (b : Fin 8) (t : Fin 2048) (c : Fin 1024) : x (ix3 b t c) = (rd x b t c : EReal) := by
  unfold rd
  rw [show Fin.ofNat 2048 t = t from Fin.ext (Nat.mod_eq_of_lt t.isLt), show Fin.ofNat 1024 c = c from Fin.ext (Nat.mod_eq_of_lt c.isLt)]
  exact hx _

/-- A positive array is positive at every token and column. -/
theorem rd_pos {x : Tokens} (hx : IsPos x) (b : Fin 8) (t c : ℕ) : 0 < rd x b t c := hx _

/-- So are its heads. -/
theorem hd_pos {x : Tokens} (hx : IsPos x) (b h : Fin 8) (t k : ℕ) : 0 < hd h (rd x b) t k := hx _

/-- The state of head `h` of batch entry `b` after `t` tokens. -/
def St (f v : Tokens) (b h : Fin 8) (t k i : ℕ) : ℝ := S (hd h (rd f b)) (hd h (rd v b)) t k i

/-- The output of head `h` of batch entry `b` at token `t`. -/
def Ot (q f v : Tokens) (b h : Fin 8) (t i : ℕ) : ℝ := O (hd h (rd q b)) (hd h (rd f b)) (hd h (rd v b)) t i

/-- A head's output normalised by its root mean square, scaled and gated, at one element. -/
def gated (o : Fin 128 → EReal) (n g : EReal) (j : Fin 128) : EReal :=
  o j * Ideal.rsqrt (Ideal.div (∑ x, o x * o x) (Ideal.ofBits FTy.f32 0x43000000#32) + Ideal.ofBits FTy.f32 0x358637BD#32) * n * g

end Cert.Rec

end
-- ==== Proof.Bounds.lean ====
module
public import proofs.«01_k».proof.Proof.Data
public import proofs.«01_k».proof.Proof.Gen.Pre_finite_and_positive
public import Idealize.ShloMosaic.Lib.ReduceAll

/-!
# What the precondition says

Queries, gates and values are reals, and the gates are positive.
-/

@[expose] public section

set_option maxRecDepth 16384

noncomputable section

namespace Cert.Rec

open Idealize.ShloMosaic
open Cert.Pre_finite_and_positive

/-- The bits of the infinities and of zero, as extended reals. -/
theorem bits_bounds : Ideal.ofBits .f32 0xFF800000#32 = ⊥ ∧ Ideal.ofBits .f32 0x7F800000#32 = ⊤ ∧ Ideal.ofBits .f32 0x00000000#32 = 0 := by
  simp [Ideal.ofBits, Ideal.ieee]

/-- A conjunction of two bits that is one has both bits one. -/
theorem and_bits : ∀ a b : BitVec 1, IntOp.andi a b = 1#1 → a = 1#1 ∧ b = 1#1 := by decide

/-- A decided proposition whose bit is one holds. -/
theorem of_bit {p : Prop} [Decidable p] (h : BitVec.ofBool (decide p) = 1#1) : p := by
  by_contra hp
  rw [decide_eq_false hp] at h
  exact absurd h (by decide)

/-- The test of one array against two bounds: every element is strictly between them. -/
theorem between (x : FVec Ideal S8x2048x1024 .f32) (lo hi : BitVec 32) (hb : S_.BroadcastsInDim S8x2048x1024 (![] : Fin 0 → Fin S8x2048x1024.rank))
    (hr : S8x2048x1024.ReducesTo [0, 1, 2] S_) (hu : 0 < S_.numel)
    (e : Host.reduce IntOp.andi (andi (cmpf .ogt x (broadcastInDim S8x2048x1024 ![] hb (constant S_ .f32 lo)))
      (cmpf .olt x (broadcastInDim S8x2048x1024 ![] hb (constant S_ .f32 hi)))) (constantI S_ 1 1#1) hr hu (Shape.Idx.first hu) = 1#1)
    (j : S8x2048x1024.Idx) : Ideal.ofBits .f32 lo < x j ∧ x j < Ideal.ofBits .f32 hi := by
  haveI : Subsingleton S_.Idx := ⟨fun a b => funext fun i => i.elim0⟩
  obtain ⟨h1, h2⟩ := and_bits _ _ (Host.reduce_andi_all _ _ hr hu _ e j)
  exact ⟨of_bit h1, of_bit h2⟩

/-- The precondition gives real queries, real positive gates and real values. -/
theorem bounds [Facts] (q f v g : Tokens) (w : Vec Ideal (⟨1, ![128]⟩ : Shape) .f32)
    (h : Cert.Pre_finite_and_positive.fn (F := Ideal) q f v g w = fun _ => 1#1) : IsReal q ∧ IsReal f ∧ IsPos f ∧ IsReal v := by
  have e := congrFun h (Shape.Idx.first Facts.h_S_)
  obtain ⟨e1, ev⟩ := and_bits _ _ e
  obtain ⟨eq, ef⟩ := and_bits _ _ e1
  have hq := between q _ _ _ _ _ eq
  have hf := between f _ _ _ _ _ ef
  have hv := between v _ _ _ _ _ ev
  obtain ⟨nb, nt, nz⟩ := bits_bounds
  have real : ∀ x : EReal, ⊥ < x → x < ⊤ → x = (x.toReal : EReal) := fun x h1 h2 => (EReal.coe_toReal h2.ne h1.ne').symm
  refine ⟨fun j => real _ (nb ▸ (hq j).1) (nt ▸ (hq j).2), ?_, ?_, fun j => real _ (nb ▸ (hv j).1) (nt ▸ (hv j).2)⟩
  · intro j
    have h0 := (hf j).1
    rw [nz] at h0
    exact real _ (lt_of_le_of_lt bot_le h0) (nt ▸ (hf j).2)
  · intro j
    have h0 := (hf j).1
    rw [nz] at h0
    exact EReal.toReal_pos h0 (nt ▸ (hf j).2).ne

end Cert.Rec

end
-- ==== Proof.Spec.lean ====
module
public import proofs.«01_k».proof.Proof.Gen.KernelIdeal.Frame
public import Idealize.ShloMosaic.Lib.Pipeline.Value
public import Idealize.ShloMosaic.Lib.Tactic

/-!
# One chunk of the layer, head by head

The kernel's body writes each of its eight heads and each of its seven levels out. Here the same chain of
operations is one function of the head `h` and one recursion over the level `n` (block width `2 ^ n`): the cumulative
log decay `gcum`, the values at the block starts `gs n` and at the block ends `ge n`, the decayed queries and keys of a
level, the scores collected over the levels, and a head's new state, output and normalised output.
-/

@[expose] public section

set_option maxRecDepth 16384

noncomputable section

namespace Cert.KernelIdeal.Chunk

open Idealize.ShloMosaic Idealize.ShloMosaic.TcCoe Idealize.SL.Sem
open Cert.KernelIdeal Cert.KernelIdeal.Gen

variable {F : FTy → Type} [FloatOps F] [Named F]

/-- Head `h`'s 128 columns lie inside the 1024. -/
theorem slicesHead (h : Fin 8) : S128x1024.Slices ![0, 128 * h.val] S128x128 :=
  ⟨rfl, fun a => by fin_cases a <;> fin_cases h <;> decide⟩

/-- The same of a one-row array. -/
theorem slicesHeadRow (h : Fin 8) : S1x1024.Slices ![0, 128 * h.val] S1x128 :=
  ⟨rfl, fun a => by fin_cases a <;> fin_cases h <;> decide⟩

/-- The row number of every element of a chunk. -/
def rowIdx : IVec S128x1024 32 := iota .tc S128x1024 32 [0] iota_S128x1024_d0_w32

/-- One minus the forget gate. -/
def kk (f : FVec F S128x1024 .f32) : FVec F S128x1024 .f32 :=
  subf (broadcast S128x1024 (Scalar.ofBits .f32 0x3F800000#32)) f

/-- The lower triangle of ones, diagonal included. -/
def tri : FVec F S128x128 .bf16 :=
  truncf .bf16 (select (cmpi .sle (iota .tc S128x128 32 [1] iota_S128x128_d1_w32) (iota .tc S128x128 32 [0] iota_S128x128_d0_w32))
    (broadcast S128x128 (Scalar.ofBits .f32 0x3F800000#32)) (broadcast S128x128 (Scalar.ofBits .f32 0x00000000#32))) bitsLt_bf16_f32

/-- The base-two logarithm of the forget gate, as the logarithm times the named constant. -/
def lg (f : FVec F S128x1024 .f32) : FVec F S128x1024 .f32 :=
  mulf (log f) (broadcast S128x1024 (Named.named κ "inv_ln2" 0x3FB8AA3B#32))

/-- The high half of the logarithm: what the shorter format keeps. -/
def lgHi (f : FVec F S128x1024 .f32) : FVec F S128x1024 .bf16 := truncf .bf16 (lg f) bitsLt_bf16_f32

/-- The low half: what is left, in the shorter format. -/
def lgLo (f : FVec F S128x1024 .f32) : FVec F S128x1024 .bf16 :=
  truncf .bf16 (subf (lg f) (extf .f32 (lgHi f) bitsLt_bf16_f32)) bitsLt_bf16_f32

/-- The triangle times both halves side by side. -/
def gboth (f : FVec F S128x1024 .f32) : FVec F S128x2048 .f32 :=
  matmul dot_S128x128_S128x2048_S128x2048_1_0_0_1_n_n none (tri (F := F))
    (concatenate S128x2048 1 [⟨S128x1024, lgHi f⟩, ⟨S128x1024, lgLo f⟩] concatenates_S128x1024_S128x1024_S128x2048_d1)
    (constant S128x2048 .f32 0x00000000#32)

/-- The cumulative log decay over the rows of the chunk. -/
def gcum (f : FVec F S128x1024 .f32) : FVec F S128x1024 .f32 :=
  addf (extractStridedSlice S128x1024 ![0, 0] (gboth f) slices_S128x2048_o0_0_S128x1024)
    (extractStridedSlice S128x1024 ![0, 1024] (gboth f) slices_S128x2048_o0_1024_S128x1024)

/-- Rows in the first half of their block of `2 * 2 ^ n` rows. -/
def firstHalf (n : Nat) : IVec S128x1024 1 :=
  cmpi .slt (andi rowIdx (broadcast S128x1024 (BitVec.ofNat 32 (2 * 2 ^ n - 1)))) (broadcast S128x1024 (BitVec.ofNat 32 (2 ^ n)))

/-- The cumulative log decay just before each row's block of `2 ^ n` rows, carried from level to level. -/
def gs (G : FVec F S128x1024 .f32) : Nat → FVec F S128x1024 .f32
  | 0 => select (cmpi .eq rowIdx (broadcast S128x1024 0#32)) (broadcast S128x1024 (Scalar.ofBits .f32 0x00000000#32))
      (dynamicRotate 0 1#32 none G rotates_S128x1024_d0)
  | n + 1 => select (firstHalf n) (gs G n) (dynamicRotate 0 (BitVec.ofNat 32 (2 ^ n)) none (gs G n) rotates_S128x1024_d0)

/-- The cumulative log decay at the end of each row's block of `2 ^ n` rows. -/
def ge (G : FVec F S128x1024 .f32) : Nat → FVec F S128x1024 .f32
  | 0 => G
  | n + 1 => select (firstHalf n) (dynamicRotate 0 (BitVec.ofNat 32 (128 - 2 ^ n)) none (ge G n) rotates_S128x1024_d0) (ge G n)

/-- The queries decayed from the start of their block. -/
def qt (q G : FVec F S128x1024 .f32) (n : Nat) : FVec F S128x1024 .bf16 :=
  truncf .bf16 (mulf q (exp2 (subf G (gs G n)))) bitsLt_bf16_f32

/-- The keys decayed to the end of their block. -/
def kt (k G : FVec F S128x1024 .f32) (n : Nat) : FVec F S128x1024 .bf16 :=
  truncf .bf16 (mulf k (exp2 (subf (ge G n) G))) bitsLt_bf16_f32

/-- The level of a pair of rows: the position of the highest bit in which they differ, found by counting leading zeros;
    −1 on and above the diagonal. -/
def lev : IVec S128x128 32 :=
  select (cmpi .sgt (iota .tc S128x128 32 [0] iota_S128x128_d0_w32) (iota .tc S128x128 32 [1] iota_S128x128_d1_w32))
    (subi (broadcast S128x128 31#32)
      (ctlz (xori (iota .tc S128x128 32 [0] iota_S128x128_d0_w32) (iota .tc S128x128 32 [1] iota_S128x128_d1_w32))))
    (broadcast S128x128 4294967295#32)

/-- The scores of head `h` after the first `n` levels. -/
def scores (q k G : FVec F S128x1024 .f32) (h : Fin 8) : Nat → FVec F S128x128 .f32
  | 0 => broadcast S128x128 (Scalar.ofBits .f32 0x00000000#32)
  | n + 1 => select (cmpi .eq lev (broadcast S128x128 (BitVec.ofNat 32 n)))
      (matmul dot_S128x128_S128x128_S128x128_1_1_0_0_n_n none
        (extractStridedSlice S128x128 ![0, 128 * h.val] (qt q G n) (slicesHead h))
        (extractStridedSlice S128x128 ![0, 128 * h.val] (kt k G n) (slicesHead h))
        (constant S128x128 .f32 0x00000000#32))
      (scores q k G h n)

/-- The output of head `h` before normalisation, from the state before the chunk and the chunk's values. -/
def headO (q f : FVec F S128x1024 .f32) (h : Fin 8) (st : Vec F S1x128x128 .f32) (v : Vec F S128x128 .bf16) : FVec F S128x128 .f32 :=
  addf (addf
    (matmul dot_S128x128_S128x128_S128x128_1_1_0_0_n_n none
      (extractStridedSlice S128x128 ![0, 128 * h.val] (truncf .bf16 (mulf q (exp2 (gcum f))) bitsLt_bf16_f32) (slicesHead h))
      (truncf .bf16 (shapeCast S128x128 st shapeCasts_S1x128x128_S128x128) bitsLt_bf16_f32)
      (constant S128x128 .f32 0x00000000#32))
    (matmul dot_S128x128_S128x128_S128x128_1_0_0_1_n_n none
      (truncf .bf16 (scores q (kk f) (gcum f) h 7) bitsLt_bf16_f32)
      (shapeCast S128x128 v shapeCasts_S128x128_S128x128)
      (constant S128x128 .f32 0x00000000#32)))
    (mulf (broadcastTo S128x128 (shapeCast S128x1 (multiReduction .add [1] S128
        (extractStridedSlice S128x128 ![0, 128 * h.val] (mulf q (kk f)) (slicesHead h)) 0x00000000#32 reduces_S128x128_S128 (.inl rfl) rfl)
        shapeCasts_S128_S128x1) broadcasts_S128x1_S128x128)
      (extf .f32 (shapeCast S128x128 v shapeCasts_S128x128_S128x128) bitsLt_bf16_f32))

/-- The state of head `h` (value dimension first) after the chunk. -/
def headS (f : FVec F S128x1024 .f32) (h : Fin 8) (st : Vec F S1x128x128 .f32) (v : Vec F S128x128 .bf16) : FVec F S128x128 .f32 :=
  addf
    (mulf (broadcastTo S128x128 (extractStridedSlice S1x128 ![0, 128 * h.val]
        (exp2 (extractStridedSlice S1x1024 ![0, 0] (ge (gcum f) 7) slices_S128x1024_o0_0_S1x1024)) (slicesHeadRow h))
        broadcasts_S1x128_S128x128)
      (shapeCast S128x128 st shapeCasts_S1x128x128_S128x128))
    (matmul dot_S128x128_S128x128_S128x128_1_0_0_1_n_n none
      (truncf .bf16 (transpose S128x128 [1, 0] (extf .f32 (shapeCast S128x128 v shapeCasts_S128x128_S128x128) bitsLt_bf16_f32)
        transposes_S128x128_p1_0_S128x128) bitsLt_bf16_f32)
      (extractStridedSlice S128x128 ![0, 128 * h.val] (kt (kk f) (gcum f) 7) (slicesHead h))
      (constant S128x128 .f32 0x00000000#32))

/-- A head's output normalised by its root mean square, scaled and gated. -/
def mixOf (o : FVec F S128x128 .f32) (nw : FVec F S1x128 .f32) (gate : Vec F S128x128 .f32) : FVec F S128x128 .bf16 :=
  truncf .bf16 (mulf (mulf (mulf o
      (broadcastTo S128x128 (rsqrt (addf (divf (shapeCast S128x1 (multiReduction .add [1] S128 (mulf o o) 0x00000000#32
          reduces_S128x128_S128 (.inl rfl) rfl) shapeCasts_S128_S128x1)
        (broadcast S128x1 (Scalar.ofBits .f32 0x43000000#32))) (broadcast S128x1 (Scalar.ofBits .f32 0x358637BD#32))))
        broadcasts_S128x1_S128x128))
      (broadcastTo S128x128 nw broadcasts_S1x128_S128x128))
    (shapeCast S128x128 gate shapeCasts_S128x128_S128x128)) bitsLt_bf16_f32

/-- Head `h`'s place in the state: one slab of eight. -/
theorem inbS (h : Fin 8) : ∀ a, (![h.val, 0, 0] : Fin 3 → Nat) a + (![1, 128, 128] : Fin 3 → Nat) a ≤ S8x128x128.size a := by
  intro a; fin_cases a <;> fin_cases h <;> decide

/-- Head `h`'s place in a chunk's block: 128 columns of 1024. -/
theorem inbC (h : Fin 8) : ∀ a, (![0, 128 * h.val] : Fin 2 → Nat) a + (![128, 128] : Fin 2 → Nat) a ≤ S128x1024.size a := by
  intro a; fin_cases a <;> fin_cases h <;> decide

/-- Head `h`'s place in the stored state of one batch entry. -/
theorem inbF (h : Fin 8) : ∀ a, (![0, h.val, 0, 0] : Fin 4 → Nat) a + (![1, 1, 128, 128] : Fin 4 → Nat) a ≤ S1x8x128x128.size a := by
  intro a; fin_cases a <;> fin_cases h <;> decide

/-- Head `h`'s slab of a state. -/
def slab {e : EltTy} (x : Vec F S8x128x128 e) (h : Fin 8) : Vec F S1x128x128 e := View.ld x (Rect.unit ![h.val, 0, 0] ![1, 128, 128] (inbS h))

/-- Head `h`'s slab, read back from a list of stores into the state. -/
def backSlab (m : Memref sig .tc .vmem S8x128x128 .f32) (L : List (View.Piece (Elt F) S8x128x128 .f32)) (h : Fin 8) : Vec F S1x128x128 .f32 :=
  m.view.readCov L (Rect.unit (s := S8x128x128) ![h.val, 0, 0] ![1, 128, 128] (inbS h)).toLoadRect

/-- The one store that clears the state. -/
def zeroStore : List (View.Piece (Elt F) S8x128x128 .f32) :=
  [⟨Rect.unit ![0, 0, 0] S8x128x128.size inb_S8x128x128_S8x128x128_0_0_0, k0_pay9⟩]

/-- The eight stores of a chunk into the state, from the states before it, last head first. -/
def stateStores (f : FVec F S128x1024 .f32) (st : Fin 8 → Vec F S1x128x128 .f32) (v : Fin 8 → Vec F S128x128 .bf16) :
    List (View.Piece (Elt F) S8x128x128 .f32) :=
  List.ofFn fun k : Fin 8 => ⟨Rect.unit ![k.rev.val, 0, 0] ![1, 128, 128] (inbS k.rev),
    shapeCast S1x128x128 (headS f k.rev (st k.rev) (v k.rev)) shapeCasts_S128x128_S1x128x128⟩

/-- The stores into a cleared state of the first `n` heads, each head reading its slab back from the stores before it. -/
def firstStores (m : Memref sig .tc .vmem S8x128x128 .f32) (f : FVec F S128x1024 .f32) (v : Fin 8 → Vec F S128x128 .bf16) :
    Nat → List (View.Piece (Elt F) S8x128x128 .f32)
  | 0 => zeroStore
  | n + 1 => ⟨Rect.unit ![(Fin.ofNat 8 n).val, 0, 0] ![1, 128, 128] (inbS (Fin.ofNat 8 n)),
      shapeCast S1x128x128 (headS f (Fin.ofNat 8 n) (backSlab m (firstStores m f v n) (Fin.ofNat 8 n)) (v (Fin.ofNat 8 n)))
        shapeCasts_S128x128_S1x128x128⟩ :: firstStores m f v n

/-- The eight stores of a chunk into the output block, last head first. -/
def mixStores (q f : FVec F S128x1024 .f32) (st : Fin 8 → Vec F S1x128x128 .f32) (v : Fin 8 → Vec F S128x128 .bf16)
    (nw : FVec F S1x128 .f32) (gate : Fin 8 → Vec F S128x128 .f32) : List (View.Piece (Elt F) S128x1024 .bf16) :=
  List.ofFn fun k : Fin 8 => ⟨Rect.unit ![0, 128 * k.rev.val] ![128, 128] (inbC k.rev),
    mixOf (headO q f k.rev (st k.rev) (v k.rev)) nw (gate k.rev)⟩

/-- The eight stores into the final state, each head's state with the key dimension first, last head first. -/
def finalStores (st : Fin 8 → Vec F S1x128x128 .f32) : List (View.Piece (Elt F) S1x8x128x128 .f32) :=
  List.ofFn fun k : Fin 8 => ⟨Rect.unit ![0, k.rev.val, 0, 0] ![1, 1, 128, 128] (inbF k.rev),
    shapeCast S1x1x128x128 (transpose S128x128 [1, 0] (shapeCast S128x128 (st k.rev) shapeCasts_S1x128x128_S128x128)
      transposes_S128x128_p1_0_S128x128) shapeCasts_S128x128_S1x1x128x128⟩

/-- Head `h`'s columns of a block. -/
def cols {e : EltTy} (x : Vec F S128x1024 e) (h : Fin 8) : Vec F S128x128 e := View.ld x (Rect.unit ![0, 128 * h.val] ![128, 128] (inbC h))

/-- The whole of a block of 128 rows, as a load of it. -/
def whole {e : EltTy} (x : Vec F S128x1024 e) : Vec F S128x1024 e :=
  shapeCast S128x1024 (View.ld x (Rect.unit ![0, 0] S128x1024.size inb_S128x1024_S128x1024_0_0)) shapeCasts_S128x1024_S128x1024

/-- The whole of the one-row scale, as a load of it. -/
def wholeN {e : EltTy} (x : Vec F S1x128 e) : Vec F S1x128 e :=
  shapeCast S1x128 (View.ld x (Rect.unit ![0, 0] S1x128.size inb_S1x128_S1x128_0_0)) shapeCasts_S1x128_S1x128

end Cert.KernelIdeal.Chunk

end
-- ==== Proof.PiecesA.lean ====
module
public import proofs.«01_k».proof.Proof.Spec

/-!
# The stores of one grid step, at the first step of a sequence

Each list of stores the body leaves in a buffer is the list of the eight heads' values of `Spec`, last head first.
-/

@[expose] public section

set_option maxRecDepth 16384

noncomputable section

namespace Cert.KernelIdeal.Chunk

open Idealize.ShloMosaic Idealize.ShloMosaic.TcCoe Idealize.SL.Sem
open Cert.KernelIdeal Cert.KernelIdeal.Gen

variable {F : FTy → Type} [FloatOps F] [Named F]

variable (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .bf16) (harg4 : arg4.IsWhole) (arg5 : Memref sig .tc .vmem S128x1024 .f32) (harg5 : arg5.IsWhole) (arg6 : Memref sig .tc .vmem S1x128 .f32) (harg6 : arg6.IsWhole) (arg7 : Memref sig .tc .vmem S128x1024 .bf16) (harg7 : arg7.IsWhole) (arg8 : Memref sig .tc .vmem S1x8x128x128 .f32) (harg8 : arg8.IsWhole) (arg9 : Memref sig .tc .vmem S8x128x128 .f32) (harg9 : arg9.IsWhole) (hc0 : cond0_0 i) (hc1 : ¬cond0_1 i)
    (x0 : Vec F S128x1024 .f32) (x1 : Vec F S128x1024 .f32) (x2 : Vec F S128x1024 .bf16) (x3 : Vec F S128x1024 .f32) (x4 : Vec F S1x128 .f32)

/-- The stores into the state. -/
theorem piecesA_state :
    (kernelRun0_A c i arg2 harg2 arg3 harg3 arg4 harg4 arg5 harg5 arg6 harg6 arg7 harg7 arg8 harg8 arg9 harg9 hc0 hc1 x0 x1 x2 x3 x4).2.2.1
      = firstStores arg9 (whole (arg3.view.read (Elt F) (harg3.unread x1))) (cols (arg4.view.read (Elt F) (harg4.unread x2))) 8 := by
  unfold kernelRun0_A
  dsimp only
  sl_unfold_words
  rfl

/-- The stores into the layer's output block. -/
theorem piecesA_mix :
    (kernelRun0_A c i arg2 harg2 arg3 harg3 arg4 harg4 arg5 harg5 arg6 harg6 arg7 harg7 arg8 harg8 arg9 harg9 hc0 hc1 x0 x1 x2 x3 x4).1
      = mixStores (whole (arg2.view.read (Elt F) (harg2.unread x0))) (whole (arg3.view.read (Elt F) (harg3.unread x1))) (fun h => backSlab arg9 (firstStores arg9 (whole (arg3.view.read (Elt F) (harg3.unread x1))) (cols (arg4.view.read (Elt F) (harg4.unread x2))) h.val) h) (cols (arg4.view.read (Elt F) (harg4.unread x2)))
          (wholeN (arg6.view.read (Elt F) (harg6.unread x4))) (cols (arg5.view.read (Elt F) (harg5.unread x3))) := by
  unfold kernelRun0_A
  dsimp only
  sl_unfold_words
  rfl

end Cert.KernelIdeal.Chunk

end
-- ==== Proof.PiecesB.lean ====
module
public import proofs.«01_k».proof.Proof.Spec

/-!
# The stores of one grid step, at a step that is neither the first nor the last of its sequence

Each list of stores the body leaves in a buffer is the list of the eight heads' values of `Spec`, last head first.
-/

@[expose] public section

set_option maxRecDepth 16384

noncomputable section

namespace Cert.KernelIdeal.Chunk

open Idealize.ShloMosaic Idealize.ShloMosaic.TcCoe Idealize.SL.Sem
open Cert.KernelIdeal Cert.KernelIdeal.Gen

variable {F : FTy → Type} [FloatOps F] [Named F]

variable (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .bf16) (harg4 : arg4.IsWhole) (arg5 : Memref sig .tc .vmem S128x1024 .f32) (harg5 : arg5.IsWhole) (arg6 : Memref sig .tc .vmem S1x128 .f32) (harg6 : arg6.IsWhole) (arg7 : Memref sig .tc .vmem S128x1024 .bf16) (harg7 : arg7.IsWhole) (arg8 : Memref sig .tc .vmem S1x8x128x128 .f32) (harg8 : arg8.IsWhole) (arg9 : Memref sig .tc .vmem S8x128x128 .f32) (harg9 : arg9.IsWhole) (hc0 : ¬cond0_0 i) (hc1 : ¬cond0_1 i)
    (x0 : Vec F S128x1024 .f32) (x1 : Vec F S128x1024 .f32) (x2 : Vec F S128x1024 .bf16) (x3 : Vec F S128x1024 .f32) (x4 : Vec F S1x128 .f32) (xs0 : Vec F S8x128x128 .f32)

/-- The stores into the state. -/
theorem piecesB_state :
    (kernelRun0_B c i arg2 harg2 arg3 harg3 arg4 harg4 arg5 harg5 arg6 harg6 arg7 harg7 arg8 harg8 arg9 harg9 hc0 hc1 x0 x1 x2 x3 x4 xs0).2.2.1
      = stateStores (whole (arg3.view.read (Elt F) (harg3.unread x1))) (slab (arg9.view.read (Elt F) (harg9.unread xs0))) (cols (arg4.view.read (Elt F) (harg4.unread x2))) := by
  unfold kernelRun0_B
  dsimp only
  sl_unfold_words
  rfl

/-- The stores into the layer's output block. -/
theorem piecesB_mix :
    (kernelRun0_B c i arg2 harg2 arg3 harg3 arg4 harg4 arg5 harg5 arg6 harg6 arg7 harg7 arg8 harg8 arg9 harg9 hc0 hc1 x0 x1 x2 x3 x4 xs0).1
      = mixStores (whole (arg2.view.read (Elt F) (harg2.unread x0))) (whole (arg3.view.read (Elt F) (harg3.unread x1))) (slab (arg9.view.read (Elt F) (harg9.unread xs0))) (cols (arg4.view.read (Elt F) (harg4.unread x2)))
          (wholeN (arg6.view.read (Elt F) (harg6.unread x4))) (cols (arg5.view.read (Elt F) (harg5.unread x3))) := by
  unfold kernelRun0_B
  dsimp only
  sl_unfold_words
  rfl

end Cert.KernelIdeal.Chunk

end
-- ==== Proof.PiecesC.lean ====
module
public import proofs.«01_k».proof.Proof.Spec

/-!
# The stores of one grid step, at the last step of a sequence

Each list of stores the body leaves in a buffer is the list of the eight heads' values of `Spec`, last head first.
-/

@[expose] public section

set_option maxRecDepth 16384

noncomputable section

namespace Cert.KernelIdeal.Chunk

open Idealize.ShloMosaic Idealize.ShloMosaic.TcCoe Idealize.SL.Sem
open Cert.KernelIdeal Cert.KernelIdeal.Gen

variable {F : FTy → Type} [FloatOps F] [Named F]

variable (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .bf16) (harg4 : arg4.IsWhole) (arg5 : Memref sig .tc .vmem S128x1024 .f32) (harg5 : arg5.IsWhole) (arg6 : Memref sig .tc .vmem S1x128 .f32) (harg6 : arg6.IsWhole) (arg7 : Memref sig .tc .vmem S128x1024 .bf16) (harg7 : arg7.IsWhole) (arg8 : Memref sig .tc .vmem S1x8x128x128 .f32) (harg8 : arg8.IsWhole) (arg9 : Memref sig .tc .vmem S8x128x128 .f32) (harg9 : arg9.IsWhole) (hc0 : ¬cond0_0 i) (hc1 : cond0_1 i)
    (x0 : Vec F S128x1024 .f32) (x1 : Vec F S128x1024 .f32) (x2 : Vec F S128x1024 .bf16) (x3 : Vec F S128x1024 .f32) (x4 : Vec F S1x128 .f32) (xs0 : Vec F S8x128x128 .f32)

/-- The stores into the state. -/
theorem piecesC_state :
    (kernelRun0_C c i arg2 harg2 arg3 harg3 arg4 harg4 arg5 harg5 arg6 harg6 arg7 harg7 arg8 harg8 arg9 harg9 hc0 hc1 x0 x1 x2 x3 x4 xs0).2.2.1
      = stateStores (whole (arg3.view.read (Elt F) (harg3.unread x1))) (slab (arg9.view.read (Elt F) (harg9.unread xs0))) (cols (arg4.view.read (Elt F) (harg4.unread x2))) := by
  unfold kernelRun0_C
  dsimp only
  sl_unfold_words
  rfl

/-- The stores into the layer's output block. -/
theorem piecesC_mix :
    (kernelRun0_C c i arg2 harg2 arg3 harg3 arg4 harg4 arg5 harg5 arg6 harg6 arg7 harg7 arg8 harg8 arg9 harg9 hc0 hc1 x0 x1 x2 x3 x4 xs0).1
      = mixStores (whole (arg2.view.read (Elt F) (harg2.unread x0))) (whole (arg3.view.read (Elt F) (harg3.unread x1))) (slab (arg9.view.read (Elt F) (harg9.unread xs0))) (cols (arg4.view.read (Elt F) (harg4.unread x2)))
          (wholeN (arg6.view.read (Elt F) (harg6.unread x4))) (cols (arg5.view.read (Elt F) (harg5.unread x3))) := by
  unfold kernelRun0_C
  dsimp only
  sl_unfold_words
  rfl

/-- The stores into the final state. -/
theorem piecesC_final :
    (kernelRun0_C c i arg2 harg2 arg3 harg3 arg4 harg4 arg5 harg5 arg6 harg6 arg7 harg7 arg8 harg8 arg9 harg9 hc0 hc1 x0 x1 x2 x3 x4 xs0).2.1
      = finalStores (backSlab arg9 (stateStores (whole (arg3.view.read (Elt F) (harg3.unread x1))) (slab (arg9.view.read (Elt F) (harg9.unread xs0))) (cols (arg4.view.read (Elt F) (harg4.unread x2))))) := by
  unfold kernelRun0_C
  dsimp only
  sl_unfold_words
  rfl

end Cert.KernelIdeal.Chunk

end
-- ==== Proof.Levels.lean ====
module
public import proofs.«01_k».proof.Proof.Spec
public import Idealize.ShloMosaic.Lib.Pointwise

/-!
# The integer tables of a chunk

The level of a pair of rows, found by counting leading zeros, and the lower triangle.
-/

@[expose] public section

set_option maxRecDepth 16384

noncomputable section

namespace Cert.KernelIdeal.Chunk

open Idealize.ShloMosaic Idealize.ShloMosaic.TcCoe Idealize.SL.Sem
open Cert.KernelIdeal Cert.KernelIdeal.Gen
/-- The position of the highest bit in which two row numbers differ. -/
def lv (t s : Nat) : Nat := Nat.log2 (t ^^^ s)

/-- The level the kernel computes for a pair of rows. -/
theorem lev_apply (t s : Fin 128) :
    lev (ix2 t s) = if s < t then BitVec.ofNat 32 (lv t s) else 4294967295#32 := by
  have h : ∀ t s : Fin 128, (Scalar.select (IntOp.cmpi .sgt (BitVec.ofNat 32 t.val) (BitVec.ofNat 32 s.val))
      (IntOp.subi 31#32 (IntOp.ctlz (IntOp.xori (BitVec.ofNat 32 t.val) (BitVec.ofNat 32 s.val)))) 4294967295#32)
      = if s < t then BitVec.ofNat 32 (lv t s) else 4294967295#32 := by
    unfold lv
    decide +kernel
  rw [← h]
  pointwise [lev]

/-- The row number at an element. -/
theorem rowIdx_apply (r : Fin 128) (c : Fin 1024) : rowIdx (ix2 r c) = BitVec.ofNat 32 r := by
  pointwise [rowIdx]

/-- The triangle at an element. -/
theorem tri_apply (r k : Fin 128) : tri (F := Ideal) (ix2 r k) = if k ≤ r then 1 else 0 := by
  have h : ∀ r k : Fin 128, IntOp.cmpi .sle (BitVec.ofNat 32 k.val) (BitVec.ofNat 32 r.val) = if k ≤ r then 1#1 else 0#1 := by
    decide +kernel
  pointwise [tri]
  rw [h]
  split
  · rfl
  · rfl

/-- Rows that differ first in bit `n` lie in neighbouring blocks of `2 ^ n` rows, and the level is below 7. -/
theorem lv_spec : ∀ t s : Fin 128, s < t → lv t s < 7 ∧ t.val / 2 ^ lv t s = s.val / 2 ^ lv t s + 1 := by
  unfold lv
  decide +kernel

end Cert.KernelIdeal.Chunk

end
-- ==== Proof.ChunkVal.lean ====
module
public import proofs.«01_k».proof.Proof.Levels
public import proofs.«01_k».proof.Proof.Recurrence

/-!
# The gates of a chunk over the reals

The logarithms, their running sums and the exponentials that the kernel's chunk forms, as real numbers at an element.
-/

@[expose] public section

set_option maxRecDepth 16384

noncomputable section

namespace Cert.KernelIdeal.Chunk

open Idealize.ShloMosaic Idealize.ShloMosaic.TcCoe Idealize.SL.Sem
open Cert.KernelIdeal Cert.KernelIdeal.Gen
open Cert.Rec

/-- The named constant is the inverse of the logarithm of two. -/
theorem inv_ln2 : Named.named (F := Ideal) κ "inv_ln2" (φ := .f32) 0x3FB8AA3B#32 = (((Real.log 2)⁻¹ : ℝ) : EReal) :=
  IdealRules.named_const.ideal_named_scalar _ _ _ _ rfl

/-- Two to a power given in units of `1 / log 2` is the exponential. -/
theorem exp2_scaled (x : ℝ) :
    FloatOps.exp2 (F := Ideal) (φ := .f32) ((x * (Real.log 2)⁻¹ : ℝ) : EReal) = (Real.exp x : EReal) := by
  show Ideal.exp2 ((x * (Real.log 2)⁻¹ : ℝ) : EReal) = (Real.exp x : EReal)
  rw [Ideal.exp2_coe]
  congr 1
  show (2 : ℝ) ^ (x * (Real.log 2)⁻¹) = _
  have h2 : Real.log 2 ≠ 0 := (Real.log_pos one_lt_two).ne'
  rw [Real.rpow_def_of_pos two_pos]
  congr 1
  field_simp

/-- A finite sum of reals, as extended reals. -/
theorem coe_sum {ι : Type} (s : Finset ι) (g : ι → ℝ) : (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- The sum over the rows up to `r`, written with a condition. -/
theorem sum_upto (r : Fin 128) (g : ℕ → ℝ) : (∑ x : Fin 128, if x ≤ r then g x else 0) = ∑ s ∈ Finset.range (r + 1), g s := by
  have h : (∑ x : Fin 128, if x ≤ r then g x else 0) = ∑ x : Fin 128, (fun s : ℕ => if s ≤ r then g s else 0) x := rfl
  rw [h, ← Finset.sum_range (fun s : ℕ => if s ≤ r then g s else 0), ← Finset.sum_filter]
  congr 1
  ext s
  have := r.isLt
  simp only [Finset.mem_filter, Finset.mem_range]
  omega

variable (q f : ℕ → ℕ → ℝ) (X Y : FVec Ideal S128x1024 .f32)

section gates
variable (hY : ∀ (r : Fin 128) (c : Fin 1024), Y (ix2 r c) = (f r c : EReal)) (hf : ∀ r c, 0 < f r c)
include hY hf

/-- The base-two logarithm at an element. -/
theorem lg_apply (r : Fin 128) (c : Fin 1024) : lg Y (ix2 r c) = ((Real.log (f r c) * (Real.log 2)⁻¹ : ℝ) : EReal) := by
  pointwise [lg]
  rw [inv_ln2, hY, Ideal.log_coe, if_neg (not_le.2 (hf _ _)), EReal.coe_mul]

/-- The cumulative logarithm at an element: the low half of the split is zero, the high half is the logarithm. -/
theorem gcum_apply (r : Fin 128) (c : Fin 1024) :
    gcum Y (ix2 r c) = ((B f c (r + 1) * (Real.log 2)⁻¹ : ℝ) : EReal) := by
  pointwise [gcum, gboth, lgHi, lgLo]
  have h0 : ∀ x : Fin 128, lg Y (ix2 x c) - lg Y (ix2 x c) = 0 := fun x => by
    rw [lg_apply f Y hY hf, ← EReal.coe_sub, sub_self, EReal.coe_zero]
  have h1 : ∀ x : Fin 128, tri (F := Ideal) (ix2 r x) * lg Y (ix2 x c)
      = ((if x ≤ r then Real.log (f x c) * (Real.log 2)⁻¹ else 0 : ℝ) : EReal) := fun x => by
    rw [lg_apply f Y hY hf, tri_apply]; split <;> simp
  simp only [h0, h1, mul_zero, Finset.sum_const_zero, add_zero]
  rw [coe_sum, sum_upto r (fun x => Real.log (f x c) * (Real.log 2)⁻¹), B, Finset.sum_mul]

end gates
end Cert.KernelIdeal.Chunk

end
-- ==== Proof.LevelVal.lean ====
module
public import proofs.«01_k».proof.Proof.ChunkVal

/-!
# The levels of a chunk over the reals

At each level of the halving, the score of a pair of tokens whose numbers first differ at that level's bit.
-/

@[expose] public section

set_option maxRecDepth 16384

noncomputable section

namespace Cert.KernelIdeal.Chunk

open Idealize.ShloMosaic Idealize.ShloMosaic.TcCoe Idealize.SL.Sem
open Cert.KernelIdeal Cert.KernelIdeal.Gen
open Cert.Rec

/-- A chunk rotated down by `m` rows, at an element. -/
theorem rot_apply (m : ℕ) (hm : m ≤ 128) (x : FVec Ideal S128x1024 .f32) (r : Fin 128) (c : Fin 1024) :
    dynamicRotate 0 (BitVec.ofNat 32 m) none x rotates_S128x1024_d0 (ix2 r c)
      = x (ix2 ⟨(r.val + 128 - m % 128) % 128, Nat.mod_lt _ (by norm_num)⟩ c) := by
  have e : (BitVec.ofNat 32 m).toNat = m := by rw [BitVec.toNat_ofNat]; exact Nat.mod_eq_of_lt (by omega)
  pointwise
  simp only [e]

/-- Whether a row lies in the first half of its block. -/
theorem firstHalf_apply (n : Fin 7) (r : Fin 128) (c : Fin 1024) :
    firstHalf n.val (ix2 r c) = if r.val % (2 * 2 ^ n.val) < 2 ^ n.val then 1#1 else 0#1 := by
  have h : ∀ (n : Fin 7) (r : Fin 128), IntOp.cmpi .slt (IntOp.andi (BitVec.ofNat 32 r.val) (BitVec.ofNat 32 (2 * 2 ^ n.val - 1)))
      (BitVec.ofNat 32 (2 ^ n.val)) = if r.val % (2 * 2 ^ n.val) < 2 ^ n.val then 1#1 else 0#1 := by decide +kernel
  rw [← h]
  pointwise [firstHalf]
  rw [rowIdx_apply]

variable (q f : ℕ → ℕ → ℝ) (X Y : FVec Ideal S128x1024 .f32)

section gates
variable (hY : ∀ (r : Fin 128) (c : Fin 1024), Y (ix2 r c) = (f r c : EReal)) (hf : ∀ r c, 0 < f r c)
include hY hf

/-- The values at the block starts: the cumulative logarithm up to the start of the row's block. -/
theorem gs_apply (n : ℕ) (hn : n ≤ 6) (r : Fin 128) (c : Fin 1024) :
    gs (gcum Y) n (ix2 r c) = ((B f c (r.val / 2 ^ n * 2 ^ n) * (Real.log 2)⁻¹ : ℝ) : EReal) := by
  induction n generalizing r with
  | zero =>
    unfold gs
    have h : select (cmpi .eq rowIdx (broadcast S128x1024 0#32)) (broadcast S128x1024 (Scalar.ofBits (F := Ideal) .f32 0x00000000#32))
        (dynamicRotate 0 (BitVec.ofNat 32 1) none (gcum Y) rotates_S128x1024_d0) (ix2 r c)
        = Scalar.select (IntOp.cmpi .eq (BitVec.ofNat 32 r.val) 0#32) 0
          (dynamicRotate 0 (BitVec.ofNat 32 1) none (gcum Y) rotates_S128x1024_d0 (ix2 r c)) := by
      rw [← rowIdx_apply r c]
      generalize dynamicRotate 0 (BitVec.ofNat 32 1) none (gcum Y) rotates_S128x1024_d0 = z
      pointwise
    refine h.trans ?_
    rw [rot_apply 1 (by norm_num)]
    have h0 : ∀ r : Fin 128, IntOp.cmpi .eq (BitVec.ofNat 32 r.val) 0#32 = if r.val = 0 then 1#1 else 0#1 := by decide +kernel
    rw [h0, gcum_apply f Y hY hf]
    have hr := r.isLt
    split
    · next h =>
      rw [h]
      show (0 : EReal) = _
      simp [B]
    · next h =>
      show ((B f c ((r.val + 128 - 1 % 128) % 128 + 1) * (Real.log 2)⁻¹ : ℝ) : EReal) = _
      rw [show (r.val + 128 - 1 % 128) % 128 + 1 = r.val / 2 ^ 0 * 2 ^ 0 by simp only [pow_zero]; omega]
  | succ n ih =>
    unfold gs
    have h : ∀ z : FVec Ideal S128x1024 .f32, select (firstHalf n) (gs (gcum Y) n) z (ix2 r c)
        = Scalar.select (firstHalf n (ix2 r c)) (gs (gcum Y) n (ix2 r c)) (z (ix2 r c)) := fun z => by pointwise
    rw [h, rot_apply _ (Nat.le_trans (Nat.pow_le_pow_right (by norm_num) (by omega : n ≤ 7)) (by norm_num)), firstHalf_apply ⟨n, by omega⟩ r c, ih (by omega), ih (by omega)]
    have hr := r.isLt
    have hn' : n ≤ 6 := by omega
    by_cases hh : r.val % (2 * 2 ^ n) < 2 ^ n
    · rw [if_pos hh]
      show ((B f c (r.val / 2 ^ n * 2 ^ n) * (Real.log 2)⁻¹ : ℝ) : EReal) = _
      rw [show r.val / 2 ^ n * 2 ^ n = r.val / 2 ^ (n + 1) * 2 ^ (n + 1) by
        clear h ih; interval_cases n <;> norm_num at hh ⊢ <;> omega]
    · rw [if_neg hh]
      show ((B f c ((r.val + 128 - 2 ^ n % 128) % 128 / 2 ^ n * 2 ^ n) * (Real.log 2)⁻¹ : ℝ) : EReal) = _
      rw [show (r.val + 128 - 2 ^ n % 128) % 128 / 2 ^ n * 2 ^ n = r.val / 2 ^ (n + 1) * 2 ^ (n + 1) by
        clear h ih; interval_cases n <;> norm_num at hh ⊢ <;> omega]

/-- The values at the block ends: the cumulative logarithm up to the end of the row's block. -/
theorem ge_apply (n : ℕ) (hn : n ≤ 7) (r : Fin 128) (c : Fin 1024) :
    ge (gcum Y) n (ix2 r c) = ((B f c ((r.val / 2 ^ n + 1) * 2 ^ n) * (Real.log 2)⁻¹ : ℝ) : EReal) := by
  induction n generalizing r with
  | zero =>
    unfold ge
    rw [gcum_apply f Y hY hf]
    simp
  | succ n ih =>
    unfold ge
    have h : ∀ z : FVec Ideal S128x1024 .f32, select (firstHalf n) z (ge (gcum Y) n) (ix2 r c)
        = Scalar.select (firstHalf n (ix2 r c)) (z (ix2 r c)) (ge (gcum Y) n (ix2 r c)) := fun z => by pointwise
    rw [h, rot_apply _ (Nat.sub_le _ _), firstHalf_apply ⟨n, by omega⟩ r c, ih (by omega), ih (by omega)]
    have hr := r.isLt
    have hn' : n ≤ 6 := by omega
    by_cases hh : r.val % (2 * 2 ^ n) < 2 ^ n
    · rw [if_pos hh]
      show ((B f c (((r.val + 128 - (128 - 2 ^ n) % 128) % 128 / 2 ^ n + 1) * 2 ^ n) * (Real.log 2)⁻¹ : ℝ) : EReal) = _
      rw [show ((r.val + 128 - (128 - 2 ^ n) % 128) % 128 / 2 ^ n + 1) * 2 ^ n = (r.val / 2 ^ (n + 1) + 1) * 2 ^ (n + 1) by
        clear h ih; interval_cases n <;> norm_num at hh ⊢ <;> omega]
    · rw [if_neg hh]
      show ((B f c ((r.val / 2 ^ n + 1) * 2 ^ n) * (Real.log 2)⁻¹ : ℝ) : EReal) = _
      rw [show (r.val / 2 ^ n + 1) * 2 ^ n = (r.val / 2 ^ (n + 1) + 1) * 2 ^ (n + 1) by
        clear h ih; interval_cases n <;> norm_num at hh ⊢ <;> omega]

/-- The keys at an element. -/
theorem kk_apply (r : Fin 128) (c : Fin 1024) : kk Y (ix2 r c) = ((1 - f r c : ℝ) : EReal) := by
  pointwise [kk]
  rw [hY, EReal.coe_sub, EReal.coe_one]

/-- The decayed keys of a level at an element. -/
theorem kt_apply (n : ℕ) (hn : n ≤ 7) (r : Fin 128) (c : Fin 1024) :
    kt (kk Y) (gcum Y) n (ix2 r c)
      = (((1 - f r c) * Real.exp (B f c ((r.val / 2 ^ n + 1) * 2 ^ n) - B f c (r + 1)) : ℝ) : EReal) := by
  pointwise [kt]
  rw [kk_apply f Y hY hf, ge_apply f Y hY hf n hn, gcum_apply f Y hY hf, ← EReal.coe_sub, ← sub_mul, exp2_scaled, EReal.coe_mul]

variable (hX : ∀ (r : Fin 128) (c : Fin 1024), X (ix2 r c) = (q r c : EReal))
include hX

/-- The decayed queries of a level at an element. -/
theorem qt_apply (n : ℕ) (hn : n ≤ 6) (r : Fin 128) (c : Fin 1024) :
    qt X (gcum Y) n (ix2 r c) = ((q r c * Real.exp (B f c (r + 1) - B f c (r.val / 2 ^ n * 2 ^ n)) : ℝ) : EReal) := by
  pointwise [qt]
  rw [hX, gs_apply f Y hY hf n hn, gcum_apply f Y hY hf, ← EReal.coe_sub, ← sub_mul, exp2_scaled, EReal.coe_mul]

/-- The column of head `h`'s coordinate `k`. -/
def col (h : Fin 8) (k : ℕ) : ℕ := 128 * h + k

/-- The score of rows `t` and `s`. -/
def A (q f : ℕ → ℕ → ℝ) (h : Fin 8) (t s : ℕ) : ℝ :=
  ∑ k ∈ Finset.range 128, q t (col h k) * (1 - f s (col h k)) * Real.exp (B f (col h k) (t + 1) - B f (col h k) (s + 1))

/-- The scores collected over the first `n` levels. -/
theorem scores_apply (h : Fin 8) (n : ℕ) (hn : n ≤ 7) (t s : Fin 128) :
    scores X (kk Y) (gcum Y) h n (ix2 t s) = if s < t ∧ lv t s < n then ((A q f h t s : ℝ) : EReal) else 0 := by
  induction n with
  | zero =>
    pointwise [scores]
    simp
  | succ n ih =>
    unfold scores
    have hh : ∀ y z : FVec Ideal S128x128 .f32, select (cmpi .eq lev (broadcast S128x128 (BitVec.ofNat 32 n))) y z (ix2 t s)
        = Scalar.select (IntOp.cmpi .eq (lev (ix2 t s)) (BitVec.ofNat 32 n)) (y (ix2 t s)) (z (ix2 t s)) := fun y z => by pointwise
    rw [hh, ih (by omega), lev_apply]
    by_cases hst : s < t
    · obtain ⟨h7, hd⟩ := lv_spec t s hst
      rw [if_pos hst]
      have hc : IntOp.cmpi .eq (BitVec.ofNat 32 (lv t s)) (BitVec.ofNat 32 n) = if lv t s = n then 1#1 else 0#1 := by
        generalize lv t s = m at h7
        have : ∀ m n : Fin 7, IntOp.cmpi .eq (BitVec.ofNat 32 m.val) (BitVec.ofNat 32 n.val) = if m.val = n.val then 1#1 else 0#1 := by
          decide +kernel
        exact this ⟨m, h7⟩ ⟨n, by omega⟩
      rw [hc]
      by_cases hl : lv t s = n
      · rw [if_pos hl, if_pos (show s < t ∧ lv t s < n + 1 from ⟨hst, by omega⟩)]
        show matmul _ _ _ _ _ (ix2 t s) = _
        pointwise
        have e : ∀ k : Fin 128, qt X (gcum Y) n (ix2 t ⟨128 * h.val + k.val, by omega⟩) * kt (kk Y) (gcum Y) n (ix2 s ⟨128 * h.val + k.val, by omega⟩)
            = (((fun k : ℕ => q t (col h k) * (1 - f s (col h k)) * Real.exp (B f (col h k) (t + 1) - B f (col h k) (s + 1))) k : ℝ) : EReal) := by
          intro k
          rw [qt_apply q f X Y hY hf hX n (by omega), kt_apply f Y hY hf n (by omega), ← EReal.coe_mul]
          congr 1
          show q t (col h k) * Real.exp (B f (col h k) (t + 1) - B f (col h k) (t.val / 2 ^ n * 2 ^ n))
            * ((1 - f s (col h k)) * Real.exp (B f (col h k) ((s.val / 2 ^ n + 1) * 2 ^ n) - B f (col h k) (s + 1))) = _
          show _ = q t (col h k) * (1 - f s (col h k)) * Real.exp (B f (col h k) (t + 1) - B f (col h k) (s + 1))
          rw [← hl, hd, show B f (col h k) (t + 1) - B f (col h k) (s + 1)
            = (B f (col h k) (t + 1) - B f (col h k) ((s.val / 2 ^ lv t s + 1) * 2 ^ lv t s))
              + (B f (col h k) ((s.val / 2 ^ lv t s + 1) * 2 ^ lv t s) - B f (col h k) (s + 1)) by ring, Real.exp_add]
          ring
        simp only [e]
        rw [coe_sum, A, Finset.sum_range]
      · rw [if_neg hl]
        show (if s < t ∧ lv t s < n then ((A q f h t s : ℝ) : EReal) else 0) = _
        have : (s < t ∧ lv t s < n) ↔ (s < t ∧ lv t s < n + 1) := by omega
        simp only [this]
    · rw [if_neg hst]
      have hc : IntOp.cmpi .eq 4294967295#32 (BitVec.ofNat 32 n) = 0#1 := by
        have : ∀ n : Fin 7, IntOp.cmpi .eq 4294967295#32 (BitVec.ofNat 32 n.val) = 0#1 := by decide +kernel
        exact this ⟨n, by omega⟩
      rw [hc]
      show (if s < t ∧ lv t s < n then ((A q f h t s : ℝ) : EReal) else 0) = _
      rw [if_neg (fun h => hst h.1), if_neg (fun h => hst h.1)]

end gates
end Cert.KernelIdeal.Chunk

end
-- ==== Proof.HeadVal.lean ====
module
public import proofs.«01_k».proof.Proof.LevelVal

/-!
# A head's chunk over the reals

The output and the new state of one head's chunk: the recurrence's output and state 128 tokens on.
-/

@[expose] public section

set_option maxRecDepth 16384

noncomputable section

namespace Cert.KernelIdeal.Chunk

open Idealize.ShloMosaic Idealize.ShloMosaic.TcCoe Idealize.SL.Sem
open Cert.KernelIdeal Cert.KernelIdeal.Gen
open Cert.Rec

variable (q f : ℕ → ℕ → ℝ) (X Y : FVec Ideal S128x1024 .f32)
  (hY : ∀ (r : Fin 128) (c : Fin 1024), Y (ix2 r c) = (f r c : EReal)) (hf : ∀ r c, 0 < f r c)
  (hX : ∀ (r : Fin 128) (c : Fin 1024), X (ix2 r c) = (q r c : EReal))
  (σ w : ℕ → ℕ → ℝ) (st : Vec Ideal S1x128x128 .f32) (v : Vec Ideal S128x128 .bf16)
  (hst : ∀ i k : Fin 128, st (ix3 0 i k) = (σ k i : EReal)) (hv : ∀ t i : Fin 128, v (ix2 t i) = (w t i : EReal))

include hY hf hst hv in
/-- The new state of a head at an element. -/
theorem headS_apply (h : Fin 8) (i k : Fin 128) :
    headS Y h st v (ix2 i k) = ((Real.exp (B f (col h k) 128) * σ k i
      + ∑ s ∈ Finset.range 128, (1 - f s (col h k)) * Real.exp (B f (col h k) 128 - B f (col h k) (s + 1)) * w s i : ℝ) : EReal) := by
  pointwise [headS]
  have e : ∀ x : Fin 128, v (ix2 x i) * kt (kk Y) (gcum Y) 7 (ix2 x ⟨128 * h.val + k.val, by omega⟩)
      = (((fun s : ℕ => (1 - f s (col h k)) * Real.exp (B f (col h k) 128 - B f (col h k) (s + 1)) * w s i) x : ℝ) : EReal) := by
    intro x
    have hx := x.isLt
    rw [hv, kt_apply f Y hY hf 7 le_rfl, ← EReal.coe_mul]
    congr 1
    show w x i * ((1 - f x (col h k)) * Real.exp (B f (col h k) ((x.val / 2 ^ 7 + 1) * 2 ^ 7) - B f (col h k) (x + 1))) = _
    rw [show (x.val / 2 ^ 7 + 1) * 2 ^ 7 = 128 by omega]
    ring
  simp only [e]
  rw [coe_sum, ge_apply f Y hY hf 7 le_rfl, exp2_scaled, hst, ← EReal.coe_mul, ← EReal.coe_add, Finset.sum_range]
  rfl

include hY hf hX hst hv in
/-- The output of a head at an element. -/
theorem headO_apply (h : Fin 8) (t i : Fin 128) :
    headO X Y h st v (ix2 t i) = ((∑ k ∈ Finset.range 128, q t (col h k) * Real.exp (B f (col h k) (t + 1)) * σ k i)
      + ∑ s ∈ Finset.range (t + 1), A q f h t s * w s i : ℝ) := by
  pointwise [headO]
  have e1 : ∀ x : Fin 128, X (ix2 t ⟨128 * h.val + x.val, by omega⟩) * FloatOps.exp2 (gcum Y (ix2 t ⟨128 * h.val + x.val, by omega⟩))
      * st (ix3 0 i x) = (((fun k : ℕ => q t (col h k) * Real.exp (B f (col h k) (t + 1)) * σ k i) x : ℝ) : EReal) := by
    intro x
    rw [hX, gcum_apply f Y hY hf, exp2_scaled, hst, ← EReal.coe_mul, ← EReal.coe_mul]
    rfl
  have e2 : ∀ x : Fin 128, scores X (kk Y) (gcum Y) h 7 (ix2 t x) * v (ix2 x i)
      = (((fun s : ℕ => if s < t then A q f h t s * w s i else 0) x : ℝ) : EReal) := by
    intro x
    rw [scores_apply q f X Y hY hf hX h 7 le_rfl, hv]
    show _ = ((if x.val < t.val then A q f h t x * w x i else 0 : ℝ) : EReal)
    by_cases hx : x < t
    · rw [if_pos ⟨hx, (lv_spec t x hx).1⟩, if_pos (show x.val < t.val from hx), EReal.coe_mul]
    · rw [if_neg (fun h => hx h.1), if_neg (show ¬ x.val < t.val from hx), zero_mul, EReal.coe_zero]
  have e3 : ∀ x : Fin 128, X (ix2 t ⟨128 * h.val + x.val, by omega⟩) * kk Y (ix2 t ⟨128 * h.val + x.val, by omega⟩)
      = (((fun k : ℕ => q t (col h k) * (1 - f t (col h k)) * Real.exp (B f (col h k) (t + 1) - B f (col h k) (t + 1))) x : ℝ) : EReal) := by
    intro x
    rw [hX, kk_apply f Y hY hf, ← EReal.coe_mul]
    congr 1
    show _ = q t (col h x) * (1 - f t (col h x)) * Real.exp (B f (col h x) (t + 1) - B f (col h x) (t + 1))
    rw [sub_self, Real.exp_zero, mul_one]
    rfl
  have ht := t.isLt
  simp only [e1, e2, e3]
  rw [coe_sum, coe_sum, coe_sum, hv, ← Finset.sum_range (fun k : ℕ => q t (col h k) * Real.exp (B f (col h k) (t + 1)) * σ k i),
    ← Finset.sum_range (fun s : ℕ => if s < t then A q f h t s * w s i else 0),
    ← Finset.sum_range (fun k : ℕ => q t (col h k) * (1 - f t (col h k)) * Real.exp (B f (col h k) (t + 1) - B f (col h k) (t + 1))),
    ← EReal.coe_mul, ← EReal.coe_add, ← EReal.coe_add, Finset.sum_range_succ (fun s => A q f h t s * w s i) t, ← add_assoc]
  congr 3
  rw [← Finset.sum_filter]
  congr 1
  ext s
  simp only [Finset.mem_filter, Finset.mem_range]
  omega

end Cert.KernelIdeal.Chunk

end
-- ==== Proof.Stores.lean ====
module
public import proofs.«01_k».proof.Proof.HeadVal
public import Idealize.ShloMosaic.Lib.Pipeline.ValueKit.Tiles

/-!
# The stores of a step, read at an element

What the lists of stores of `Spec` leave at an element: the value of the one head whose rectangle holds it.
-/

@[expose] public section

set_option maxRecDepth 16384

noncomputable section

namespace Cert.KernelIdeal.Chunk

open Idealize.ShloMosaic Idealize.ShloMosaic.TcCoe Idealize.SL.Sem
open Cert.KernelIdeal Cert.KernelIdeal.Gen

variable {F : FTy → Type} [FloatOps F] [Named F]

/-- The state left by a chunk's stores, at an element. -/
theorem canon_stateStores (f : FVec F S128x1024 .f32) (st : Fin 8 → Vec F S1x128x128 .f32) (v : Fin 8 → Vec F S128x128 .bf16)
    (h : Fin 8) (i j : Fin 128) :
    View.canon (stateStores f st v) (ix3 h i j) = headS f h (st h) (v h) (ix2 i j) := by
  unfold stateStores
  refine View.canon_ofFn_unit_eq_of_forall (Val := Elt F) (S := S8x128x128) (e := .f32) (fun k => ![k.rev.val, 0, 0]) ![1, 128, 128] (fun k => inbS k.rev)
    (fun k => shapeCast S1x128x128 (headS f k.rev (st k.rev) (v k.rev)) shapeCasts_S128x128_S1x128x128) _ _ ?_ ?_
  · refine ⟨h.rev, fun a => ?_⟩
    have := i.isLt; have := j.isLt
    rw [Fin.rev_rev]
    fin_cases a <;> simp <;> omega
  · intro k x hx
    have h0 := hx 0; have h1 := hx 1; have h2 := hx 2
    clear hx
    idx_vars x
    show shapeCast S1x128x128 (headS f k.rev (st k.rev) (v k.rev)) shapeCasts_S128x128_S1x128x128 (ix3 x0 x1 x2) = _
    generalize k.rev = k' at h0 h1 h2 ⊢
    have e0 : h.val = k'.val + x0.val := h0
    have e1 : i.val = 0 + x1.val := h1
    have e2 : j.val = 0 + x2.val := h2
    have b0 : x0.val < 1 := x0.isLt
    obtain rfl : k' = h := Fin.ext (by omega)
    obtain rfl : x1 = i := Fin.ext (by omega)
    obtain rfl : x2 = j := Fin.ext (by omega)
    pointwise

/-- The output block left by a chunk's stores, at an element. -/
theorem canon_mixStores (q f : FVec F S128x1024 .f32) (st : Fin 8 → Vec F S1x128x128 .f32) (v : Fin 8 → Vec F S128x128 .bf16)
    (nw : FVec F S1x128 .f32) (gate : Fin 8 → Vec F S128x128 .f32) (h : Fin 8) (r i : Fin 128) :
    View.canon (mixStores q f st v nw gate) (ix2 r ⟨128 * h.val + i.val, by omega⟩)
      = mixOf (headO q f h (st h) (v h)) nw (gate h) (ix2 r i) := by
  unfold mixStores
  refine View.canon_ofFn_unit_eq_of_forall (Val := Elt F) (S := S128x1024) (e := .bf16) (fun k => ![0, 128 * k.rev.val]) ![128, 128] (fun k => inbC k.rev)
    (fun k => mixOf (headO q f k.rev (st k.rev) (v k.rev)) nw (gate k.rev)) _ _ ?_ ?_
  · refine ⟨h.rev, fun a => ?_⟩
    have := i.isLt; have := r.isLt
    rw [Fin.rev_rev]
    fin_cases a <;> simp <;> omega
  · intro k x hx
    have h0 := hx 0; have h1 := hx 1
    clear hx
    idx_vars x
    show mixOf (headO q f k.rev (st k.rev) (v k.rev)) nw (gate k.rev) (ix2 x0 x1) = _
    generalize k.rev = k' at h0 h1 ⊢
    have e0 : r.val = 0 + x0.val := h0
    have e1 : 128 * h.val + i.val = 128 * k'.val + x1.val := h1
    have b1 : x1.val < 128 := x1.isLt
    have bi : i.val < 128 := i.isLt
    obtain rfl : k' = h := Fin.ext (by omega)
    obtain rfl : x0 = r := Fin.ext (by omega)
    obtain rfl : x1 = i := Fin.ext (by omega)
    rfl

/-- The final state left by the last chunk's stores, at an element. -/
theorem canon_finalStores (st : Fin 8 → Vec F S1x128x128 .f32) (h : Fin 8) (k i : Fin 128) :
    View.canon (finalStores st) (ix4 0 h k i) = st h (ix3 0 i k) := by
  unfold finalStores
  refine View.canon_ofFn_unit_eq_of_forall (Val := Elt F) (S := S1x8x128x128) (e := .f32) (fun k => ![0, k.rev.val, 0, 0]) ![1, 1, 128, 128] (fun k => inbF k.rev)
    (fun k => shapeCast S1x1x128x128 (transpose S128x128 [1, 0] (shapeCast S128x128 (st k.rev) shapeCasts_S1x128x128_S128x128)
      transposes_S128x128_p1_0_S128x128) shapeCasts_S128x128_S1x1x128x128) _ _ ?_ ?_
  · refine ⟨h.rev, fun a => ?_⟩
    have := i.isLt; have := k.isLt
    rw [Fin.rev_rev]
    fin_cases a <;> simp <;> omega
  · intro k' x hx
    have h1 := hx 1; have h2 := hx 2; have h3 := hx 3
    clear hx
    idx_vars x
    show shapeCast S1x1x128x128 (transpose S128x128 [1, 0] (shapeCast S128x128 (st k'.rev) shapeCasts_S1x128x128_S128x128)
      transposes_S128x128_p1_0_S128x128) shapeCasts_S128x128_S1x1x128x128 (ix4 x0 x1 x2 x3) = _
    generalize k'.rev = k' at h1 h2 h3 ⊢
    have e1 : h.val = k'.val + x1.val := h1
    have e2 : k.val = 0 + x2.val := h2
    have e3 : i.val = 0 + x3.val := h3
    have b1 : x1.val < 1 := x1.isLt
    obtain rfl : k' = h := Fin.ext (by omega)
    obtain rfl : x2 = k := Fin.ext (by omega)
    obtain rfl : x3 = i := Fin.ext (by omega)
    pointwise

/-- Before head `h` stores, its slab still holds the cleared state. -/
theorem backSlab_first (m : Memref sig .tc .vmem S8x128x128 .f32) (f : FVec F S128x1024 .f32) (v : Fin 8 → Vec F S128x128 .bf16)
    (h : Fin 8) (n : ℕ) (hn : n ≤ h.val) : backSlab m (firstStores m f v n) h = slab (k0_pay9 (F := F)) h := by
  induction n with
  | zero =>
    unfold backSlab firstStores zeroStore
    rw [View.readCov_eq_canon', View.canon_unit_zero (by funext a; fin_cases a <;> rfl)]
    rfl
  | succ n ih =>
    rw [← ih (by omega)]
    unfold backSlab
    rw [View.readCov_eq_canon', View.readCov_eq_canon']
    funext j
    refine View.canon_cons_of_not_mem _ _ ?_
    intro hm
    have h8 := h.isLt
    have h0 := ((Rect.mem_set_unit (s := S8x128x128) (off := ![(Fin.ofNat 8 n).val, 0, 0]) (size := ![1, 128, 128]) (inb := inbS (Fin.ofNat 8 n))).mp hm 0).2
    have h1 : h.val + 1 * (j 0).val < n % 8 + 1 := h0
    omega

/-- The state left by the first `n` heads' stores into a cleared state, at an element of one of those heads. -/
theorem canon_firstStores (m : Memref sig .tc .vmem S8x128x128 .f32) (f : FVec F S128x1024 .f32) (v : Fin 8 → Vec F S128x128 .bf16)
    (n : Nat) (hn : n ≤ 8) (h : Fin 8) (hh : h.val < n) (i j : Fin 128) :
    View.canon (firstStores m f v n) (ix3 h i j) = headS f h (slab k0_pay9 h) (v h) (ix2 i j) := by
  induction n with
  | zero => omega
  | succ n ih =>
    have hv : (Fin.ofNat 8 n).val = n := Nat.mod_eq_of_lt (by omega)
    by_cases hc : h.val = n
    · obtain rfl : h = Fin.ofNat 8 n := Fin.ext (by omega)
      have hx : (Rect.unit (s := S8x128x128) ![(Fin.ofNat 8 n).val, 0, 0] ![1, 128, 128] (inbS (Fin.ofNat 8 n))).emb (ix3 0 i j)
          = ix3 (Fin.ofNat 8 n) i j := by
        funext a; fin_cases a <;> refine Fin.ext ?_
        · show (Fin.ofNat 8 n).val + 1 * 0 = _; rfl
        · show 0 + 1 * i.val = i.val; omega
        · show 0 + 1 * j.val = j.val; omega
      rw [← hx]
      refine (View.canon_cons_emb (Val := Elt F) (e := .f32) (Rect.unit (s := S8x128x128) ![(Fin.ofNat 8 n).val, 0, 0] ![1, 128, 128] (inbS (Fin.ofNat 8 n)))
        (shapeCast S1x128x128 (headS f (Fin.ofNat 8 n) (backSlab m (firstStores m f v n) (Fin.ofNat 8 n)) (v (Fin.ofNat 8 n)))
          shapeCasts_S128x128_S1x128x128) (firstStores m f v n) (ix3 0 i j)).trans ?_
      rw [backSlab_first m f v (Fin.ofNat 8 n) n (by omega)]
      pointwise
    · rw [← ih (by omega) (by omega)]
      refine View.canon_cons_of_not_mem _ _ ?_
      intro hm
      have h0 := ((Rect.mem_set_unit (s := S8x128x128) (off := ![(Fin.ofNat 8 n).val, 0, 0]) (size := ![1, 128, 128]) (inb := inbS (Fin.ofNat 8 n))).mp hm 0).1
      have h1 : n % 8 ≤ h.val := h0
      have h2 := ((Rect.mem_set_unit (s := S8x128x128) (off := ![(Fin.ofNat 8 n).val, 0, 0]) (size := ![1, 128, 128]) (inb := inbS (Fin.ofNat 8 n))).mp hm 0).2
      have h3 : h.val < n % 8 + 1 := h2
      omega

/-- The slab of a head, read back after a chunk's stores. -/
theorem backSlab_stateStores (m : Memref sig .tc .vmem S8x128x128 .f32) (f : FVec F S128x1024 .f32) (st : Fin 8 → Vec F S1x128x128 .f32)
    (v : Fin 8 → Vec F S128x128 .bf16) (h : Fin 8) (i j : Fin 128) :
    backSlab m (stateStores f st v) h (ix3 0 i j) = headS f h (st h) (v h) (ix2 i j) := by
  unfold backSlab
  rw [View.readCov_eq_canon', ← canon_stateStores]
  refine congrArg _ ?_
  funext a; fin_cases a <;> refine Fin.ext ?_
  · show h.val + 1 * 0 = _; rfl
  · show 0 + 1 * i.val = i.val; omega
  · show 0 + 1 * j.val = j.val; omega

/-- A head's slab of a state, at an element. -/
theorem slab_apply {e : EltTy} (x : Vec F S8x128x128 e) (h : Fin 8) (i j : Fin 128) : slab x h (ix3 0 i j) = x (ix3 h i j) := by
  refine congrArg x ?_
  funext a; fin_cases a <;> refine Fin.ext ?_
  · show h.val + 1 * 0 = _; rfl
  · show 0 + 1 * i.val = i.val; omega
  · show 0 + 1 * j.val = j.val; omega

/-- A head's columns of a block, at an element. -/
theorem cols_apply {e : EltTy} (x : Vec F S128x1024 e) (h : Fin 8) (r i : Fin 128) :
    cols x h (ix2 r i) = x (ix2 r ⟨128 * h.val + i.val, by omega⟩) := by
  refine congrArg x ?_
  funext a; fin_cases a <;> refine Fin.ext ?_
  · show 0 + 1 * r.val = r.val; omega
  · show 128 * h.val + 1 * i.val = 128 * h.val + i.val; omega

/-- A load of a whole block is the block. -/
theorem whole_eq {e : EltTy} (x : Vec F S128x1024 e) : whole x = x := by
  unfold whole
  exact (shapeCast_self (s := S128x1024) _ _).trans (View.ld_unit_zero (by funext a; fin_cases a <;> rfl) _ x)

/-- A load of the whole one-row scale is the scale. -/
theorem wholeN_eq {e : EltTy} (x : Vec F S1x128 e) : wholeN x = x := by
  unfold wholeN
  exact (shapeCast_self (s := S1x128) _ _).trans (View.ld_unit_zero (by funext a; fin_cases a <;> rfl) _ x)

end Cert.KernelIdeal.Chunk

end
-- ==== Proof.Outputs.lean ====
module
public import proofs.«01_k».proof.Proof.PiecesA
public import proofs.«01_k».proof.Proof.PiecesB
public import proofs.«01_k».proof.Proof.PiecesC
public import proofs.«01_k».proof.Proof.Stores
public import proofs.«01_k».proof.Proof.Gen.KernelIdeal.Value

/-!
# What a grid step leaves, at an element

The output block, the state and the final state that a step leaves, each at an element, by the head the element belongs
to: `headO` and `headS` of `Spec` over the step's blocks and the state before it. The first step of a sequence starts
from the cleared state.
-/

@[expose] public section

set_option maxRecDepth 16384

noncomputable section

namespace Cert.KernelIdeal.Chunk

open Idealize.ShloMosaic Idealize.ShloMosaic.TcCoe Idealize.SL.Sem
open Cert.KernelIdeal Cert.KernelIdeal.Gen

variable {F : FTy → Type} [FloatOps F] [Named F]

variable (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .bf16) (harg4 : arg4.IsWhole) (arg5 : Memref sig .tc .vmem S128x1024 .f32) (harg5 : arg5.IsWhole) (arg6 : Memref sig .tc .vmem S1x128 .f32) (harg6 : arg6.IsWhole) (arg7 : Memref sig .tc .vmem S128x1024 .bf16) (harg7 : arg7.IsWhole) (arg8 : Memref sig .tc .vmem S1x8x128x128 .f32) (harg8 : arg8.IsWhole) (arg9 : Memref sig .tc .vmem S8x128x128 .f32) (harg9 : arg9.IsWhole)

/-- The first step's output block. -/
theorem outA_mix (hc0 : cond0_0 i) (hc1 : ¬cond0_1 i) (x0 : Vec F S128x1024 .f32) (x1 : Vec F S128x1024 .f32) (x2 : Vec F S128x1024 .bf16) (x3 : Vec F S128x1024 .f32) (x4 : Vec F S1x128 .f32) (h : Fin 8) (r j : Fin 128) :
    out0_A_5 c i arg2 harg2 arg3 harg3 arg4 harg4 arg5 harg5 arg6 harg6 arg7 harg7 arg8 harg8 arg9 harg9 hc0 hc1 x0 x1 x2 x3 x4 (ix2 r ⟨128 * h.val + j.val, by omega⟩)
      = mixOf (headO x0 x1 h (slab k0_pay9 h) (cols x2 h)) x4 (cols x3 h) (ix2 r j) := by
  unfold out0_A_5
  rw [View.read_writes_junk_eq_canon, piecesA_mix, canon_mixStores]
  rw [Memref.IsWhole.read_unread, Memref.IsWhole.read_unread, Memref.IsWhole.read_unread, Memref.IsWhole.read_unread, Memref.IsWhole.read_unread, whole_eq, whole_eq, wholeN_eq]
  rw [backSlab_first _ _ _ h _ le_rfl]

/-- The first step's state. -/
theorem outA_state (hc0 : cond0_0 i) (hc1 : ¬cond0_1 i) (x0 : Vec F S128x1024 .f32) (x1 : Vec F S128x1024 .f32) (x2 : Vec F S128x1024 .bf16) (x3 : Vec F S128x1024 .f32) (x4 : Vec F S1x128 .f32) (h : Fin 8) (a b : Fin 128) :
    sout0_A_0 c i arg2 harg2 arg3 harg3 arg4 harg4 arg5 harg5 arg6 harg6 arg7 harg7 arg8 harg8 arg9 harg9 hc0 hc1 x0 x1 x2 x3 x4 (ix3 h a b) = headS x1 h (slab k0_pay9 h) (cols x2 h) (ix2 a b) := by
  unfold sout0_A_0
  rw [View.read_writes_junk_eq_canon, piecesA_state, canon_firstStores _ _ _ 8 le_rfl h h.isLt]
  rw [Memref.IsWhole.read_unread, Memref.IsWhole.read_unread, whole_eq]

/-- A middle step's output block. -/
theorem outB_mix (hc0 : ¬cond0_0 i) (hc1 : ¬cond0_1 i) (x0 : Vec F S128x1024 .f32) (x1 : Vec F S128x1024 .f32) (x2 : Vec F S128x1024 .bf16) (x3 : Vec F S128x1024 .f32) (x4 : Vec F S1x128 .f32) (xs0 : Vec F S8x128x128 .f32) (h : Fin 8) (r j : Fin 128) :
    out0_B_5 c i arg2 harg2 arg3 harg3 arg4 harg4 arg5 harg5 arg6 harg6 arg7 harg7 arg8 harg8 arg9 harg9 hc0 hc1 x0 x1 x2 x3 x4 xs0 (ix2 r ⟨128 * h.val + j.val, by omega⟩)
      = mixOf (headO x0 x1 h (slab xs0 h) (cols x2 h)) x4 (cols x3 h) (ix2 r j) := by
  unfold out0_B_5
  rw [View.read_writes_junk_eq_canon, piecesB_mix, canon_mixStores]
  rw [Memref.IsWhole.read_unread, Memref.IsWhole.read_unread, Memref.IsWhole.read_unread, Memref.IsWhole.read_unread, Memref.IsWhole.read_unread, Memref.IsWhole.read_unread, whole_eq, whole_eq, wholeN_eq]

/-- A middle step's state. -/
theorem outB_state (hc0 : ¬cond0_0 i) (hc1 : ¬cond0_1 i) (x0 : Vec F S128x1024 .f32) (x1 : Vec F S128x1024 .f32) (x2 : Vec F S128x1024 .bf16) (x3 : Vec F S128x1024 .f32) (x4 : Vec F S1x128 .f32) (xs0 : Vec F S8x128x128 .f32) (h : Fin 8) (a b : Fin 128) :
    sout0_B_0 c i arg2 harg2 arg3 harg3 arg4 harg4 arg5 harg5 arg6 harg6 arg7 harg7 arg8 harg8 arg9 harg9 hc0 hc1 x0 x1 x2 x3 x4 xs0 (ix3 h a b) = headS x1 h (slab xs0 h) (cols x2 h) (ix2 a b) := by
  unfold sout0_B_0
  rw [View.read_writes_junk_eq_canon, piecesB_state, canon_stateStores]
  rw [Memref.IsWhole.read_unread, Memref.IsWhole.read_unread, Memref.IsWhole.read_unread, whole_eq]

/-- The last step's output block. -/
theorem outC_mix (hc0 : ¬cond0_0 i) (hc1 : cond0_1 i) (x0 : Vec F S128x1024 .f32) (x1 : Vec F S128x1024 .f32) (x2 : Vec F S128x1024 .bf16) (x3 : Vec F S128x1024 .f32) (x4 : Vec F S1x128 .f32) (xs0 : Vec F S8x128x128 .f32) (h : Fin 8) (r j : Fin 128) :
    out0_C_5 c i arg2 harg2 arg3 harg3 arg4 harg4 arg5 harg5 arg6 harg6 arg7 harg7 arg8 harg8 arg9 harg9 hc0 hc1 x0 x1 x2 x3 x4 xs0 (ix2 r ⟨128 * h.val + j.val, by omega⟩)
      = mixOf (headO x0 x1 h (slab xs0 h) (cols x2 h)) x4 (cols x3 h) (ix2 r j) := by
  unfold out0_C_5
  rw [View.read_writes_junk_eq_canon, piecesC_mix, canon_mixStores]
  rw [Memref.IsWhole.read_unread, Memref.IsWhole.read_unread, Memref.IsWhole.read_unread, Memref.IsWhole.read_unread, Memref.IsWhole.read_unread, Memref.IsWhole.read_unread, whole_eq, whole_eq, wholeN_eq]

/-- The last step's state. -/
theorem outC_state (hc0 : ¬cond0_0 i) (hc1 : cond0_1 i) (x0 : Vec F S128x1024 .f32) (x1 : Vec F S128x1024 .f32) (x2 : Vec F S128x1024 .bf16) (x3 : Vec F S128x1024 .f32) (x4 : Vec F S1x128 .f32) (xs0 : Vec F S8x128x128 .f32) (h : Fin 8) (a b : Fin 128) :
    sout0_C_0 c i arg2 harg2 arg3 harg3 arg4 harg4 arg5 harg5 arg6 harg6 arg7 harg7 arg8 harg8 arg9 harg9 hc0 hc1 x0 x1 x2 x3 x4 xs0 (ix3 h a b) = headS x1 h (slab xs0 h) (cols x2 h) (ix2 a b) := by
  unfold sout0_C_0
  rw [View.read_writes_junk_eq_canon, piecesC_state, canon_stateStores]
  rw [Memref.IsWhole.read_unread, Memref.IsWhole.read_unread, Memref.IsWhole.read_unread, whole_eq]

/-- The last step's final state. -/
theorem outC_final (hc0 : ¬cond0_0 i) (hc1 : cond0_1 i) (x0 : Vec F S128x1024 .f32) (x1 : Vec F S128x1024 .f32) (x2 : Vec F S128x1024 .bf16) (x3 : Vec F S128x1024 .f32) (x4 : Vec F S1x128 .f32) (xs0 : Vec F S8x128x128 .f32) (h : Fin 8) (k a : Fin 128) :
    out0_C_6 c i arg2 harg2 arg3 harg3 arg4 harg4 arg5 harg5 arg6 harg6 arg7 harg7 arg8 harg8 arg9 harg9 hc0 hc1 x0 x1 x2 x3 x4 xs0 (ix4 0 h k a) = headS x1 h (slab xs0 h) (cols x2 h) (ix2 a k) := by
  unfold out0_C_6
  rw [View.read_writes_junk_eq_canon, piecesC_final, canon_finalStores, backSlab_stateStores]
  rw [Memref.IsWhole.read_unread, Memref.IsWhole.read_unread, Memref.IsWhole.read_unread, whole_eq]

end Cert.KernelIdeal.Chunk

end
-- ==== Proof.Blocks.lean ====
module
public import proofs.«01_k».proof.Proof.Outputs
public import Idealize.ShloMosaic.Lib.Claim
public import Idealize.ShloMosaic.Lib.Pointwise
public import Idealize.ShloMosaic.Lib.Pipeline.ValueKit.Point

/-!
# The blocks a grid step reads, at an element

Step `t` of the grid is chunk `t % 16` of batch entry `t / 16`: its blocks are 128 consecutive tokens of that entry.
-/

@[expose] public section

set_option maxRecDepth 16384

noncomputable section

namespace Cert.KernelIdeal.Chunk

open Idealize.ShloMosaic Idealize.ShloMosaic.TcCoe Idealize.SL.Sem
open Cert.KernelIdeal Cert.KernelIdeal.Gen

variable (m : (ℓ : Loc nD τ sig) → Buf (Elt Ideal) ℓ)

/-- The block of every input at a step: block `t` of the token rows, and the one block of the scale. -/
theorem blk_idx : ∀ t : Fin cfg0.N, win0_0.index t = ![t.val, 0] ∧ win0_1.index t = ![t.val, 0] ∧ win0_2.index t = ![t.val, 0]
    ∧ win0_3.index t = ![t.val, 0] ∧ win0_4.index t = ![0, 0] := by decide +kernel

/-- The batch entry of a step. -/
def bat (t : Fin cfg0.N) : Fin 8 := ⟨t.val / 16, by have := lt_of_lt_of_eq t.isLt N_0; omega⟩

/-- The token that row `r` of a step's block holds. -/
def tok (t : Fin cfg0.N) (r : Fin 128) : Fin 2048 := ⟨128 * (t.val % 16) + r.val, by omega⟩

/-- The row of the token rows that row `r` of a step's block is. -/
def row (t : Fin cfg0.N) (r : Fin 128) : Fin 16384 := ⟨128 * t.val + r.val, by have := lt_of_lt_of_eq t.isLt N_0; omega⟩

/-- A row of token rows, read in the array the rows are a reshape of. -/
theorem rows_apply {e : EltTy} (x : Vec Ideal S8x2048x1024 e) (t : Fin cfg0.N) (r : Fin 128) (k : Fin 1024) :
    shapeCast S16384x1024 x shapeCasts_S8x2048x1024_S16384x1024 (ix2 (row t r) k) = x (ix3 (bat t) (tok t r) k) := by
  have := lt_of_lt_of_eq t.isLt N_0
  pointwise
  refine congrArg x ?_
  unfold row bat tok
  funext a; fin_cases a <;> refine Fin.ext ?_ <;> simp <;> omega

/-- The queries of a step. -/
theorem blk_q (c : Dev nD) (t : Fin cfg0.N) (r : Fin 128) (k : Fin 1024) :
    iblk m c 0 t (ix2 r k) = m ((c : Thread nD τ).loc main_arg0) (ix3 (bat t) (tok t r) k) := by
  blk_simp [iblk, blk_idx t]
  entry_read
  have e : ((View.whole main_v0).slice (win0_0.rect t)).emb (ix2 r k) = ix2 (row t r) k := by
    unfold row; blk_ext [blk_idx t]
  rw [e]
  exact rows_apply _ t r k

/-- The gates of a step. -/
theorem blk_f (c : Dev nD) (t : Fin cfg0.N) (r : Fin 128) (k : Fin 1024) :
    iblk m c 1 t (ix2 r k) = m ((c : Thread nD τ).loc main_arg1) (ix3 (bat t) (tok t r) k) := by
  blk_simp [iblk, blk_idx t]
  entry_read
  have e : ((View.whole main_v1).slice (win0_1.rect t)).emb (ix2 r k) = ix2 (row t r) k := by
    unfold row; blk_ext [blk_idx t]
  rw [e]
  exact rows_apply _ t r k

/-- The values of a step. -/
theorem blk_v (c : Dev nD) (t : Fin cfg0.N) (r : Fin 128) (k : Fin 1024) :
    iblk m c 2 t (ix2 r k) = m ((c : Thread nD τ).loc main_arg2) (ix3 (bat t) (tok t r) k) := by
  blk_simp [iblk, blk_idx t]
  entry_read
  have e : ((View.whole main_v3).slice (win0_2.rect t)).emb (ix2 r k) = ix2 (row t r) k := by
    unfold row; blk_ext [blk_idx t]
  rw [e]
  exact rows_apply _ t r k

/-- The output gates of a step. -/
theorem blk_g (c : Dev nD) (t : Fin cfg0.N) (r : Fin 128) (k : Fin 1024) :
    iblk m c 3 t (ix2 r k) = m ((c : Thread nD τ).loc main_arg3) (ix3 (bat t) (tok t r) k) := by
  blk_simp [iblk, blk_idx t]
  entry_read
  have e : ((View.whole main_v4).slice (win0_3.rect t)).emb (ix2 r k) = ix2 (row t r) k := by
    unfold row; blk_ext [blk_idx t]
  rw [e]
  exact rows_apply _ t r k

/-- The scale of a step. -/
theorem blk_n (c : Dev nD) (t : Fin cfg0.N) (i : Fin 128) :
    iblk m c 4 t (ix2 0 i) = m ((c : Thread nD τ).loc main_arg4) (ix1 i) := by
  blk_simp [iblk, blk_idx t]
  entry_read
  have e : ((View.whole main_v5).slice (win0_4.rect t)).emb (ix2 0 i) = ix2 0 i := by
    blk_ext [blk_idx t]
  rw [e]
  pointwise

end Cert.KernelIdeal.Chunk

end
-- ==== Proof.Steps.lean ====
module
public import proofs.«01_k».proof.Proof.Outputs

/-!
# A grid step over its blocks

What a step makes of the contents before it: at the first step of a sequence from the cleared state, at any other from the
state before, and at the last one also the final state.
-/

@[expose] public section

set_option maxRecDepth 16384

noncomputable section

namespace Cert.KernelIdeal.Chunk

open Idealize.ShloMosaic Idealize.ShloMosaic.TcCoe Idealize.SL.Sem
open Cert.KernelIdeal Cert.KernelIdeal.Gen Cert.KernelIdeal.Value

variable {F : FTy → Type} [FloatOps F] [Named F]
variable (m : (ℓ : Loc nD τ sig) → Buf (Elt F) ℓ) (c : Dev nD) (t : Fin cfg0.N)

/-- The queries of a step. -/
abbrev bq : FVec F S128x1024 .f32 := iblk m c 0 t
/-- The gates of a step. -/
abbrev bf : FVec F S128x1024 .f32 := iblk m c 1 t
/-- The values of a step. -/
abbrev bv : FVec F S128x1024 .bf16 := iblk m c 2 t
/-- The output gates of a step. -/
abbrev bg : FVec F S128x1024 .f32 := iblk m c 3 t
/-- The scale of a step. -/
abbrev bn : FVec F S1x128 .f32 := iblk m c 4 t
/-- The cleared state. -/
abbrev zero : Vec F S8x128x128 .f32 := k0_pay9

variable (acc : Vec F S128x1024 .bf16 × Vec F S1x8x128x128 .f32 × Vec F S8x128x128 .f32)

/-- The state after a first step. -/
theorem first_state (h0 : t.val % 16 = 0) (h : Fin 8) (a b : Fin 128) :
    (stAt0 m c t.val t.isLt acc).2.2 (ix3 h a b) = headS (bf m c t) h (slab zero h) (cols (bv m c t) h) (ix2 a b) := by
  rw [stAt0_A m c t acc h0 (by omega)]
  dsimp only
  rw [outA_state]

/-- The output block of a first step. -/
theorem first_mix (h0 : t.val % 16 = 0) (h : Fin 8) (r j : Fin 128) :
    (stAt0 m c t.val t.isLt acc).1 (ix2 r ⟨128 * h.val + j.val, by omega⟩)
      = mixOf (headO (bq m c t) (bf m c t) h (slab zero h) (cols (bv m c t) h)) (bn m c t) (cols (bg m c t) h) (ix2 r j) := by
  rw [stAt0_A m c t acc h0 (by omega)]
  dsimp only
  rw [outA_mix]

/-- The state after any other step. -/
theorem later_state (h0 : ¬ t.val % 16 = 0) (h : Fin 8) (a b : Fin 128) :
    (stAt0 m c t.val t.isLt acc).2.2 (ix3 h a b) = headS (bf m c t) h (slab acc.2.2 h) (cols (bv m c t) h) (ix2 a b) := by
  by_cases h1 : t.val % 16 = 15
  · rw [stAt0_C m c t acc h0 h1]
    dsimp only
    rw [outC_state]
  · rw [stAt0_B m c t acc h0 h1]
    dsimp only
    rw [outB_state]

/-- The output block of any other step. -/
theorem later_mix (h0 : ¬ t.val % 16 = 0) (h : Fin 8) (r j : Fin 128) :
    (stAt0 m c t.val t.isLt acc).1 (ix2 r ⟨128 * h.val + j.val, by omega⟩)
      = mixOf (headO (bq m c t) (bf m c t) h (slab acc.2.2 h) (cols (bv m c t) h)) (bn m c t) (cols (bg m c t) h) (ix2 r j) := by
  by_cases h1 : t.val % 16 = 15
  · rw [stAt0_C m c t acc h0 h1]
    dsimp only
    rw [outC_mix]
  · rw [stAt0_B m c t acc h0 h1]
    dsimp only
    rw [outB_mix]

/-- The final state a last step stores. -/
theorem last_final (h1 : t.val % 16 = 15) (h : Fin 8) (k a : Fin 128) :
    (stAt0 m c t.val t.isLt acc).2.1 (ix4 0 h k a) = headS (bf m c t) h (slab acc.2.2 h) (cols (bv m c t) h) (ix2 a k) := by
  rw [stAt0_C m c t acc (by omega) h1]
  dsimp only
  rw [outC_final]

end Cert.KernelIdeal.Chunk

end
-- ==== Proof.KernelVal.lean ====
module
public import proofs.«01_k».proof.Proof.Blocks
public import proofs.«01_k».proof.Proof.Steps
public import proofs.«01_k».proof.Proof.Data

/-!
# The kernel's arrays after the run

By induction over the grid's steps the carried state is the recurrence's state at the end of the step's chunk, so the
output rows are the recurrence's outputs, normalised and gated, and the stored state is the state after the last token.
-/

@[expose] public section

set_option maxRecDepth 16384

noncomputable section

namespace Cert.KernelIdeal.Chunk

open Idealize.ShloMosaic Idealize.ShloMosaic.TcCoe Idealize.SL.Sem
open Cert.KernelIdeal Cert.KernelIdeal.Gen Cert.KernelIdeal.Value
open Cert.Rec

variable (m : (ℓ : Loc nD τ sig) → Buf (Elt Ideal) ℓ) (c : Dev nD)

/-- The queries. -/
abbrev aQ : Tokens := m ((c : Thread nD τ).loc main_arg0)
/-- The gates. -/
abbrev aF : Tokens := m ((c : Thread nD τ).loc main_arg1)
/-- The values. -/
abbrev aV : Tokens := m ((c : Thread nD τ).loc main_arg2)

variable (hq : IsReal (aQ m c)) (hf : IsReal (aF m c)) (hp : IsPos (aF m c)) (hv : IsReal (aV m c))

/-- The first token of a step's chunk. -/
def base (t : Fin cfg0.N) : ℕ := 128 * (t.val % 16)

include hf hp hv in
/-- A head's state after a step, from its state before. -/
theorem step_state (t : Fin cfg0.N) (h : Fin 8) (st : Vec Ideal S1x128x128 .f32)
    (hst : ∀ i k : Fin 128, st (ix3 0 i k) = (St (aF m c) (aV m c) (bat t) h (base t) k i : EReal)) (i k : Fin 128) :
    headS (bf m c t) h st (cols (bv m c t) h) (ix2 i k) = (St (aF m c) (aV m c) (bat t) h (base t + 128) k i : EReal) := by
  rw [headS_apply (sh (base t) (rd (aF m c) (bat t))) (bf m c t)
    (fun r k => (blk_f m c t r k).trans (rd_apply hf _ _ _)) (fun r k => rd_pos hp _ _ _)
    (fun k i => St (aF m c) (aV m c) (bat t) h (base t) k i) (sh (base t) (hd h (rd (aV m c) (bat t)))) st (cols (bv m c t) h) hst
    (fun r i => (cols_apply _ h r i).trans ((blk_v m c t r _).trans (rd_apply hv _ _ _))) h i k]
  congr 1
  exact (S_chunk (hd h (rd (aF m c) (bat t))) (hd h (rd (aV m c) (bat t))) (hd_pos hp _ _) (base t) 128 k i).symm

include hq hf hp hv in
/-- A head's output at a step, from its state before. -/
theorem step_out (t : Fin cfg0.N) (h : Fin 8) (st : Vec Ideal S1x128x128 .f32)
    (hst : ∀ i k : Fin 128, st (ix3 0 i k) = (St (aF m c) (aV m c) (bat t) h (base t) k i : EReal)) (r i : Fin 128) :
    headO (bq m c t) (bf m c t) h st (cols (bv m c t) h) (ix2 r i)
      = (Ot (aQ m c) (aF m c) (aV m c) (bat t) h (base t + r) i : EReal) := by
  rw [headO_apply (sh (base t) (rd (aQ m c) (bat t))) (sh (base t) (rd (aF m c) (bat t))) (bq m c t) (bf m c t)
    (fun r k => (blk_f m c t r k).trans (rd_apply hf _ _ _)) (fun r k => rd_pos hp _ _ _)
    (fun r k => (blk_q m c t r k).trans (rd_apply hq _ _ _))
    (fun k i => St (aF m c) (aV m c) (bat t) h (base t) k i) (sh (base t) (hd h (rd (aV m c) (bat t)))) st (cols (bv m c t) h) hst
    (fun r i => (cols_apply _ h r i).trans ((blk_v m c t r _).trans (rd_apply hv _ _ _))) h r i]
  congr 1
  exact (O_chunk (hd h (rd (aQ m c) (bat t))) (hd h (rd (aF m c) (bat t))) (hd h (rd (aV m c) (bat t))) (hd_pos hp _ _) (base t) r i).symm

/-- A cleared state's slab is zero. -/
theorem slab_zero (h : Fin 8) (i k : Fin 128) : slab (zero (F := Ideal)) h (ix3 0 i k) = 0 := by
  rw [slab_apply]
  show k0_pay9 (F := Ideal) (ix3 h i k) = 0
  pointwise [k0_pay9]

include hf hp hv in
/-- The state before a step other than a first one, from the one before, is the recurrence's. -/
theorem carry (t : Fin cfg0.N) (h0 : ¬ t.val % 16 = 0) (p : Vec Ideal S8x128x128 .f32) (t' : Fin cfg0.N) (ht : t'.val + 1 = t.val)
    (hp' : ∀ (h : Fin 8) (i k : Fin 128), p (ix3 h i k) = (St (aF m c) (aV m c) (bat t') h (base t' + 128) k i : EReal))
    (h : Fin 8) (i k : Fin 128) : slab (F := Ideal) (e := .f32) p h (ix3 0 i k) = (St (aF m c) (aV m c) (bat t) h (base t) k i : EReal) := by
  rw [slab_apply, hp', show bat t' = bat t from Fin.ext (show t'.val / 16 = t.val / 16 by omega),
    show base t' + 128 = base t from by unfold base; omega]

/-- The state before the first step is the recurrence's at no tokens. -/
theorem start (t : Fin cfg0.N) (h0 : t.val % 16 = 0) (h : Fin 8) (i k : Fin 128) :
    slab (zero (F := Ideal)) h (ix3 0 i k) = (St (aF m c) (aV m c) (bat t) h (base t) k i : EReal) := by
  rw [slab_zero, show base t = 0 by unfold base; omega]
  rfl

include hf hp hv in
/-- The carried state after each step. -/
theorem state_at (n : ℕ) (hn : n < cfg0.N) (h : Fin 8) (i k : Fin 128) :
    (outsAt0 m c n hn).2.2 (ix3 h i k) = (St (aF m c) (aV m c) (bat ⟨n, hn⟩) h (base ⟨n, hn⟩ + 128) k i : EReal) := by
  induction n generalizing h i k with
  | zero =>
    rw [outsAt0_zero]
    exact (first_state m c ⟨0, hn⟩ _ (Nat.zero_mod _) h i k).trans
      (step_state m c hf hp hv ⟨0, hn⟩ h _ (start m c ⟨0, hn⟩ (Nat.zero_mod _) h) i k)
  | succ n ih =>
    rw [outsAt0_succ]
    by_cases h0 : (n + 1) % 16 = 0
    · exact (first_state m c ⟨n + 1, hn⟩ _ h0 h i k).trans (step_state m c hf hp hv ⟨n + 1, hn⟩ h _ (start m c ⟨n + 1, hn⟩ h0 h) i k)
    · exact (later_state m c ⟨n + 1, hn⟩ _ h0 h i k).trans (step_state m c hf hp hv ⟨n + 1, hn⟩ h _
        (carry m c hf hp hv ⟨n + 1, hn⟩ h0 (outsAt0 m c n (Nat.lt_of_succ_lt hn)).2.2 ⟨n, Nat.lt_of_succ_lt hn⟩ rfl
          (ih (Nat.lt_of_succ_lt hn)) h) i k)

include hf hp hv in
/-- The final state block at a sequence's last step. -/
theorem final_at (n : ℕ) (hn : n < cfg0.N) (h1 : n % 16 = 15) (h : Fin 8) (k i : Fin 128) :
    (outsAt0 m c n hn).2.1 (ix4 0 h k i) = (St (aF m c) (aV m c) (bat ⟨n, hn⟩) h 2048 k i : EReal) := by
  obtain ⟨n, rfl⟩ : ∃ k, n = k + 1 := ⟨n - 1, by omega⟩
  have h0 : ¬ (n + 1) % 16 = 0 := by omega
  rw [outsAt0_succ]
  refine (last_final m c ⟨n + 1, hn⟩ _ h1 h k i).trans ((step_state m c hf hp hv ⟨n + 1, hn⟩ h _
    (carry m c hf hp hv ⟨n + 1, hn⟩ h0 (outsAt0 m c n (Nat.lt_of_succ_lt hn)).2.2 ⟨n, Nat.lt_of_succ_lt hn⟩ rfl
      (state_at m c hf hp hv n (Nat.lt_of_succ_lt hn)) h) i k).trans ?_)
  rw [show base ⟨n + 1, hn⟩ + 128 = 2048 by show 128 * ((n + 1) % 16) + 128 = 2048; omega]

include hq hf hp hv in
/-- The output block at each step: some array of the recurrence's outputs, normalised and gated. -/
theorem mix_at (n : ℕ) (hn : n < cfg0.N) (h : Fin 8) (r j : Fin 128) :
    ∃ o : FVec Ideal S128x128 .f32, (∀ r i : Fin 128, o (ix2 r i) = (Ot (aQ m c) (aF m c) (aV m c) (bat ⟨n, hn⟩) h (base ⟨n, hn⟩ + r) i : EReal))
      ∧ (outsAt0 m c n hn).1 (ix2 r ⟨128 * h.val + j.val, by omega⟩) = mixOf o (bn m c ⟨n, hn⟩) (cols (bg m c ⟨n, hn⟩) h) (ix2 r j) := by
  cases n with
  | zero =>
    rw [outsAt0_zero]
    exact ⟨_, step_out m c hq hf hp hv ⟨0, hn⟩ h _ (start m c ⟨0, hn⟩ (Nat.zero_mod _) h), first_mix m c ⟨0, hn⟩ _ (Nat.zero_mod _) h r j⟩
  | succ n =>
    rw [outsAt0_succ]
    by_cases h0 : (n + 1) % 16 = 0
    · exact ⟨_, step_out m c hq hf hp hv ⟨n + 1, hn⟩ h _ (start m c ⟨n + 1, hn⟩ h0 h), first_mix m c ⟨n + 1, hn⟩ _ h0 h r j⟩
    · exact ⟨_, step_out m c hq hf hp hv ⟨n + 1, hn⟩ h _
        (carry m c hf hp hv ⟨n + 1, hn⟩ h0 (outsAt0 m c n (Nat.lt_of_succ_lt hn)).2.2 ⟨n, Nat.lt_of_succ_lt hn⟩ rfl
          (state_at m c hf hp hv n (Nat.lt_of_succ_lt hn)) h), later_mix m c ⟨n + 1, hn⟩ _ h0 h r j⟩

end Cert.KernelIdeal.Chunk

end
-- ==== Proof.KernelOut.lean ====
module
public import proofs.«01_k».proof.Proof.KernelVal

/-!
# The kernel's two results, at an element

The layer's output at a batch entry, token, head and value coordinate, and the stored state.
-/

@[expose] public section

set_option maxRecDepth 16384

noncomputable section

namespace Cert.KernelIdeal.Chunk

open Idealize.ShloMosaic Idealize.ShloMosaic.TcCoe Idealize.SL.Sem
open Cert.KernelIdeal Cert.KernelIdeal.Gen Cert.KernelIdeal.Value
open Cert.Rec

/-- The normalised and gated output at an element. -/
theorem mixOf_apply (o : FVec Ideal S128x128 .f32) (nw : FVec Ideal S1x128 .f32) (gate : Vec Ideal S128x128 .f32) (r j : Fin 128) :
    mixOf o nw gate (ix2 r j) = gated (fun x => o (ix2 r x)) (nw (ix2 0 j)) (gate (ix2 r j)) j := by
  pointwise [mixOf]
  rfl

variable (m : (ℓ : Loc nD τ sig) → Buf (Elt Ideal) ℓ) (c : Dev nD)
variable (hq : IsReal (aQ m c)) (hf : IsReal (aF m c)) (hp : IsPos (aF m c)) (hv : IsReal (aV m c))

/-- The stored state, as an array. -/
abbrev outS : Vec Ideal S8x8x128x128 .f32 := G6 m c
/-- The layer's output, as an array. -/
abbrev outM : Vec Ideal S16384x1024 .bf16 := G5 m c

include hf hp hv in
/-- The stored state is the recurrence's state after the last token. -/
theorem outS_apply (b h : Fin 8) (k i : Fin 128) : outS m c (ix4 b h k i) = (St (aF m c) (aV m c) b h 2048 k i : EReal) := by
  have hpt : pt6Of (ix4 b h k i) = 16 * b.val + 15 := by
    show 16 * (1 * (b.val / 1 - 0) + 1 * (h.val / 8 - 0) + 1 * (k.val / 128 - 0) + 1 * (i.val / 128 - 0)) + 15 = _
    omega
  have hl : loc6Of (ix4 b h k i) = ix4 0 h k i := by
    funext a; fin_cases a <;> refine Fin.ext ?_
    · show b.val % 1 = 0; omega
    · show h.val % 8 = h.val; omega
    · show k.val % 128 = k.val; omega
    · show i.val % 128 = i.val; omega
  have hn : pt6Of (ix4 b h k i) < cfg0.N := by rw [hpt, show cfg0.N = 128 from N_0]; omega
  have hb : bat ⟨pt6Of (ix4 b h k i), hn⟩ = b := Fin.ext (by show pt6Of (ix4 b h k i) / 16 = b.val; rw [hpt]; omega)
  show G6 m c (ix4 b h k i) = _
  unfold G6
  rw [dif_pos hn, hl, ← outsAt0_sweep m c _ hn]
  refine (final_at m c hf hp hv _ hn (by rw [hpt]; omega) h k i).trans ?_
  rw [hb]

include hq hf hp hv in
/-- The layer's output is the recurrence's output, normalised, scaled and gated. -/
theorem outM_apply (b : Fin 8) (T : Fin 2048) (h : Fin 8) (j : Fin 128) :
    outM m c (ix2 ⟨2048 * b.val + T.val, by omega⟩ ⟨128 * h.val + j.val, by omega⟩)
      = gated (fun x => (Ot (aQ m c) (aF m c) (aV m c) b h T x : EReal)) (m ((c : Thread nD τ).loc main_arg4) (ix1 j))
          (m ((c : Thread nD τ).loc main_arg3) (ix3 b T ⟨128 * h.val + j.val, by omega⟩)) j := by
  obtain ⟨I, hI⟩ : ∃ I : S16384x1024.Idx, I = ix2 ⟨2048 * b.val + T.val, by omega⟩ ⟨128 * h.val + j.val, by omega⟩ := ⟨_, rfl⟩
  have hpt : pt5Of I = 16 * b.val + T.val / 128 := by
    rw [hI]
    show 1 * ((2048 * b.val + T.val) / 128 - 0) + 1 * ((128 * h.val + j.val) / 1024 - 0) = _
    omega
  obtain ⟨r, hr⟩ : ∃ r : Fin 128, r.val = T.val % 128 := ⟨⟨T.val % 128, by omega⟩, rfl⟩
  have hl : loc5Of I = ix2 r ⟨128 * h.val + j.val, by omega⟩ := by
    rw [hI]
    funext a; fin_cases a <;> refine Fin.ext ?_
    · show (2048 * b.val + T.val) % 128 = r.val; omega
    · show (128 * h.val + j.val) % 1024 = 128 * h.val + j.val; omega
  have hn : pt5Of I < cfg0.N := by rw [hpt, show cfg0.N = 128 from N_0]; omega
  have hb : bat ⟨pt5Of I, hn⟩ = b := Fin.ext (by show pt5Of I / 16 = b.val; rw [hpt]; omega)
  have ht : base ⟨pt5Of I, hn⟩ + r.val = T.val := by show 128 * (pt5Of I % 16) + r.val = T.val; rw [hpt]; omega
  have hk : tok ⟨pt5Of I, hn⟩ r = T := Fin.ext ht
  rw [← hI]
  show G5 m c I = _
  unfold G5
  rw [dif_pos hn, hl, ← outsAt0_sweep m c _ hn]
  obtain ⟨o, ho, e⟩ := mix_at m c hq hf hp hv _ hn h r j
  refine e.trans ?_
  rw [mixOf_apply, cols_apply]
  simp only [ho, hb, ht]
  rw [show bn m c ⟨pt5Of I, hn⟩ (ix2 0 j) = _ from blk_n m c _ j, show bg m c ⟨pt5Of I, hn⟩ _ = _ from blk_g m c _ r _, hb, hk]

end Cert.KernelIdeal.Chunk

end
-- ==== Proof.RefSpec.lean ====
module
public import proofs.«01_k».proof.Proof.Data
public import proofs.«01_k».proof.Proof.Gen.ReferenceIdeal.Run
public import Idealize.ShloMosaic.Lib.Pipeline.ValueKit.Point
public import Idealize.ShloMosaic.Lib.DynamicIndex
public import Idealize.ShloMosaic.Lib.Claim
public import Idealize.ShloMosaic.Lib.Tactic.CleanTypes

/-!
# One trip of the reference's loop, in parts

The parts of the reference's chunk: the chunk sliced from the stacked arrays, the cumulative logarithms of the gates, the
new state, the chunk's outputs, and the outputs put back into the stacked array.
-/

@[expose] public section

set_option maxRecDepth 16384

noncomputable section

namespace Cert.ReferenceIdeal.Chunk

open Idealize.ShloMosaic Idealize.ShloMosaic.TcCoe Idealize.SL.Sem
open Cert.ReferenceIdeal Cert.ReferenceIdeal.Gen Cert.ReferenceIdeal.Value

variable {F : FTy → Type} [FloatOps F]

/-- The start of chunk `n` in a stacked array. -/
def start (n : IVec S_ 32) : Fin 5 → Int :=
  fun k => (((![n, constantI S_ 32 0#32, constantI S_ 32 0#32, constantI S_ 32 0#32, constantI S_ 32 0#32] : Fin 5 → IVec S_ 32)) k (Shape.Idx.first h_S_)).toInt

/-- Chunk `n` of a stacked array. -/
def chunk (x : FVec F S32x8x8x64x128 .f32) (n : IVec S_ 32) : FVec F S8x8x64x128 .f32 :=
  shapeCast S8x8x64x128 (Host.dynamicSlice S1x8x8x64x128 x (start n) sliceFits_S32x8x8x64x128_S1x8x8x64x128) shapeCasts_S1x8x8x64x128_S8x8x64x128

/-- The running sums over a chunk's tokens. -/
def cum (x : FVec F S8x8x64x128 .f32) : FVec F S8x8x64x128 .f32 :=
  Host.reduceWindowAdd ![1, 1, 64, 1] ![1, 1, 1, 1] ![0, 0, 63, 0] ![0, 0, 0, 0] x (broadcastInDim S_ ![] bcast_S_S_ (constant S_ .f32 0x00000000#32))
    reduceWindows_S8x8x64x128_S8x8x64x128_w1s1p0_0_w1s1p0_0_w64s1p63_0_w1s1p0_0 h_S_

/-- The sums at a chunk's last token. -/
def last (b : FVec F S8x8x64x128 .f32) : FVec F S8x8x128 .f32 :=
  shapeCast S8x8x128 (extractStridedSlice S8x8x1x128 ![0, 0, 63, 0] b slices_S8x8x64x128_S8x8x1x128_0_0_63_0) shapeCasts_S8x8x1x128_S8x8x128

/-- The state after a chunk. -/
def newState (b k v : FVec F S8x8x64x128 .f32) (s : FVec F S8x8x128x128 .f32) : FVec F S8x8x128x128 .f32 :=
  addf (mulf (broadcastInDim S8x8x128x128 ![0, 1, 2, 3] bcast_S8x8x128x1_S8x8x128x128_0_1_2_3 (broadcastInDim S8x8x128x1 ![0, 1, 2] bcast_S8x8x128_S8x8x128x1_0_1_2 (Host.exp (last b)))) s)
    (Host.dotGeneral dot_S8x8x64x128_S8x8x64x128_S8x8x128x128_2_2_3_3_01_01 none
      (mulf k (Host.exp (subf (broadcastInDim S8x8x64x128 ![0, 1, 2, 3] bcast_S8x8x1x128_S8x8x64x128_0_1_2_3 (broadcastInDim S8x8x1x128 ![0, 1, 3] bcast_S8x8x128_S8x8x1x128_0_1_3 (last b))) b))) v)

/-- The decay from token `s` to token `t` of a chunk, zero where `s` is after `t`. -/
def decay (b : FVec F S8x8x64x128 .f32) (mask : IVec S64x64 1) : FVec F S8x8x64x64x128 .f32 :=
  Host.exp (select (broadcastInDim S8x8x64x64x128 ![2, 3, 4] bcast_S64x64x1_S8x8x64x64x128_2_3_4 (broadcastInDim S64x64x1 ![0, 1] bcast_S64x64_S64x64x1_0_1 mask))
    (subf (broadcastInDim S8x8x64x64x128 ![0, 1, 2, 3, 4] bcast_S8x8x64x1x128_S8x8x64x64x128_0_1_2_3_4 (broadcastInDim S8x8x64x1x128 ![0, 1, 2, 4] bcast_S8x8x64x128_S8x8x64x1x128_0_1_2_4 b))
      (broadcastInDim S8x8x64x64x128 ![0, 1, 2, 3, 4] bcast_S8x8x1x64x128_S8x8x64x64x128_0_1_2_3_4 (broadcastInDim S8x8x1x64x128 ![0, 1, 3, 4] bcast_S8x8x64x128_S8x8x1x64x128_0_1_3_4 b)))
    (broadcastInDim S8x8x64x64x128 ![] bcast_S_S8x8x64x64x128 (constant S_ .f32 0xFF800000#32)))

/-- The scores of a chunk. -/
def scores (q k b : FVec F S8x8x64x128 .f32) (mask : IVec S64x64 1) : FVec F S8x8x64x64 .f32 :=
  Host.reduceAdd (mulf (mulf
      (broadcastInDim S8x8x64x64x128 ![0, 1, 2, 3, 4] bcast_S8x8x64x1x128_S8x8x64x64x128_0_1_2_3_4 (broadcastInDim S8x8x64x1x128 ![0, 1, 2, 4] bcast_S8x8x64x128_S8x8x64x1x128_0_1_2_4 q))
      (broadcastInDim S8x8x64x64x128 ![0, 1, 2, 3, 4] bcast_S8x8x1x64x128_S8x8x64x64x128_0_1_2_3_4 (broadcastInDim S8x8x1x64x128 ![0, 1, 3, 4] bcast_S8x8x64x128_S8x8x1x64x128_0_1_3_4 k)))
    (decay b mask)) (constant S_ .f32 0x00000000#32) reducesTo_S8x8x64x64x128_S8x8x64x64_d4 h_S_

/-- The outputs of a chunk. -/
def outputs (q k v b : FVec F S8x8x64x128 .f32) (mask : IVec S64x64 1) (s : FVec F S8x8x128x128 .f32) : FVec F S8x8x64x128 .f32 :=
  addf (Host.dotGeneral dot_S8x8x64x128_S8x8x128x128_S8x8x64x128_3_2_2_3_01_01 none (mulf q (Host.exp b)) s)
    (Host.dotGeneral dot_S8x8x64x64_S8x8x64x128_S8x8x64x128_3_2_2_3_01_01 none (scores q k b mask) v)

/-- A chunk's outputs put into the stacked outputs. -/
def put (x : FVec F S32x8x8x64x128 .f32) (o : FVec F S8x8x64x128 .f32) (n : IVec S_ 32) : FVec F S32x8x8x64x128 .f32 :=
  Host.dynamicUpdateSlice x (broadcastInDim S1x8x8x64x128 ![1, 2, 3, 4] bcast_S8x8x64x128_S1x8x8x64x128_1_2_3_4 o) (start n) updateFits_S32x8x8x64x128_S1x8x8x64x128

/-- A carried buffer's contents, as an array. -/
abbrev at0 (V0 : Valuation τ sig (Elt F)) : FVec F S32x8x8x64x128 .f32 := V0 (Proc.devRef .tc main_v19_0)
@[inherit_doc at0] abbrev at1 (V0 : Valuation τ sig (Elt F)) : FVec F S32x8x8x64x128 .f32 := V0 (Proc.devRef .tc main_v19_1)
@[inherit_doc at0] abbrev at2 (V0 : Valuation τ sig (Elt F)) : FVec F S32x8x8x64x128 .f32 := V0 (Proc.devRef .tc main_v19_2)
@[inherit_doc at0] abbrev at3 (V0 : Valuation τ sig (Elt F)) : FVec F S32x8x8x64x128 .f32 := V0 (Proc.devRef .tc main_v19_3)
@[inherit_doc at0] abbrev at4 (V0 : Valuation τ sig (Elt F)) : IVec S64x64 1 := V0 (Proc.devRef .tc main_v19_4)
@[inherit_doc at0] abbrev at5 (V0 : Valuation τ sig (Elt F)) : IVec S_ 32 := V0 (Proc.devRef .tc main_v19_5)
@[inherit_doc at0] abbrev at6 (V0 : Valuation τ sig (Elt F)) : FVec F S8x8x128x128 .f32 := V0 (Proc.devRef .tc main_v19_6)
@[inherit_doc at0] abbrev at7 (V0 : Valuation τ sig (Elt F)) : FVec F S32x8x8x64x128 .f32 := V0 (Proc.devRef .tc main_v19_7)

/-- The counter after a trip. -/
theorem trip5 (V0 : Valuation τ sig (Elt F)) : at5 (STEP V0) = addi (at5 V0) (constantI S_ 32 1#32) := STEP_main_v19_5 V0

/-- The state after a trip. -/
theorem trip6 (V0 : Valuation τ sig (Elt F)) :
    at6 (STEP V0) = newState (cum (chunk (at1 V0) (at5 V0))) (chunk (at2 V0) (at5 V0)) (chunk (at3 V0) (at5 V0)) (at6 V0) := STEP_main_v19_6 V0

/-- The stacked outputs after a trip. -/
theorem trip7 (V0 : Valuation τ sig (Elt F)) :
    at7 (STEP V0) = put (at7 V0) (outputs (chunk (at0 V0) (at5 V0)) (chunk (at2 V0) (at5 V0)) (chunk (at3 V0) (at5 V0))
      (cum (chunk (at1 V0) (at5 V0))) (at4 V0) (at6 V0)) (at5 V0) := STEP_main_v19_7 V0

end Cert.ReferenceIdeal.Chunk

end
-- ==== Proof.RefStep.lean ====
module
public import proofs.«01_k».proof.Proof.RefSpec

/-!
# The reference's chunk, element by element

The slice of a chunk, the put of its outputs, and the running sums, at an element.
-/

@[expose] public section

set_option maxRecDepth 16384

noncomputable section

namespace Cert.ReferenceIdeal.Chunk

open Idealize.ShloMosaic Idealize.ShloMosaic.TcCoe Idealize.SL.Sem
open Cert.ReferenceIdeal Cert.ReferenceIdeal.Gen Cert.ReferenceIdeal.Value

/-- A counter below 32, read as a signed word. -/
theorem toInt_small : ∀ c : Fin 32, (BitVec.ofNat 32 c.val).toInt = (c.val : Int) := by decide

section slices
variable {n : IVec S_ 32} (c : Fin 32) (hn : n = fun _ => BitVec.ofNat 32 c.val)
include hn

/-- A chunk starts at its number on the first axis and at zero on the others. -/
theorem clamped (ht : S1x8x8x64x128.rank = S32x8x8x64x128.rank) (a : Fin 5) :
    Host.clampedStart S32x8x8x64x128 S1x8x8x64x128 ht (start n) a = ![c.val, 0, 0, 0, 0] a := by
  subst hn
  have hc := c.isLt
  refine Host.clampedStart_of_le ht _ a _ ?_ ?_
  · match a with
    | ⟨0, _⟩ => exact toInt_small c
    | ⟨1, _⟩ => rfl
    | ⟨2, _⟩ => rfl
    | ⟨3, _⟩ => rfl
    | ⟨4, _⟩ => rfl
  · match a with
    | ⟨0, _⟩ => show c.val + 1 ≤ 32; omega
    | ⟨1, _⟩ => show 0 + 8 ≤ 8; omega
    | ⟨2, _⟩ => show 0 + 8 ≤ 8; omega
    | ⟨3, _⟩ => show 0 + 64 ≤ 64; omega
    | ⟨4, _⟩ => show 0 + 128 ≤ 128; omega

/-- A chunk at an element. -/
theorem chunk_apply (x : FVec Ideal S32x8x8x64x128 .f32) (b h : Fin 8) (t : Fin 64) (k : Fin 128) :
    chunk x n (ix4 b h t k) = x (ix5 c b h t k) := by
  pointwise [chunk]
  have e := clamped c hn rfl
  have e0 := e 0
  have e1 := e 1
  have e2 := e 2
  have e3 := e 3
  have e4 := e 4
  change _ = c.val at e0
  change _ = 0 at e1
  change _ = 0 at e2
  change _ = 0 at e3
  change _ = 0 at e4
  simp [e0, e1, e2, e3, e4]

/-- The stacked outputs after a put, at an element. -/
theorem put_apply (x : FVec Ideal S32x8x8x64x128 .f32) (o : FVec Ideal S8x8x64x128 .f32) (a : Fin 32) (b h : Fin 8) (t : Fin 64) (k : Fin 128) :
    put x o n (ix5 a b h t k) = if a = c then o (ix4 b h t k) else x (ix5 a b h t k) := by
  pointwise [put]
  have e := clamped c hn rfl
  have e0 := e 0
  have e1 := e 1
  have e2 := e 2
  have e3 := e 3
  have e4 := e 4
  change _ = c.val at e0
  change _ = 0 at e1
  change _ = 0 at e2
  change _ = 0 at e3
  change _ = 0 at e4
  simp only [e0, e1, e2, e3, e4, Nat.sub_zero]
  by_cases hac : a = c
  · subst hac
    simp
  · have : ¬ (c.val ≤ a.val ∧ a.val < c.val + 1) := fun hh => hac (Fin.ext (by omega))
    simp only [this, false_and, dite_false, hac, if_false]

end slices

/-- A left fold of additions is a sum. -/
theorem fold_sum {α : Type} (l : List α) (g : α → EReal) (v : EReal) : l.foldl (fun r n => r + g n) v = v + (l.map g).sum := by
  induction l generalizing v with
  | nil => simp
  | cons a l ih => rw [List.foldl_cons, ih, List.map_cons, List.sum_cons, add_assoc]

/-- A windowed sum at an index: the initial value plus the sum over the window's positions. -/
theorem reduceWindow_sum {s t u : Shape} (window strides lo hi : Fin s.rank → Nat) (x : s.Idx → EReal) (init : u.Idx → EReal)
    (h : s.ReduceWindows window strides lo hi t) (hu : 0 < u.numel) (j : t.Idx) :
    Host.reduceWindow (fun a b : EReal => a + b) window strides lo hi x init h hu j
      = init (Shape.Idx.first hu) + ∑ n : Fin (Shape.mk s.rank window).numel,
          if hin : ∀ a, lo a ≤ (j (a.cast h.1.symm)).val * strides a + ((Shape.mk s.rank window).rowMajor.symm n a).val
              ∧ (j (a.cast h.1.symm)).val * strides a + ((Shape.mk s.rank window).rowMajor.symm n a).val - lo a < s.size a then
            x (fun a => ⟨(j (a.cast h.1.symm)).val * strides a + ((Shape.mk s.rank window).rowMajor.symm n a).val - lo a, (hin a).2⟩)
          else init (Shape.Idx.first hu) := by
  unfold Host.reduceWindow
  dsimp only
  rw [Fin.sum_univ_def, fold_sum]
  congr
  funext n
  split <;> rfl

/-- The window of 64 tokens, one wide on the other axes. -/
abbrev W : Shape := ⟨4, ![1, 1, 64, 1]⟩

/-- The window has 64 positions. -/
theorem W_numel : W.numel = 64 := by decide +kernel

/-- The positions of the window, in order, are its tokens. -/
theorem window_token : ∀ n : Fin 64, (W.rowMajor.symm (n.cast W_numel.symm) 2).val = n.val := by decide +kernel

/-- A window ending at token `t` sums the tokens up to `t`. -/
theorem sum_window (l : ℕ → EReal) (t : ℕ) (ht : t < 64) :
    (∑ n : Fin W.numel, if 63 ≤ t + n.val then l (t + n.val - 63) else 0) = ∑ s ∈ Finset.range (t + 1), l s := by
  rw [← Finset.sum_range (fun n => if 63 ≤ t + n then l (t + n - 63) else 0), W_numel]
  rw [show 64 = (63 - t) + (t + 1) by omega, Finset.sum_range_add]
  rw [Finset.sum_eq_zero (fun n hn => if_neg (by have := Finset.mem_range.1 hn; omega)), zero_add]
  refine Finset.sum_congr rfl fun s hs => ?_
  rw [if_pos (by omega)]
  congr 1
  omega

/-- The running sums at an element. -/
theorem cum_apply (x : FVec Ideal S8x8x64x128 .f32) (l : ℕ → EReal) (b h : Fin 8) (k : Fin 128)
    (hx : ∀ t : Fin 64, x (ix4 b h t k) = l t) (t : Fin 64) : cum x (ix4 b h t k) = ∑ s ∈ Finset.range (t.val + 1), l s := by
  have hb := b.isLt
  have hh := h.isLt
  have hk := k.isLt
  have ht := t.isLt
  have hv : (broadcastInDim S_ ![] bcast_S_S_ (constant S_ .f32 0x00000000#32) : FVec Ideal S_ .f32) (Shape.Idx.first h_S_) = 0 := by
    rw [show Shape.Idx.first h_S_ = ix0 from funext fun a => a.elim0]
    pointwise []
  have e : ∀ n : Fin W.numel, (W.rowMajor.symm n 2).val = n.val := fun n => window_token (n.cast W_numel)
  have e0 : ∀ n : Fin W.numel, (W.rowMajor.symm n 0).val = 0 := fun n => by have := (W.rowMajor.symm n 0).isLt; change _ < 1 at this; omega
  have e1 : ∀ n : Fin W.numel, (W.rowMajor.symm n 1).val = 0 := fun n => by have := (W.rowMajor.symm n 1).isLt; change _ < 1 at this; omega
  have e3 : ∀ n : Fin W.numel, (W.rowMajor.symm n 3).val = 0 := fun n => by have := (W.rowMajor.symm n 3).isLt; change _ < 1 at this; omega
  refine (reduceWindow_sum ![1, 1, 64, 1] ![1, 1, 1, 1] ![0, 0, 63, 0] ![0, 0, 0, 0] x _
    reduceWindows_S8x8x64x128_S8x8x64x128_w1s1p0_0_w1s1p0_0_w64s1p63_0_w1s1p0_0 h_S_ (ix4 b h t k)).trans ?_
  rw [hv, zero_add, ← sum_window l t ht]
  refine Finset.sum_congr rfl fun n _ => ?_
  have hn : n.val < 64 := (n.cast W_numel).isLt
  split
  · next hin =>
    have h2 := hin 2
    change 63 ≤ t.val * 1 + (W.rowMajor.symm n 2).val ∧ t.val * 1 + (W.rowMajor.symm n 2).val - 63 < 64 at h2
    rw [e] at h2
    rw [if_pos (by omega)]
    refine Eq.trans ?_ (hx ⟨t.val + n.val - 63, by omega⟩)
    refine congrArg x (funext fun a => Fin.ext ?_)
    match a with
    | ⟨0, _⟩ => show b.val * 1 + (W.rowMajor.symm n 0).val - 0 = b.val; rw [e0]; omega
    | ⟨1, _⟩ => show h.val * 1 + (W.rowMajor.symm n 1).val - 0 = h.val; rw [e1]; omega
    | ⟨2, _⟩ => show t.val * 1 + (W.rowMajor.symm n 2).val - 63 = t.val + n.val - 63; rw [e]; omega
    | ⟨3, _⟩ => show k.val * 1 + (W.rowMajor.symm n 3).val - 0 = k.val; rw [e3]; omega
  · next hin =>
    rw [if_neg fun hle => hin fun a => ?_]
    match a with
    | ⟨0, _⟩ => show 0 ≤ b.val * 1 + (W.rowMajor.symm n 0).val ∧ b.val * 1 + (W.rowMajor.symm n 0).val - 0 < 8; rw [e0]; omega
    | ⟨1, _⟩ => show 0 ≤ h.val * 1 + (W.rowMajor.symm n 1).val ∧ h.val * 1 + (W.rowMajor.symm n 1).val - 0 < 8; rw [e1]; omega
    | ⟨2, _⟩ => show 63 ≤ t.val * 1 + (W.rowMajor.symm n 2).val ∧ t.val * 1 + (W.rowMajor.symm n 2).val - 63 < 64; rw [e]; omega
    | ⟨3, _⟩ => show 0 ≤ k.val * 1 + (W.rowMajor.symm n 3).val ∧ k.val * 1 + (W.rowMajor.symm n 3).val - 0 < 128; rw [e3]; omega

end Cert.ReferenceIdeal.Chunk

end
-- ==== Proof.RefChunk.lean ====
module
public import proofs.«01_k».proof.Proof.RefStep
public import proofs.«01_k».proof.Proof.ChunkVal

/-!
# A chunk of the reference advances the recurrence

The state after a chunk of 64 tokens is the recurrence's state 64 tokens on, and the chunk's outputs are its outputs.
-/

@[expose] public section

set_option maxRecDepth 16384

noncomputable section

namespace Cert.ReferenceIdeal.Chunk

open Idealize.ShloMosaic Idealize.ShloMosaic.TcCoe Idealize.SL.Sem
open Cert.ReferenceIdeal Cert.ReferenceIdeal.Gen Cert.ReferenceIdeal.Value
open Cert.Rec Cert.KernelIdeal.Chunk

/-- The sum over a chunk's tokens up to `r`, written with a condition. -/
theorem sum_to (r : Fin 64) (g : ℕ → ℝ) : (∑ x : Fin 64, if x ≤ r then g x else 0) = ∑ s ∈ Finset.range (r + 1), g s := by
  have h : (∑ x : Fin 64, if x ≤ r then g x else 0) = ∑ x : Fin 64, (fun s : ℕ => if s ≤ r then g s else 0) x := rfl
  rw [h, ← Finset.sum_range (fun s : ℕ => if s ≤ r then g s else 0), ← Finset.sum_filter]
  congr 1
  ext s
  have := r.isLt
  simp only [Finset.mem_filter, Finset.mem_range]
  omega

variable (Q f w : ℕ → ℕ → ℝ) (hf : ∀ t k, 0 < f t k) (T : ℕ) (x h : Fin 8)
  (q b k v : FVec Ideal S8x8x64x128 .f32) (s : FVec Ideal S8x8x128x128 .f32) (mask : IVec S64x64 1)
  (hq : ∀ (t : Fin 64) (j : Fin 128), q (ix4 x h t j) = (sh T Q t j : EReal))
  (hb : ∀ (t : Fin 64) (j : Fin 128), b (ix4 x h t j) = (B (sh T f) j (t + 1) : EReal))
  (hk : ∀ (t : Fin 64) (j : Fin 128), k (ix4 x h t j) = ((1 - sh T f t j : ℝ) : EReal))
  (hv : ∀ (t : Fin 64) (j : Fin 128), v (ix4 x h t j) = (sh T w t j : EReal))
  (hs : ∀ (j i : Fin 128), s (ix4 x h j i) = (S f w T j i : EReal))
  (hm : ∀ t u : Fin 64, mask (ix2 t u) = if u ≤ t then 1#1 else 0#1)

include hf hb hk hv hs in
/-- The new state is the recurrence's state 64 tokens on. -/
theorem newState_apply (j i : Fin 128) : newState b k v s (ix4 x h j i) = (S f w (T + 64) j i : EReal) := by
  pointwise [newState, last]
  have e : ((63 : Fin 64) : ℕ) + 1 = 64 := rfl
  rw [S_chunk f w hf T 64, Finset.sum_range]
  simp only [hb, hk, hv, hs, e, Ideal.exp_coe, ← EReal.coe_sub, ← EReal.coe_mul, coe_sum, ← EReal.coe_add]

include hb hq hk hm in
/-- A score: the decayed product of a query and a key, zero for a later key. -/
theorem scores_apply (t u : Fin 64) : scores q k b mask (ix4 x h t u)
    = ((if u ≤ t then ∑ j ∈ Finset.range 128, sh T Q t j * (1 - sh T f u j) * Real.exp (B (sh T f) j (t + 1) - B (sh T f) j (u + 1)) else 0 : ℝ) : EReal) := by
  pointwise [scores, decay]
  by_cases htu : u ≤ t
  · rw [if_pos htu, Finset.sum_range]
    have z : ∀ a c : EReal, Scalar.select 1#1 a c = a := fun _ _ => rfl
    simp only [hm, if_pos htu, z, hq, hk, hb, ← EReal.coe_sub, Ideal.exp_coe, ← EReal.coe_mul, coe_sum]
  · rw [if_neg htu]
    have z : Ideal.ofBits FTy.f32 4286578688#32 = ⊥ := by simp [Ideal.ofBits, Ideal.ieee]
    have z' : ∀ a c : EReal, Scalar.select 0#1 a c = c := fun _ _ => rfl
    simp only [hm, if_neg htu, z', z, Ideal.exp_bot, mul_zero, Finset.sum_const_zero, EReal.coe_zero]

include hf hq hb hk hv hs hm in
/-- The chunk's outputs are the recurrence's. -/
theorem outputs_apply (t : Fin 64) (i : Fin 128) : outputs q k v b mask s (ix4 x h t i) = (O Q f w (T + t) i : EReal) := by
  pointwise [outputs]
  rw [O_chunk Q f w hf T t i, Finset.sum_range]
  simp only [scores_apply Q f T x h q b k mask hq hb hk hm, hq, hb, hv, hs, Ideal.exp_coe, ← EReal.coe_mul, coe_sum, ← EReal.coe_add, ite_mul, zero_mul]
  rw [sum_to t (fun u => (∑ j ∈ Finset.range 128, sh T Q t j * (1 - sh T f u j) * Real.exp (B (sh T f) j (t + 1) - B (sh T f) j (u + 1))) * sh T w u i)]

end Cert.ReferenceIdeal.Chunk

end
-- ==== Proof.RefLoop.lean ====
module
public import proofs.«01_k».proof.Proof.RefChunk

/-!
# The reference's loop computes the recurrence

After `n` trips the carried state is the recurrence's state after `64 n` tokens, and the first `n` chunks of the stacked
outputs are the recurrence's outputs.
-/

@[expose] public section

set_option maxRecDepth 16384

noncomputable section

namespace Cert.ReferenceIdeal.Chunk

open Idealize.ShloMosaic Idealize.ShloMosaic.TcCoe Idealize.SL.Sem
open Cert.ReferenceIdeal Cert.ReferenceIdeal.Gen Cert.ReferenceIdeal.Value
open Cert.Rec Cert.KernelIdeal.Chunk

/-- The stacked array of `g`'s chunks, by batch entry, head, token and column. -/
def Stacked (x : FVec Ideal S32x8x8x64x128 .f32) (g : Fin 8 → ℕ → ℕ → ℝ) : Prop :=
  ∀ (c : Fin 32) (b h : Fin 8) (t : Fin 64) (k : Fin 128), x (ix5 c b h t k) = (hd h (g b) (64 * c + t) k : EReal)

/-- What holds of the carried buffers after `n` trips. -/
structure Inv (q f v : Tokens) (n : ℕ) (V0 : Valuation τ sig (Elt Ideal)) : Prop where
  queries : Stacked (at0 V0) (rd q)
  logs : Stacked (at1 V0) (fun b t k => Real.log (rd f b t k))
  keys : Stacked (at2 V0) (fun b t k => 1 - rd f b t k)
  values : Stacked (at3 V0) (rd v)
  mask : ∀ t u : Fin 64, at4 V0 (ix2 t u) = if u ≤ t then 1#1 else 0#1
  counter : at5 V0 = fun _ => BitVec.ofNat 32 n
  state : ∀ (b h : Fin 8) (k i : Fin 128), at6 V0 (ix4 b h k i) = (St f v b h (64 * n) k i : EReal)
  outs : ∀ (c : Fin 32) (b h : Fin 8) (t : Fin 64) (i : Fin 128), c.val < n → at7 V0 (ix5 c b h t i) = (Ot q f v b h (64 * c + t) i : EReal)

/-- A trip keeps the invariant. -/
theorem Inv.step {q f v : Tokens} (hp : IsPos f) {n : ℕ} (hn : n < 32) {V0 : Valuation τ sig (Elt Ideal)} (I : Inv q f v n V0) :
    Inv q f v (n + 1) (STEP V0) := by
  have hc : at5 V0 = fun _ => BitVec.ofNat 32 (⟨n, hn⟩ : Fin 32).val := I.counter
  have hQ : ∀ (b h : Fin 8) (t : Fin 64) (j : Fin 128), chunk (at0 V0) (at5 V0) (ix4 b h t j) = (sh (64 * n) (hd h (rd q b)) t j : EReal) :=
    fun b h t j => (chunk_apply ⟨n, hn⟩ hc _ b h t j).trans (I.queries _ b h t j)
  have hK : ∀ (b h : Fin 8) (t : Fin 64) (j : Fin 128), chunk (at2 V0) (at5 V0) (ix4 b h t j) = ((1 - sh (64 * n) (hd h (rd f b)) t j : ℝ) : EReal) :=
    fun b h t j => (chunk_apply ⟨n, hn⟩ hc _ b h t j).trans (I.keys _ b h t j)
  have hV : ∀ (b h : Fin 8) (t : Fin 64) (j : Fin 128), chunk (at3 V0) (at5 V0) (ix4 b h t j) = (sh (64 * n) (hd h (rd v b)) t j : EReal) :=
    fun b h t j => (chunk_apply ⟨n, hn⟩ hc _ b h t j).trans (I.values _ b h t j)
  have hB : ∀ (b h : Fin 8) (t : Fin 64) (j : Fin 128), cum (chunk (at1 V0) (at5 V0)) (ix4 b h t j) = (B (sh (64 * n) (hd h (rd f b))) j (t + 1) : EReal) := by
    intro b h t j
    rw [cum_apply _ (fun t => ((Real.log (sh (64 * n) (hd h (rd f b)) t j) : ℝ) : EReal)) b h j
      (fun t => (chunk_apply ⟨n, hn⟩ hc _ b h t j).trans (I.logs _ b h t j)), coe_sum]
    rfl
  refine ⟨?_, ?_, ?_, ?_, ?_, ?_, ?_, ?_⟩
  · have e : at0 (STEP V0) = at0 V0 := STEP_main_v19_0 V0
    rw [e]; exact I.queries
  · have e : at1 (STEP V0) = at1 V0 := STEP_main_v19_1 V0
    rw [e]; exact I.logs
  · have e : at2 (STEP V0) = at2 V0 := STEP_main_v19_2 V0
    rw [e]; exact I.keys
  · have e : at3 (STEP V0) = at3 V0 := STEP_main_v19_3 V0
    rw [e]; exact I.values
  · have e : at4 (STEP V0) = at4 V0 := STEP_main_v19_4 V0
    rw [e]; exact I.mask
  · rw [trip5, I.counter]
    funext _
    exact (BitVec.ofNat_add n 1).symm
  · intro b h k i
    rw [trip6, newState_apply _ (hd h (rd v b)) (hd_pos hp b h) (64 * n) b h _ _ _ _ (hB b h) (hK b h) (hV b h) (I.state b h)]
    rfl
  · intro c b h t i hcn
    rw [trip7, put_apply ⟨n, hn⟩ hc]
    split
    · next e =>
      subst e
      exact outputs_apply (hd h (rd q b)) _ (hd h (rd v b)) (hd_pos hp b h) (64 * n) b h _ _ _ _ _ _ (hQ b h) (hB b h) (hK b h) (hV b h) (I.state b h) I.mask t i
    · next e =>
      exact I.outs c b h t i (by
        have : c.val ≠ n := fun hh => e (Fin.ext hh)
        omega)

/-- The invariant after any number of trips. -/
theorem Inv.iterate {q f v : Tokens} (hp : IsPos f) {V0 : Valuation τ sig (Elt Ideal)} (I : Inv q f v 0 V0) :
    ∀ n ≤ 32, Inv q f v n (STEP^[n] V0)
  | 0, _ => I
  | n + 1, hn => by
    rw [Function.iterate_succ_apply']
    exact (Inv.iterate hp I n (by omega)).step hp (by omega)

/-- The mixer's output, read off the carried buffers after the last trip. -/
theorem out_apply {q f v : Tokens} {V0 : Valuation τ sig (Elt Ideal)} (I : Inv q f v 32 V0) (b : Fin 8) (T : Fin 2048) (h : Fin 8) (j : Fin 128)
    (r : Fin 16384) (hr : r.val = 2048 * b + T) (c : Fin 1024) (hc : c.val = 128 * h + j) :
    (out_main_v38 V0 : FVec Ideal S16384x1024 .bf16) (ix2 r c) = gated (fun x => (Ot q f v b h T x : EReal))
      ((V0 (Proc.devRef .tc main_arg4) : FVec Ideal S128 .f32) (ix1 j)) ((V0 (Proc.devRef .tc main_arg3) : FVec Ideal S8x2048x1024 .f32) (ix3 b T c)) j := by
  clean_types
  pointwise [out_main_v38]
  have hb := b.isLt
  have hT := T.isLt
  have hh := h.isLt
  have hj := j.isLt
  have E0 : ∀ p, (⟨r.val / 2048, p⟩ : Fin 8) = b := fun _ => Fin.ext (by show r.val / 2048 = b.val; omega)
  have E1 : ∀ p, (⟨r.val % 2048, p⟩ : Fin 2048) = T := fun _ => Fin.ext (by show r.val % 2048 = T.val; omega)
  have E2 : ∀ p, (⟨c.val / 128, p⟩ : Fin 8) = h := fun _ => Fin.ext (by show c.val / 128 = h.val; omega)
  have E3 : ∀ p, (⟨c.val % 128, p⟩ : Fin 128) = j := fun _ => Fin.ext (by show c.val % 128 = j.val; omega)
  have hO : ∀ (x : Fin 128) p p', at7 V0 (ix5 ⟨r.val % 2048 / 64, p⟩ b h ⟨r.val % 2048 % 64, p'⟩ x) = (Ot q f v b h T x : EReal) := fun x p p' => by
    rw [I.outs _ b h _ x p]
    congr 2
    show 64 * (r.val % 2048 / 64) + r.val % 2048 % 64 = T.val
    omega
  simp only [E0, E1, E2, E3]
  simp only [at7] at hO
  simp only [hO]
  rfl

end Cert.ReferenceIdeal.Chunk

end
-- ==== Proof.RefEntry.lean ====
module
public import proofs.«01_k».proof.Proof.RefLoop

/-!
# What the reference's loop starts from

The carried buffers at the loop's entry: the stacked chunks of the arguments, the mask, the counter at zero, the zero state.
-/

@[expose] public section

set_option maxRecDepth 16384

noncomputable section

namespace Cert.ReferenceIdeal.Chunk

open Idealize.ShloMosaic Idealize.ShloMosaic.TcCoe Idealize.SL Idealize.SL.RA Idealize.SL.Sem
open Idealize.ShloMosaic.StableHlo
open Cert.ReferenceIdeal Cert.ReferenceIdeal.Gen Cert.ReferenceIdeal.Value
open Cert.Rec Cert.KernelIdeal.Chunk

variable (m : (l : Loc nD τ sig) → Buf (Elt Ideal) l) (c : Dev nD)

/-- The chunks of an argument, stacked. -/
def stack (x : FVec Ideal S8x2048x1024 .f32) : FVec Ideal S32x8x8x64x128 .f32 :=
  transpose S32x8x8x64x128 [1, 0, 3, 2, 4] (shapeCast S8x32x64x8x128 (shapeCast S8x2048x8x128 x shapeCasts_S8x2048x1024_S8x2048x8x128)
    shapeCasts_S8x2048x8x128_S8x32x64x8x128) transposes_S8x32x64x8x128_S32x8x8x64x128_1_0_3_2_4

/-- The mask of the tokens not after a token. -/
def tril : IVec S64x64 1 :=
  select (cmpi CmpIPredicate.sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-- The stacked queries the loop starts from. -/
theorem entry_queries : at0 (entryContents preI m c) = stack (m ((c.tc : Thread nD τ).loc main_arg0)) := by
  show entryContents preI m c (Proc.devRef .tc main_v19_0) = _
  simp only [preI, entryContents, afterL_cons, afterL_nil]
  after_reads_simp
  rfl

/-- The stacked logarithms of the gates the loop starts from. -/
theorem entry_logs : at1 (entryContents preI m c) = stack (Host.log (m ((c.tc : Thread nD τ).loc main_arg1) : FVec Ideal S8x2048x1024 .f32)) := by
  show entryContents preI m c (Proc.devRef .tc main_v19_1) = _
  simp only [preI, entryContents, afterL_cons, afterL_nil]
  after_reads_simp
  rfl

/-- The stacked keys the loop starts from, one minus the gates. -/
theorem entry_keys : at2 (entryContents preI m c) = stack (subf (broadcastInDim S8x2048x1024 ![] bcast_S_S8x2048x1024 (constant S_ .f32 0x3F800000#32))
    (m ((c.tc : Thread nD τ).loc main_arg1) : FVec Ideal S8x2048x1024 .f32)) := by
  show entryContents preI m c (Proc.devRef .tc main_v19_2) = _
  simp only [preI, entryContents, afterL_cons, afterL_nil]
  after_reads_simp
  rfl

/-- The stacked values the loop starts from. -/
theorem entry_values : at3 (entryContents preI m c) = stack (m ((c.tc : Thread nD τ).loc main_arg2)) := by
  show entryContents preI m c (Proc.devRef .tc main_v19_3) = _
  simp only [preI, entryContents, afterL_cons, afterL_nil]
  after_reads_simp
  rfl

/-- The mask the loop starts from. -/
theorem entry_mask : at4 (entryContents preI m c) = tril := by
  show entryContents preI m c (Proc.devRef .tc main_v19_4) = _
  simp only [preI, entryContents, afterL_cons, afterL_nil]
  after_reads_simp
  rfl

/-- The counter starts at zero. -/
theorem entry_counter : at5 (entryContents preI m c) = constantI S_ 32 0#32 := by
  show entryContents preI m c (Proc.devRef .tc main_v19_5) = _
  simp only [preI, entryContents, afterL_cons, afterL_nil]
  after_reads_simp
  rfl

/-- The state starts at zero. -/
theorem entry_state : at6 (entryContents preI m c) = broadcastInDim S8x8x128x128 ![] bcast_S_S8x8x128x128 (constant S_ .f32 0x00000000#32) := by
  show entryContents preI m c (Proc.devRef .tc main_v19_6) = _
  simp only [preI, entryContents, afterL_cons, afterL_nil]
  after_reads_simp
  rfl

/-- A stacked argument at an element. -/
theorem stack_apply (x : FVec Ideal S8x2048x1024 .f32) (a : Fin 32) (b h : Fin 8) (t : Fin 64) (k : Fin 128) :
    stack x (ix5 a b h t k) = x (ix3 b ⟨64 * a + t, by omega⟩ ⟨128 * h + k, by omega⟩) := by
  pointwise [stack]
  congr 2 <;> exact Fin.ext (by show _ + _ = _ + _; omega)

/-- The mask at an element. -/
theorem tril_apply (t u : Fin 64) : tril (ix2 t u) = if u ≤ t then 1#1 else 0#1 := by
  pointwise [tril]
  revert t u
  decide +kernel

/-- The carried buffers at the loop's entry satisfy the invariant. -/
theorem entry_inv (q f v : Tokens) (hq : m ((c.tc : Thread nD τ).loc main_arg0) = q) (hf : m ((c.tc : Thread nD τ).loc main_arg1) = f)
    (hv : m ((c.tc : Thread nD τ).loc main_arg2) = v) (rq : IsReal q) (rf : IsReal f) (pf : IsPos f) (rv : IsReal v) :
    Inv q f v 0 (entryContents preI m c) := by
  refine ⟨?_, ?_, ?_, ?_, ?_, ?_, ?_, ?_⟩
  · intro a b h t k
    rw [entry_queries, hq, stack_apply, rd_apply rq]
    rfl
  · intro a b h t k
    rw [entry_logs, hf, stack_apply]
    show Ideal.log (f _) = _
    rw [rd_apply rf, Ideal.log_coe, if_neg (not_le.2 (rd_pos pf _ _ _))]
    rfl
  · intro a b h t k
    rw [entry_keys, hf, stack_apply]
    pointwise []
    rw [rd_apply rf, ← EReal.coe_one, ← EReal.coe_sub]
    rfl
  · intro a b h t k
    rw [entry_values, hv, stack_apply, rd_apply rv]
    rfl
  · intro t u
    rw [entry_mask, tril_apply]
  · rw [entry_counter]
    rfl
  · intro b h k i
    rw [entry_state]
    pointwise []
    rfl
  · intro a b h t i hn
    omega

/-- The final state the reference returns. -/
theorem final_state (q f v : Tokens) (hq : m ((c.tc : Thread nD τ).loc main_arg0) = q) (hf : m ((c.tc : Thread nD τ).loc main_arg1) = f)
    (hv : m ((c.tc : Thread nD τ).loc main_arg2) = v) (rq : IsReal q) (rf : IsReal f) (pf : IsPos f) (rv : IsReal v) (b h : Fin 8) (k i : Fin 128) :
    at6 (STEP^[32] (entryContents preI m c)) (ix4 b h k i) = (St f v b h 2048 k i : EReal) :=
  ((entry_inv m c q f v hq hf hv rq rf pf rv).iterate pf 32 le_rfl).state b h k i

/-- The mixer's output the reference returns. -/
theorem final_out (q f v g : Tokens) (w : FVec Ideal S128 .f32) (hq : m ((c.tc : Thread nD τ).loc main_arg0) = q) (hf : m ((c.tc : Thread nD τ).loc main_arg1) = f)
    (hv : m ((c.tc : Thread nD τ).loc main_arg2) = v) (hg : m ((c.tc : Thread nD τ).loc main_arg3) = g) (hw : m ((c.tc : Thread nD τ).loc main_arg4) = w)
    (rq : IsReal q) (rf : IsReal f) (pf : IsPos f) (rv : IsReal v) (b : Fin 8) (T : Fin 2048) (h : Fin 8) (j : Fin 128)
    (r : Fin 16384) (hr : r.val = 2048 * b + T) (d : Fin 1024) (hd : d.val = 128 * h + j) :
    (out_main_v38 (STEP^[32] (entryContents preI m c)) : FVec Ideal S16384x1024 .bf16) (ix2 r d)
      = gated (fun x => (Ot q f v b h T x : EReal)) (w (ix1 j)) (g (ix3 b T d)) j := by
  rw [out_apply ((entry_inv m c q f v hq hf hv rq rf pf rv).iterate pf 32 le_rfl) b T h j r hr d hd, iter_main_arg3, iter_main_arg4, hg, hw]

end Cert.ReferenceIdeal.Chunk

end
-- ==== Proof.Claims.lean ====
module
public import proofs.«01_k».proof.Defs
public import proofs.«01_k».proof.Proof.Bounds
public import proofs.«01_k».proof.Proof.KernelOut
public import proofs.«01_k».proof.Proof.RefEntry
public import proofs.«01_k».proof.Proof.Gen.Kernel.Frame
public import proofs.«01_k».proof.Proof.Gen.KernelIdeal.Frame
public import Idealize.ShloMosaic.Adequacy
public import Idealize.ShloMosaic.Init

/-!
# The prompt mixer's claims

The kernel and the reference both end at the recurrence's outputs and final states, so they end equal.
-/

@[expose] public section

set_option maxRecDepth 16384

noncomputable section

namespace Cert.Proof.Prompt

open Idealize.ShloMosaic Idealize.SL.Sem Cert.Rec

/-- The kernel terminates, leaves its arguments unchanged and its counters at zero. -/
theorem frame_kernel : Cert.quiescent_Kernel := fun m ρ _ => Cert.Kernel.Gen.frame m ρ
/-- So does the idealised kernel. -/
theorem frame_ideal : Cert.quiescent_KernelIdeal := fun m ρ _ => Cert.KernelIdeal.Gen.frame m ρ
/-- The same from the memories of the precondition. -/
theorem frame_ideal_pre : Cert.quiescent_KernelIdeal_pre_finite_and_positive := fun m ρ _ => Cert.KernelIdeal.Gen.frame m ρ

/-- The reference ends with its arguments unchanged. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The same from the memories of the precondition. -/
theorem frame_reference_pre : Cert.quiescent_ReferenceIdeal_pre_finite_and_positive := fun m ρ _ => frame_reference m ρ trivial

/-- The one rewrite of the idealisation: the named constant is the inverse of the logarithm of two. -/
theorem preserves : Cert.preserves_Kernel_KernelIdeal :=
  IdealRules.named_const.statement Cert.KernelIdeal.κ "inv_ln2" .f32 0x3FB8AA3B#32 (((Real.log 2)⁻¹ : ℝ) : EReal) rfl

/-- The kernel and the reference end at equal outputs and equal final states. -/
theorem algebraic : Cert.algebraic_KernelIdeal_ReferenceIdeal_pre_finite_and_positive := by
  intro m ρ m' ρ' hpre hagree
  refine ⟨_, _, Cert.KernelIdeal.Value.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨rq, rf, pf, rv⟩ := bounds _ _ _ _ _ (hpre c)
    obtain ⟨h0, h1, h2, h3, h4⟩ := hagree c
    refine funext fun (I : Cert.KernelIdeal.S16384x1024.Idx) => ?_
    obtain ⟨r, d, rfl⟩ : ∃ (r : Fin 16384) (d : Fin 1024), I = ix2 r d := ⟨I 0, I 1, eq_ix2 I⟩
    have hr := r.isLt
    have hd := d.isLt
    have er : r = ⟨2048 * (⟨r.val / 2048, by omega⟩ : Fin 8).val + (⟨r.val % 2048, by omega⟩ : Fin 2048).val, by dsimp only; omega⟩ := Fin.ext (by dsimp only; omega)
    have ed : d = ⟨128 * (⟨d.val / 128, by omega⟩ : Fin 8).val + (⟨d.val % 128, by omega⟩ : Fin 128).val, by dsimp only; omega⟩ := Fin.ext (by dsimp only; omega)
    refine (Cert.ReferenceIdeal.Chunk.final_out m' c _ _ _ _ _ h0 h1 h2 h3 h4 rq rf pf rv ⟨r.val / 2048, by omega⟩ ⟨r.val % 2048, by omega⟩
      ⟨d.val / 128, by omega⟩ ⟨d.val % 128, by omega⟩ r (by dsimp only; omega) d (by dsimp only; omega)).trans ?_
    have k := Cert.KernelIdeal.Chunk.outM_apply m c rq rf pf rv ⟨r.val / 2048, by omega⟩ ⟨r.val % 2048, by omega⟩ ⟨d.val / 128, by omega⟩ ⟨d.val % 128, by omega⟩
    rw [← er, ← ed] at k
    exact k.symm
  · obtain ⟨rq, rf, pf, rv⟩ := bounds _ _ _ _ _ (hpre c)
    obtain ⟨h0, h1, h2, h3, h4⟩ := hagree c
    refine funext fun (I : Cert.KernelIdeal.S8x8x128x128.Idx) => ?_
    obtain ⟨b, h, k, i, rfl⟩ : ∃ (b h : Fin 8) (k i : Fin 128), I = ix4 b h k i := ⟨I 0, I 1, I 2, I 3, eq_ix4 I⟩
    exact (Cert.ReferenceIdeal.Chunk.final_state m' c _ _ _ h0 h1 h2 rq rf pf rv b h k i).trans
      (Cert.KernelIdeal.Chunk.outS_apply m c rf pf rv b h k i).symm

end Cert.Proof.Prompt

end
-- ==== Proof.ExpertLayout.lean ====
module
public import proofs.«01_k».proof.Proof.Gen.Kernel2Ideal.Launch
public import proofs.«01_k».proof.Proof.Gen.Kernel2Ideal.Skeleton
public import Idealize.ShloMosaic.Lib.Pointwise

/-!
# A block of the feed-forward call, as the stores lay it out

A block holds 256 rows of 2048 values, each row spread over 16 consecutive lines of 128. The kernel computes the rows in two halves
of 128 and stores each half by 16 strided stores, one for each group of 128 columns.
-/

@[expose] public section

set_option maxRecDepth 16384

noncomputable section

namespace Cert.Kernel2Ideal.Expert

open Cert.Kernel2Ideal Cert.Kernel2Ideal.Gen
open Idealize.ShloMosaic
open Idealize.ShloMosaic.TcCoe
open Idealize.SL.Sem

variable {F : FTy → Type} [FloatOps F]

/-- Lines `o`, `o + 16`, `o + 32`, … of a block fit in it, for `o` one of the first 16 lines of either half. -/
theorem inbStrip (o : Nat) (ho : o < 2064) :
    ∀ a : Fin S4096x128.rank, S128x128.size a = 0 ∨ (![o, 0] : Fin 2 → Nat) a + (![16, 1] : Fin 2 → Nat) a * (S128x128.size a - 1) < S4096x128.size a := by
  intro a
  fin_cases a
  · right; show o + 16 * 127 < 4096; omega
  · right; show 0 + 1 * 127 < 128; omega

/-- The 128 columns of group `k` of the first 128 rows. -/
def stripL (k : Fin 16) : LoadRect S4096x128 := ⟨![k.val, 0], S128x128.size, ![16, 1], inbStrip k.val (by omega)⟩
/-- The 128 columns of group `k` of the last 128 rows. -/
def stripH (k : Fin 16) : LoadRect S4096x128 := ⟨![2048 + k.val, 0], S128x128.size, ![16, 1], inbStrip (2048 + k.val) (by omega)⟩

/-- Two halves of 128 rows, laid out as a block. -/
def lay (Y0 Y1 : Vec F S128x2048 .f32) : Vec F S4096x128 .f32 := fun I =>
  if (I 0).val < 2048
  then Y0 (ix2 (⟨(I 0).val / 16 % 128, Nat.mod_lt _ (by norm_num)⟩ : Fin 128) (⟨(I 0).val % 16 * 128 + (I 1).val % 128, by omega⟩ : Fin 2048))
  else Y1 (ix2 (⟨(I 0).val / 16 % 128, Nat.mod_lt _ (by norm_num)⟩ : Fin 128) (⟨(I 0).val % 16 * 128 + (I 1).val % 128, by omega⟩ : Fin 2048))

/-- A store of group `k` of the first half stores what the layout has there. -/
theorem lay_low (Y0 Y1 : Vec F S128x2048 .f32) (o k : Nat) (hk : k < 16) (ho : o = 128 * k)
    (hs : S128x2048.Slices ![0, o] S128x128)
    (inb : ∀ a : Fin S4096x128.rank, S128x128.size a = 0 ∨ (![k, 0] : Fin 2 → Nat) a + (![16, 1] : Fin 2 → Nat) a * (S128x128.size a - 1) < S4096x128.size a)
    (sp : ∀ a : Fin S4096x128.rank, 0 < (![16, 1] : Fin 2 → Nat) a) (x : S128x128.Idx) :
    extractStridedSlice S128x128 ![0, o] Y0 hs x
      = lay Y0 Y1 ((⟨⟨![k, 0], S128x128.size, ![16, 1], inb⟩, sp⟩ : Rect S4096x128).emb x) := by
  have b0 : (x 0).val < 128 := (x 0).isLt
  have b1 : (x 1).val < 128 := (x 1).isLt
  have e0 : (((⟨⟨![k, 0], S128x128.size, ![16, 1], inb⟩, sp⟩ : Rect S4096x128).emb x) 0).val = k + 16 * (x 0).val := rfl
  have e1 : (((⟨⟨![k, 0], S128x128.size, ![16, 1], inb⟩, sp⟩ : Rect S4096x128).emb x) 1).val = 0 + 1 * (x 1).val := rfl
  unfold lay
  rw [if_pos (by rw [e0]; omega)]
  refine congrArg Y0 ?_
  funext a
  fin_cases a
  · refine Fin.ext ?_
    show 0 + (x 0).val = _ / 16 % 128
    rw [e0]; omega
  · refine Fin.ext ?_
    show o + (x 1).val = _ % 16 * 128 + _ % 128
    rw [e0, e1]; omega

/-- A store of group `k` of the second half stores what the layout has there. -/
theorem lay_high (Y0 Y1 : Vec F S128x2048 .f32) (o n k : Nat) (hk : k < 16) (ho : o = 128 * k) (hn : n = 2048 + k)
    (hs : S128x2048.Slices ![0, o] S128x128)
    (inb : ∀ a : Fin S4096x128.rank, S128x128.size a = 0 ∨ (![n, 0] : Fin 2 → Nat) a + (![16, 1] : Fin 2 → Nat) a * (S128x128.size a - 1) < S4096x128.size a)
    (sp : ∀ a : Fin S4096x128.rank, 0 < (![16, 1] : Fin 2 → Nat) a) (x : S128x128.Idx) :
    extractStridedSlice S128x128 ![0, o] Y1 hs x
      = lay Y0 Y1 ((⟨⟨![n, 0], S128x128.size, ![16, 1], inb⟩, sp⟩ : Rect S4096x128).emb x) := by
  have b0 : (x 0).val < 128 := (x 0).isLt
  have b1 : (x 1).val < 128 := (x 1).isLt
  have e0 : (((⟨⟨![n, 0], S128x128.size, ![16, 1], inb⟩, sp⟩ : Rect S4096x128).emb x) 0).val = n + 16 * (x 0).val := rfl
  have e1 : (((⟨⟨![n, 0], S128x128.size, ![16, 1], inb⟩, sp⟩ : Rect S4096x128).emb x) 1).val = 0 + 1 * (x 1).val := rfl
  unfold lay
  rw [if_neg (by rw [e0]; omega)]
  refine congrArg Y1 ?_
  funext a
  fin_cases a
  · refine Fin.ext ?_
    show 0 + (x 0).val = _ / 16 % 128
    rw [e0]; omega
  · refine Fin.ext ?_
    show o + (x 1).val = _ % 16 * 128 + _ % 128
    rw [e0, e1]; omega

/-- The first lines of the 32 stores, the last one first. -/
def firstLines : List Nat :=
  [2063, 2062, 2061, 2060, 2059, 2058, 2057, 2056, 2055, 2054, 2053, 2052, 2051, 2050, 2049, 2048,
    15, 14, 13, 12, 11, 10, 9, 8, 7, 6, 5, 4, 3, 2, 1, 0]

/-- What tells a store's rectangle: its offsets, strides and sizes. -/
def shapeOf (p : View.Piece (Elt F) S4096x128 .f32) : Nat × Nat × Nat × Nat × Nat × Nat :=
  (p.1.off 0, p.1.off 1, p.1.stride 0, p.1.stride 1, p.1.size 0, p.1.size 1)

/-- The 32 stores cover the block. -/
theorem covers (L : List (View.Piece (Elt F) S4096x128 .f32)) (hL : L.map shapeOf = firstLines.map fun o => (o, 0, 16, 1, 128, 128))
    (y : S4096x128.Idx) : ∃ p ∈ L, y ∈ p.1.set := by
  have b0 : (y 0).val < 4096 := (y 0).isLt
  have b1 : (y 1).val < 128 := (y 1).isLt
  have hm : (2048 * ((y 0).val / 2048) + (y 0).val % 16) ∈ firstLines := by
    simp only [firstLines, List.mem_cons, List.not_mem_nil, or_false]
    omega
  have hm2 : ((2048 * ((y 0).val / 2048) + (y 0).val % 16, 0, 16, 1, 128, 128) : Nat × Nat × Nat × Nat × Nat × Nat) ∈ L.map shapeOf := by
    rw [hL]
    exact List.mem_map_of_mem hm
  obtain ⟨p, hp, hs⟩ := List.mem_map.mp hm2
  simp only [shapeOf, Prod.mk.injEq] at hs
  obtain ⟨h1, h2, h3, h4, h5, h6⟩ := hs
  refine ⟨p, hp, p.1.mem_set.mpr ?_⟩
  intro a
  fin_cases a
  · refine ⟨(y 0).val % 2048 / 16, ?_, ?_⟩
    · show _ < p.1.size 0
      rw [h5]; omega
    · show (y 0).val = p.1.off 0 + p.1.stride 0 * _
      rw [h1, h3]; omega
  · refine ⟨(y 1).val, ?_, ?_⟩
    · show _ < p.1.size 1
      rw [h6]; omega
    · show (y 1).val = p.1.off 1 + p.1.stride 1 * _
      rw [h2, h4]; omega

/-- The stores of a block, the last one first, of what the two halves' products with the first two weights are. -/
def stores (g0 u0 g1 u1 : Vec F S128x512 .f32) (w2 : Vec F S512x2048 .bf16) : List (View.Piece (Elt F) S4096x128 .f32) :=
  [⟨⟨⟨![2063, 0], S128x128.size, ![16, 1], inb_S4096x128_S128x128_2063_0_s_16_1⟩, spos_16_1⟩, k0_pay44 (k0_pay12 g1 u1 w2)⟩,
    ⟨⟨⟨![2062, 0], S128x128.size, ![16, 1], inb_S4096x128_S128x128_2062_0_s_16_1⟩, spos_16_1⟩, k0_pay43 (k0_pay12 g1 u1 w2)⟩,
    ⟨⟨⟨![2061, 0], S128x128.size, ![16, 1], inb_S4096x128_S128x128_2061_0_s_16_1⟩, spos_16_1⟩, k0_pay42 (k0_pay12 g1 u1 w2)⟩,
    ⟨⟨⟨![2060, 0], S128x128.size, ![16, 1], inb_S4096x128_S128x128_2060_0_s_16_1⟩, spos_16_1⟩, k0_pay41 (k0_pay12 g1 u1 w2)⟩,
    ⟨⟨⟨![2059, 0], S128x128.size, ![16, 1], inb_S4096x128_S128x128_2059_0_s_16_1⟩, spos_16_1⟩, k0_pay40 (k0_pay12 g1 u1 w2)⟩,
    ⟨⟨⟨![2058, 0], S128x128.size, ![16, 1], inb_S4096x128_S128x128_2058_0_s_16_1⟩, spos_16_1⟩, k0_pay39 (k0_pay12 g1 u1 w2)⟩,
    ⟨⟨⟨![2057, 0], S128x128.size, ![16, 1], inb_S4096x128_S128x128_2057_0_s_16_1⟩, spos_16_1⟩, k0_pay38 (k0_pay12 g1 u1 w2)⟩,
    ⟨⟨⟨![2056, 0], S128x128.size, ![16, 1], inb_S4096x128_S128x128_2056_0_s_16_1⟩, spos_16_1⟩, k0_pay37 (k0_pay12 g1 u1 w2)⟩,
    ⟨⟨⟨![2055, 0], S128x128.size, ![16, 1], inb_S4096x128_S128x128_2055_0_s_16_1⟩, spos_16_1⟩, k0_pay36 (k0_pay12 g1 u1 w2)⟩,
    ⟨⟨⟨![2054, 0], S128x128.size, ![16, 1], inb_S4096x128_S128x128_2054_0_s_16_1⟩, spos_16_1⟩, k0_pay35 (k0_pay12 g1 u1 w2)⟩,
    ⟨⟨⟨![2053, 0], S128x128.size, ![16, 1], inb_S4096x128_S128x128_2053_0_s_16_1⟩, spos_16_1⟩, k0_pay34 (k0_pay12 g1 u1 w2)⟩,
    ⟨⟨⟨![2052, 0], S128x128.size, ![16, 1], inb_S4096x128_S128x128_2052_0_s_16_1⟩, spos_16_1⟩, k0_pay33 (k0_pay12 g1 u1 w2)⟩,
    ⟨⟨⟨![2051, 0], S128x128.size, ![16, 1], inb_S4096x128_S128x128_2051_0_s_16_1⟩, spos_16_1⟩, k0_pay32 (k0_pay12 g1 u1 w2)⟩,
    ⟨⟨⟨![2050, 0], S128x128.size, ![16, 1], inb_S4096x128_S128x128_2050_0_s_16_1⟩, spos_16_1⟩, k0_pay31 (k0_pay12 g1 u1 w2)⟩,
    ⟨⟨⟨![2049, 0], S128x128.size, ![16, 1], inb_S4096x128_S128x128_2049_0_s_16_1⟩, spos_16_1⟩, k0_pay30 (k0_pay12 g1 u1 w2)⟩,
    ⟨⟨⟨![2048, 0], S128x128.size, ![16, 1], inb_S4096x128_S128x128_2048_0_s_16_1⟩, spos_16_1⟩, k0_pay29 (k0_pay12 g1 u1 w2)⟩,
    ⟨⟨⟨![15, 0], S128x128.size, ![16, 1], inb_S4096x128_S128x128_15_0_s_16_1⟩, spos_16_1⟩, k0_pay28 (k0_pay11 g0 u0 w2)⟩,
    ⟨⟨⟨![14, 0], S128x128.size, ![16, 1], inb_S4096x128_S128x128_14_0_s_16_1⟩, spos_16_1⟩, k0_pay27 (k0_pay11 g0 u0 w2)⟩,
    ⟨⟨⟨![13, 0], S128x128.size, ![16, 1], inb_S4096x128_S128x128_13_0_s_16_1⟩, spos_16_1⟩, k0_pay26 (k0_pay11 g0 u0 w2)⟩,
    ⟨⟨⟨![12, 0], S128x128.size, ![16, 1], inb_S4096x128_S128x128_12_0_s_16_1⟩, spos_16_1⟩, k0_pay25 (k0_pay11 g0 u0 w2)⟩,
    ⟨⟨⟨![11, 0], S128x128.size, ![16, 1], inb_S4096x128_S128x128_11_0_s_16_1⟩, spos_16_1⟩, k0_pay24 (k0_pay11 g0 u0 w2)⟩,
    ⟨⟨⟨![10, 0], S128x128.size, ![16, 1], inb_S4096x128_S128x128_10_0_s_16_1⟩, spos_16_1⟩, k0_pay23 (k0_pay11 g0 u0 w2)⟩,
    ⟨⟨⟨![9, 0], S128x128.size, ![16, 1], inb_S4096x128_S128x128_9_0_s_16_1⟩, spos_16_1⟩, k0_pay22 (k0_pay11 g0 u0 w2)⟩,
    ⟨⟨⟨![8, 0], S128x128.size, ![16, 1], inb_S4096x128_S128x128_8_0_s_16_1⟩, spos_16_1⟩, k0_pay21 g0 u0 w2⟩,
    ⟨⟨⟨![7, 0], S128x128.size, ![16, 1], inb_S4096x128_S128x128_7_0_s_16_1⟩, spos_16_1⟩, k0_pay20 g0 u0 w2⟩,
    ⟨⟨⟨![6, 0], S128x128.size, ![16, 1], inb_S4096x128_S128x128_6_0_s_16_1⟩, spos_16_1⟩, k0_pay19 g0 u0 w2⟩,
    ⟨⟨⟨![5, 0], S128x128.size, ![16, 1], inb_S4096x128_S128x128_5_0_s_16_1⟩, spos_16_1⟩, k0_pay18 g0 u0 w2⟩,
    ⟨⟨⟨![4, 0], S128x128.size, ![16, 1], inb_S4096x128_S128x128_4_0_s_16_1⟩, spos_16_1⟩, k0_pay17 g0 u0 w2⟩,
    ⟨⟨⟨![3, 0], S128x128.size, ![16, 1], inb_S4096x128_S128x128_3_0_s_16_1⟩, spos_16_1⟩, k0_pay16 g0 u0 w2⟩,
    ⟨⟨⟨![2, 0], S128x128.size, ![16, 1], inb_S4096x128_S128x128_2_0_s_16_1⟩, spos_16_1⟩, k0_pay15 g0 u0 w2⟩,
    ⟨⟨⟨![1, 0], S128x128.size, ![16, 1], inb_S4096x128_S128x128_1_0_s_16_1⟩, spos_16_1⟩, k0_pay14 g0 u0 w2⟩,
    ⟨⟨⟨![0, 0], S128x128.size, ![16, 1], inb_S4096x128_S128x128_0_0_s_16_1⟩, spos_16_1⟩, k0_pay13 g0 u0 w2⟩]

/-- What the stores leave in a buffer. -/
theorem read_stores {κ : Kind} {sp : Space} (v : View sig κ sp S4096x128 .f32) (f : v.ty.Contents (Elt F)) (g0 u0 g1 u1 : Vec F S128x512 .f32) (w2 : Vec F S512x2048 .bf16) :
    v.read (Elt F) (v.writes (Elt F) f (stores g0 u0 g1 u1 w2)) = lay (k0_pay11 g0 u0 w2) (k0_pay12 g1 u1 w2) := by
  funext y
  refine View.read_writes_apply_of_pieces v f (lay (k0_pay11 g0 u0 w2) (k0_pay12 g1 u1 w2)) _ ?_ y (covers _ rfl y)
  refine List.forall_mem_cons.mpr ⟨fun x => lay_high _ _ 1920 2063 15 (by norm_num) rfl rfl slices_S128x2048_o0_1920_S128x128 _ _ x, ?_⟩
  refine List.forall_mem_cons.mpr ⟨fun x => lay_high _ _ 1792 2062 14 (by norm_num) rfl rfl slices_S128x2048_o0_1792_S128x128 _ _ x, ?_⟩
  refine List.forall_mem_cons.mpr ⟨fun x => lay_high _ _ 1664 2061 13 (by norm_num) rfl rfl slices_S128x2048_o0_1664_S128x128 _ _ x, ?_⟩
  refine List.forall_mem_cons.mpr ⟨fun x => lay_high _ _ 1536 2060 12 (by norm_num) rfl rfl slices_S128x2048_o0_1536_S128x128 _ _ x, ?_⟩
  refine List.forall_mem_cons.mpr ⟨fun x => lay_high _ _ 1408 2059 11 (by norm_num) rfl rfl slices_S128x2048_o0_1408_S128x128 _ _ x, ?_⟩
  refine List.forall_mem_cons.mpr ⟨fun x => lay_high _ _ 1280 2058 10 (by norm_num) rfl rfl slices_S128x2048_o0_1280_S128x128 _ _ x, ?_⟩
  refine List.forall_mem_cons.mpr ⟨fun x => lay_high _ _ 1152 2057 9 (by norm_num) rfl rfl slices_S128x2048_o0_1152_S128x128 _ _ x, ?_⟩
  refine List.forall_mem_cons.mpr ⟨fun x => lay_high _ _ 1024 2056 8 (by norm_num) rfl rfl slices_S128x2048_o0_1024_S128x128 _ _ x, ?_⟩
  refine List.forall_mem_cons.mpr ⟨fun x => lay_high _ _ 896 2055 7 (by norm_num) rfl rfl slices_S128x2048_o0_896_S128x128 _ _ x, ?_⟩
  refine List.forall_mem_cons.mpr ⟨fun x => lay_high _ _ 768 2054 6 (by norm_num) rfl rfl slices_S128x2048_o0_768_S128x128 _ _ x, ?_⟩
  refine List.forall_mem_cons.mpr ⟨fun x => lay_high _ _ 640 2053 5 (by norm_num) rfl rfl slices_S128x2048_o0_640_S128x128 _ _ x, ?_⟩
  refine List.forall_mem_cons.mpr ⟨fun x => lay_high _ _ 512 2052 4 (by norm_num) rfl rfl slices_S128x2048_o0_512_S128x128 _ _ x, ?_⟩
  refine List.forall_mem_cons.mpr ⟨fun x => lay_high _ _ 384 2051 3 (by norm_num) rfl rfl slices_S128x2048_o0_384_S128x128 _ _ x, ?_⟩
  refine List.forall_mem_cons.mpr ⟨fun x => lay_high _ _ 256 2050 2 (by norm_num) rfl rfl slices_S128x2048_o0_256_S128x128 _ _ x, ?_⟩
  refine List.forall_mem_cons.mpr ⟨fun x => lay_high _ _ 128 2049 1 (by norm_num) rfl rfl slices_S128x2048_o0_128_S128x128 _ _ x, ?_⟩
  refine List.forall_mem_cons.mpr ⟨fun x => lay_high _ _ 0 2048 0 (by norm_num) rfl rfl slices_S128x2048_o0_0_S128x128 _ _ x, ?_⟩
  refine List.forall_mem_cons.mpr ⟨fun x => lay_low _ _ 1920 15 (by norm_num) rfl slices_S128x2048_o0_1920_S128x128 _ _ x, ?_⟩
  refine List.forall_mem_cons.mpr ⟨fun x => lay_low _ _ 1792 14 (by norm_num) rfl slices_S128x2048_o0_1792_S128x128 _ _ x, ?_⟩
  refine List.forall_mem_cons.mpr ⟨fun x => lay_low _ _ 1664 13 (by norm_num) rfl slices_S128x2048_o0_1664_S128x128 _ _ x, ?_⟩
  refine List.forall_mem_cons.mpr ⟨fun x => lay_low _ _ 1536 12 (by norm_num) rfl slices_S128x2048_o0_1536_S128x128 _ _ x, ?_⟩
  refine List.forall_mem_cons.mpr ⟨fun x => lay_low _ _ 1408 11 (by norm_num) rfl slices_S128x2048_o0_1408_S128x128 _ _ x, ?_⟩
  refine List.forall_mem_cons.mpr ⟨fun x => lay_low _ _ 1280 10 (by norm_num) rfl slices_S128x2048_o0_1280_S128x128 _ _ x, ?_⟩
  refine List.forall_mem_cons.mpr ⟨fun x => lay_low _ _ 1152 9 (by norm_num) rfl slices_S128x2048_o0_1152_S128x128 _ _ x, ?_⟩
  refine List.forall_mem_cons.mpr ⟨fun x => lay_low _ _ 1024 8 (by norm_num) rfl slices_S128x2048_o0_1024_S128x128 _ _ x, ?_⟩
  refine List.forall_mem_cons.mpr ⟨fun x => lay_low _ _ 896 7 (by norm_num) rfl slices_S128x2048_o0_896_S128x128 _ _ x, ?_⟩
  refine List.forall_mem_cons.mpr ⟨fun x => lay_low _ _ 768 6 (by norm_num) rfl slices_S128x2048_o0_768_S128x128 _ _ x, ?_⟩
  refine List.forall_mem_cons.mpr ⟨fun x => lay_low _ _ 640 5 (by norm_num) rfl slices_S128x2048_o0_640_S128x128 _ _ x, ?_⟩
  refine List.forall_mem_cons.mpr ⟨fun x => lay_low _ _ 512 4 (by norm_num) rfl slices_S128x2048_o0_512_S128x128 _ _ x, ?_⟩
  refine List.forall_mem_cons.mpr ⟨fun x => lay_low _ _ 384 3 (by norm_num) rfl slices_S128x2048_o0_384_S128x128 _ _ x, ?_⟩
  refine List.forall_mem_cons.mpr ⟨fun x => lay_low _ _ 256 2 (by norm_num) rfl slices_S128x2048_o0_256_S128x128 _ _ x, ?_⟩
  refine List.forall_mem_cons.mpr ⟨fun x => lay_low _ _ 128 1 (by norm_num) rfl slices_S128x2048_o0_128_S128x128 _ _ x, ?_⟩
  refine List.forall_mem_cons.mpr ⟨fun x => lay_low _ _ 0 0 (by norm_num) rfl slices_S128x2048_o0_0_S128x128 _ _ x, ?_⟩
  exact fun p hp => absurd hp List.not_mem_nil

/-- The block computed of the groups of columns of the two halves of its rows and an expert's three weights. -/
def outOf (l h : Fin 16 → Vec F S128x128 .f32) (w0 w1 : Vec F S2048x512 .bf16) (w2 : Vec F S512x2048 .bf16) : Vec F S4096x128 .f32 :=
  lay
    (k0_pay11 (k0_pay7 (k0_pay5 (l 0) (l 1) (l 2) (l 3) (l 4) (l 5) (l 6) (l 7) (l 8) (l 9) (l 10) (l 11) (l 12) (l 13) (l 14) (l 15)) w0)
      (k0_pay9 (k0_pay5 (l 0) (l 1) (l 2) (l 3) (l 4) (l 5) (l 6) (l 7) (l 8) (l 9) (l 10) (l 11) (l 12) (l 13) (l 14) (l 15)) w1) w2)
    (k0_pay12 (k0_pay8 (h 0) (h 1) (h 2) (h 3) (h 4) (h 5) (h 6) (h 7) (h 8) (h 9) (h 10) (h 11) (h 12) (h 13) (h 14) (h 15) w0)
      (k0_pay10 (h 0) (h 1) (h 2) (h 3) (h 4) (h 5) (h 6) (h 7) (h 8) (h 9) (h 10) (h 11) (h 12) (h 13) (h 14) (h 15) w1) w2)

/-- The block computed of a block of rows and an expert's three weights. -/
def outBlk (x : Vec F S4096x128 .f32) (w0 w1 : Vec F S2048x512 .bf16) (w2 : Vec F S512x2048 .bf16) : Vec F S4096x128 .f32 :=
  outOf (fun k y => x ((stripL k).idx y)) (fun k y => x ((stripH k).idx y)) w0 w1 w2

end Cert.Kernel2Ideal.Expert

end
-- ==== Proof.ExpertRun.lean ====
module
public import proofs.«01_k».proof.Proof.ExpertLayout

/-!
# The body's three cases

At a used tile of the expert of the tile before, the body computes with the weights it has kept; at a used tile of another
expert it takes that expert's weights first; at a tile that is not used it writes zeros.
-/

@[expose] public section

set_option maxRecDepth 16384
set_option Elab.async false

noncomputable section

namespace Cert.Kernel2Ideal.Expert

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of experts. -/
abbrev teM : Memref sig .tc .smem S164 .i32 := Memref.whole main_arg0
/-- The count of used tiles. -/
abbrev nvM : Memref sig .tc .smem S1 .i32 := Memref.whole main_arg1
/-- The first weights in, as kept. -/
abbrev gM : Memref sig .tc .vmem S2048x512 .bf16 := Memref.whole cc0_scratch0
/-- The second weights in, as kept. -/
abbrev uM : Memref sig .tc .vmem S2048x512 .bf16 := Memref.whole cc0_scratch1
/-- The weights out, as kept. -/
abbrev dM : Memref sig .tc .vmem S512x2048 .bf16 := Memref.whole cc0_scratch2

/-- The count as the body reads it. -/
abbrev nvAt (T1 : S1.Idx → Elt F .i32) : Elt F .i32 :=
  View.readAt (Elt F) nvM.view (Rect.unit (s := S1) ![0] S1.size inb_S1_S1_0).toLoadRect T1 (Shape.Idx.first (numel1_S1.symm ▸ Nat.one_pos))
/-- The tile's expert as the body reads it. -/
abbrev teAt (T0 : S164.Idx → Elt F .i32) (i : grid0.Coords) : Elt F .i32 :=
  View.readAt (Elt F) teM.view (Rect.unit (s := S164) (k0_off1 i) S1.size (k0_off1_inb i)).toLoadRect T0 (Shape.Idx.first (numel1_S1.symm ▸ Nat.one_pos))
/-- The expert of the tile before, as the body reads it. -/
abbrev tePrev (T0 : S164.Idx → Elt F .i32) (i : grid0.Coords) : Elt F .i32 :=
  View.readAt (Elt F) teM.view (Rect.unit (s := S164) (k0_off2 i) S1.size (k0_off2_inb i)).toLoadRect T0 (Shape.Idx.first (numel1_S1.symm ▸ Nat.one_pos))

/-- The body takes new weights: the tile is used, and is the first or of another expert than the tile before. -/
abbrev Fresh (T0 : S164.Idx → Elt F .i32) (T1 : S1.Idx → Elt F .i32) (i : grid0.Coords) : Prop :=
  Scalar.cmpi .ne (Scalar.extui (Scalar.andi (Scalar.cmpi .slt (BitVec.ofNat 32 (i 0).val) (nvAt T1))
    (Scalar.ori (Scalar.cmpi .eq (BitVec.ofNat 32 (i 0).val) 0#32) (Scalar.cmpi .ne (teAt T0 i) (tePrev T0 i)))) : BitVec 32) 0#32 = 1#1

/-- A load of all of a buffer's view reads the view. -/
theorem load_full {κ : Kind} {sp : Space} {s : Shape} {e : EltTy} (v : View sig κ sp s e) (f : v.ty.Contents (Elt F))
    {off : Fin s.rank → ℕ} (h0 : off = fun _ => 0) (inb : ∀ a, off a + s.size a ≤ s.size a) :
    v.readAt (Elt F) (Rect.unit off s.size inb).toLoadRect f = v.read (Elt F) f := by
  rw [View.readAt_eq_ld]
  exact View.ld_unit_zero h0 inb _

/-- A store of all of a buffer's view leaves what was stored. -/
theorem store_full {κ : Kind} {sp : Space} {s : Shape} {e : EltTy} (v : View sig κ sp s e) (f : v.ty.Contents (Elt F))
    {off : Fin s.rank → ℕ} (h0 : off = fun _ => 0) (inb : ∀ a, off a + s.size a ≤ s.size a) (w : s.Idx → Elt F e) :
    v.read (Elt F) (v.writes (Elt F) f [⟨Rect.unit off s.size inb, w⟩]) = w := by
  subst h0
  funext y
  refine View.read_writes_cons_hit_of_coords v f (Rect.unit (fun _ => 0) s.size inb) w [] y y fun a => ?_
  show (y a).val = 0 + 1 * (y a).val
  omega

/-- The offsets of a load of a whole matrix are zeros. -/
theorem off2 : (![0, 0] : Fin 2 → ℕ) = fun _ => 0 := by funext a; fin_cases a <;> rfl
/-- The offsets of a load of a whole array of four axes are zeros. -/
theorem off4 : (![0, 0, 0, 0] : Fin 4 → ℕ) = fun _ => 0 := by funext a; fin_cases a <;> rfl

/-- A whole buffer's view reads its contents. -/
theorem read_gM (a : Vec F S2048x512 .bf16) : gM.view.read (Elt F) a = a := rfl
/-- The same of the second weights in. -/
theorem read_uM (a : Vec F S2048x512 .bf16) : uM.view.read (Elt F) a = a := rfl
/-- The same of the weights out. -/
theorem read_dM (a : Vec F S512x2048 .bf16) : dM.view.read (Elt F) a = a := rfl

/-- The block computed of the groups of columns as the loads read them is the block computed of the rows. -/
theorem outOf_loads (m : Memref sig .tc .vmem S4096x128 .f32) (x : Vec F S4096x128 .f32) (w0 w1 : Vec F S2048x512 .bf16) (w2 : Vec F S512x2048 .bf16) :
    outOf (fun k => View.readAt (Elt F) m.view (stripL k) (m.view.rep x)) (fun k => View.readAt (Elt F) m.view (stripH k) (m.view.rep x)) w0 w1 w2
      = outBlk x w0 w1 w2 := by
  unfold outBlk
  simp only [View.readAt_rep]
  rfl

set_option backward.proofsInPublic true in
set_option maxHeartbeats 8000000 in
/-- The body at a used tile of the expert of the tile before: it computes with the weights it has kept. -/
theorem run_keep (c : Dev nD) (i : grid0.Coords) (arg3 : Memref sig .tc .vmem S4096x128 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S4096x128 .f32) (harg7 : arg7.IsWhole)
    (T0 : S164.Idx → Elt F .i32) (T1 : S1.Idx → Elt F .i32)
    (x0 : S4096x128.Idx → Elt F .f32) (x1 x2 : S1x1x2048x512.Idx → Elt F .f32) (x3 : S1x1x512x2048.Idx → Elt F .f32)
    (a0 : Buf (Elt F) ((c : Thread nD τ).loc cc0_scratch0)) (a1 : Buf (Elt F) ((c : Thread nD τ).loc cc0_scratch1)) (a2 : Buf (Elt F) ((c : Thread nD τ).loc cc0_scratch2))
    (hf : ¬ Fresh T0 T1 i) (h2 : k0_cond2 i (nvAt T1) = 1#1) (h3 : ¬ k0_cond3 i (nvAt T1) = 1#1) (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (teM.view.loc (c : Thread nD τ) ↦{fullShare.right} T0)
        ∗ (nvM.view.loc (c : Thread nD τ) ↦{fullShare.right} T1)
        ∗ (∃ d, owns (c : Thread nD τ) arg7 fullShare d)
        ∗ (gM.view.loc (c : Thread nD τ) ↦{fullShare} a0)
        ∗ (uM.view.loc (c : Thread nD τ) ↦{fullShare} a1)
        ∗ (dM.view.loc (c : Thread nD τ) ↦{fullShare} a2)
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (teM.view.loc (c : Thread nD τ) ↦{fullShare.right} T0)
            ∗ (nvM.view.loc (c : Thread nD τ) ↦{fullShare.right} T1)
            ∗ owns (c : Thread nD τ) arg7 fullShare (outBlk x0 a0 a1 a2)
            ∗ (gM.view.loc (c : Thread nD τ) ↦{fullShare} a0)
            ∗ (uM.view.loc (c : Thread nD τ) ↦{fullShare} a1)
            ∗ (dM.view.loc (c : Thread nD τ) ↦{fullShare} a2)) -∗ K ⟨⟩))
      ⊢ wp frame (wpE (defs₀ (F := F)) Variants.none c none) Set.univ (cc0_experts i teM (Memref.isWhole_whole _) nvM (Memref.isWhole_whole _) arg3 harg3 arg4 harg4 arg5 harg5 arg6 harg6 arg7 harg7 gM (Memref.isWhole_whole _) uM (Memref.isWhole_whole _) dM (Memref.isWhole_whole _)) K := by
  unfold owns
  rw [cc0_experts_eq_skeleton]; unfold cc0_experts_skel
  iintro ⟨H0, H1, H2, H3, HT0, HT1, ⟨%d4, %f4, -, HO4⟩, HS0, HS1, HS2, Hk⟩
  have hS0 : gM.IsWhole := Memref.isWhole_whole cc0_scratch0
  have hS1 : uM.IsWhole := Memref.isWhole_whole cc0_scratch1
  have hS2 : dM.IsWhole := Memref.isWhole_whole cc0_scratch2
  have hT0 : teM.IsWhole := Memref.isWhole_whole main_arg0
  have hT1 : nvM.IsWhole := Memref.isWhole_whole main_arg1
  sl_exec! (disch := first | (guard_target = ¬(Scalar.cmpi = _); exact hf) | (guard_target = k0_cond2 _ _ = _; exact h2) | (guard_target = ¬(k0_cond3 _ _ = _); exact h3))
  rw [wp_ret]; imodintro
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _
    isplitr
    rotate_left
    · iexact HO4
    · ipureintro
      refine (read_stores arg7.view f4 _ _ _ _ _).trans ?_
      refine (outOf_loads arg3 x0 _ _ _).trans ?_
      exact congr (congrArg₂ (outBlk x0) (load_full gM.view a0 off2 _) (load_full uM.view a1 off2 _)) (load_full dM.view a2 off2 _)
  isplitl [HS0]; · iexact HS0
  isplitl [HS1]; · iexact HS1
  iexact HS2

set_option backward.proofsInPublic true in
set_option maxHeartbeats 8000000 in
/-- The body at a used tile of another expert than the tile before, or at the first: it takes that expert's weights and computes with them. -/
theorem run_load (c : Dev nD) (i : grid0.Coords) (arg3 : Memref sig .tc .vmem S4096x128 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S4096x128 .f32) (harg7 : arg7.IsWhole)
    (T0 : S164.Idx → Elt F .i32) (T1 : S1.Idx → Elt F .i32)
    (x0 : S4096x128.Idx → Elt F .f32) (x1 x2 : S1x1x2048x512.Idx → Elt F .f32) (x3 : S1x1x512x2048.Idx → Elt F .f32)
    (a0 : Buf (Elt F) ((c : Thread nD τ).loc cc0_scratch0)) (a1 : Buf (Elt F) ((c : Thread nD τ).loc cc0_scratch1)) (a2 : Buf (Elt F) ((c : Thread nD τ).loc cc0_scratch2))
    (hf : Fresh T0 T1 i) (h2 : k0_cond2 i (nvAt T1) = 1#1) (h3 : ¬ k0_cond3 i (nvAt T1) = 1#1) (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (teM.view.loc (c : Thread nD τ) ↦{fullShare.right} T0)
        ∗ (nvM.view.loc (c : Thread nD τ) ↦{fullShare.right} T1)
        ∗ (∃ d, owns (c : Thread nD τ) arg7 fullShare d)
        ∗ (gM.view.loc (c : Thread nD τ) ↦{fullShare} a0)
        ∗ (uM.view.loc (c : Thread nD τ) ↦{fullShare} a1)
        ∗ (dM.view.loc (c : Thread nD τ) ↦{fullShare} a2)
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (teM.view.loc (c : Thread nD τ) ↦{fullShare.right} T0)
            ∗ (nvM.view.loc (c : Thread nD τ) ↦{fullShare.right} T1)
            ∗ owns (c : Thread nD τ) arg7 fullShare (outBlk x0 (k0_pay1 x1) (k0_pay2 x2) (k0_pay3 x3))
            ∗ (gM.view.loc (c : Thread nD τ) ↦{fullShare} k0_pay1 x1)
            ∗ (uM.view.loc (c : Thread nD τ) ↦{fullShare} k0_pay2 x2)
            ∗ (dM.view.loc (c : Thread nD τ) ↦{fullShare} k0_pay3 x3)) -∗ K ⟨⟩))
      ⊢ wp frame (wpE (defs₀ (F := F)) Variants.none c none) Set.univ (cc0_experts i teM (Memref.isWhole_whole _) nvM (Memref.isWhole_whole _) arg3 harg3 arg4 harg4 arg5 harg5 arg6 harg6 arg7 harg7 gM (Memref.isWhole_whole _) uM (Memref.isWhole_whole _) dM (Memref.isWhole_whole _)) K := by
  unfold owns
  rw [cc0_experts_eq_skeleton]; unfold cc0_experts_skel
  iintro ⟨H0, H1, H2, H3, HT0, HT1, ⟨%d4, %f4, -, HO4⟩, HS0, HS1, HS2, Hk⟩
  have hS0 : gM.IsWhole := Memref.isWhole_whole cc0_scratch0
  have hS1 : uM.IsWhole := Memref.isWhole_whole cc0_scratch1
  have hS2 : dM.IsWhole := Memref.isWhole_whole cc0_scratch2
  have hT0 : teM.IsWhole := Memref.isWhole_whole main_arg0
  have hT1 : nvM.IsWhole := Memref.isWhole_whole main_arg1
  sl_exec! (disch := first | (guard_target = Scalar.cmpi = _; exact hf) | (guard_target = k0_cond2 _ _ = _; exact h2) | (guard_target = ¬(k0_cond3 _ _ = _); exact h3))
  rw [wp_ret]; imodintro
  have s0 : gM.view.writes (Elt F) gM.view.junk (run_load.sl.HS0_1 arg4 x1) = k0_pay1 x1 := by
    unfold run_load.sl.HS0_1
    rw [load_full arg4.view _ off4, View.read_rep]
    exact (read_gM _).symm.trans (store_full gM.view gM.view.junk off2 _ _)
  have e0 : gM.view.readCov (Val := Elt F) (run_load.sl.HS0_1 arg4 x1) (Rect.unit (s := S2048x512) ![0, 0] S2048x512.size inb_S2048x512_S2048x512_0_0).toLoadRect = k0_pay1 x1 := by
    unfold run_load.sl.HS0_1
    rw [View.readCov_eq_canon', View.canon_unit_zero off2, load_full arg4.view _ off4, View.read_rep]
    exact View.ld_unit_zero (Val := Elt F) (e := .bf16) (S := S2048x512) (off := ![0, 0]) off2 inb_S2048x512_S2048x512_0_0 (k0_pay1 x1)
  have s1 : uM.view.writes (Elt F) uM.view.junk (run_load.sl.HS1_1 arg5 x2) = k0_pay2 x2 := by
    unfold run_load.sl.HS1_1
    rw [load_full arg5.view _ off4, View.read_rep]
    exact (read_uM _).symm.trans (store_full uM.view uM.view.junk off2 _ _)
  have e1 : uM.view.readCov (Val := Elt F) (run_load.sl.HS1_1 arg5 x2) (Rect.unit (s := S2048x512) ![0, 0] S2048x512.size inb_S2048x512_S2048x512_0_0).toLoadRect = k0_pay2 x2 := by
    unfold run_load.sl.HS1_1
    rw [View.readCov_eq_canon', View.canon_unit_zero off2, load_full arg5.view _ off4, View.read_rep]
    exact View.ld_unit_zero (Val := Elt F) (e := .bf16) (S := S2048x512) (off := ![0, 0]) off2 inb_S2048x512_S2048x512_0_0 (k0_pay2 x2)
  have s2 : dM.view.writes (Elt F) dM.view.junk (run_load.sl.HS2_1 arg6 x3) = k0_pay3 x3 := by
    unfold run_load.sl.HS2_1
    rw [load_full arg6.view _ off4, View.read_rep]
    exact (read_dM _).symm.trans (store_full dM.view dM.view.junk off2 _ _)
  have e2 : dM.view.readCov (Val := Elt F) (run_load.sl.HS2_1 arg6 x3) (Rect.unit (s := S512x2048) ![0, 0] S512x2048.size inb_S512x2048_S512x2048_0_0).toLoadRect = k0_pay3 x3 := by
    unfold run_load.sl.HS2_1
    rw [View.readCov_eq_canon', View.canon_unit_zero off2, load_full arg6.view _ off4, View.read_rep]
    exact View.ld_unit_zero (Val := Elt F) (e := .bf16) (S := S512x2048) (off := ![0, 0]) off2 inb_S512x2048_S512x2048_0_0 (k0_pay3 x3)
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _
    isplitr
    rotate_left
    · iexact HO4
    · ipureintro
      refine (read_stores arg7.view f4 _ _ _ _ _).trans ?_
      refine (outOf_loads arg3 x0 _ _ _).trans ?_
      exact congr (congrArg₂ (outBlk x0) e0 e1) e2
  isplitl [HS0]
  · ihave H := (show (gM.view.loc (c : Thread nD τ) ↦{fullShare} gM.view.writes (Elt F) gM.view.junk (run_load.sl.HS0_1 arg4 x1)) ⊢ (gM.view.loc (c : Thread nD τ) ↦{fullShare} k0_pay1 x1) from by rw [s0]) $$ HS0
    iexact H
  isplitl [HS1]
  · ihave H := (show (uM.view.loc (c : Thread nD τ) ↦{fullShare} uM.view.writes (Elt F) uM.view.junk (run_load.sl.HS1_1 arg5 x2)) ⊢ (uM.view.loc (c : Thread nD τ) ↦{fullShare} k0_pay2 x2) from by rw [s1]) $$ HS1
    iexact H
  ihave H := (show (dM.view.loc (c : Thread nD τ) ↦{fullShare} dM.view.writes (Elt F) dM.view.junk (run_load.sl.HS2_1 arg6 x3)) ⊢ (dM.view.loc (c : Thread nD τ) ↦{fullShare} k0_pay3 x3) from by rw [s2]) $$ HS2
  iexact H

set_option backward.proofsInPublic true in
set_option maxHeartbeats 8000000 in
/-- The body at a tile that is not used: it stores zeros. -/
theorem run_skip (c : Dev nD) (i : grid0.Coords) (arg3 : Memref sig .tc .vmem S4096x128 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S4096x128 .f32) (harg7 : arg7.IsWhole)
    (T0 : S164.Idx → Elt F .i32) (T1 : S1.Idx → Elt F .i32)
    (x0 : S4096x128.Idx → Elt F .f32) (x1 x2 : S1x1x2048x512.Idx → Elt F .f32) (x3 : S1x1x512x2048.Idx → Elt F .f32)
    (a0 : Buf (Elt F) ((c : Thread nD τ).loc cc0_scratch0)) (a1 : Buf (Elt F) ((c : Thread nD τ).loc cc0_scratch1)) (a2 : Buf (Elt F) ((c : Thread nD τ).loc cc0_scratch2))
    (hf : ¬ Fresh T0 T1 i) (h2 : ¬ k0_cond2 i (nvAt T1) = 1#1) (h3 : k0_cond3 i (nvAt T1) = 1#1) (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (arg5.view.loc (c : Thread nD τ) ↦[arg5.view.set]{fullShare} arg5.view.rep x2)
        ∗ (arg6.view.loc (c : Thread nD τ) ↦[arg6.view.set]{fullShare} arg6.view.rep x3)
        ∗ (teM.view.loc (c : Thread nD τ) ↦{fullShare.right} T0)
        ∗ (nvM.view.loc (c : Thread nD τ) ↦{fullShare.right} T1)
        ∗ (∃ d, owns (c : Thread nD τ) arg7 fullShare d)
        ∗ (gM.view.loc (c : Thread nD τ) ↦{fullShare} a0)
        ∗ (uM.view.loc (c : Thread nD τ) ↦{fullShare} a1)
        ∗ (dM.view.loc (c : Thread nD τ) ↦{fullShare} a2)
        ∗ (iprop((arg3.view.loc (c : Thread nD τ) ↦[arg3.view.set]{fullShare} arg3.view.rep x0)
            ∗ (arg4.view.loc (c : Thread nD τ) ↦[arg4.view.set]{fullShare} arg4.view.rep x1)
            ∗ (arg5.view.loc (c : Thread nD τ) ↦[arg5.view.set]{fullShare} arg5.view.rep x2)
            ∗ (arg6.view.loc (c : Thread nD τ) ↦[arg6.view.set]{fullShare} arg6.view.rep x3)
            ∗ (teM.view.loc (c : Thread nD τ) ↦{fullShare.right} T0)
            ∗ (nvM.view.loc (c : Thread nD τ) ↦{fullShare.right} T1)
            ∗ owns (c : Thread nD τ) arg7 fullShare (k0_pay4 (F := F))
            ∗ (gM.view.loc (c : Thread nD τ) ↦{fullShare} a0)
            ∗ (uM.view.loc (c : Thread nD τ) ↦{fullShare} a1)
            ∗ (dM.view.loc (c : Thread nD τ) ↦{fullShare} a2)) -∗ K ⟨⟩))
      ⊢ wp frame (wpE (defs₀ (F := F)) Variants.none c none) Set.univ (cc0_experts i teM (Memref.isWhole_whole _) nvM (Memref.isWhole_whole _) arg3 harg3 arg4 harg4 arg5 harg5 arg6 harg6 arg7 harg7 gM (Memref.isWhole_whole _) uM (Memref.isWhole_whole _) dM (Memref.isWhole_whole _)) K := by
  unfold owns
  rw [cc0_experts_eq_skeleton]; unfold cc0_experts_skel
  iintro ⟨H0, H1, H2, H3, HT0, HT1, ⟨%d4, %f4, -, HO4⟩, HS0, HS1, HS2, Hk⟩
  have hS0 : gM.IsWhole := Memref.isWhole_whole cc0_scratch0
  have hS1 : uM.IsWhole := Memref.isWhole_whole cc0_scratch1
  have hS2 : dM.IsWhole := Memref.isWhole_whole cc0_scratch2
  have hT0 : teM.IsWhole := Memref.isWhole_whole main_arg0
  have hT1 : nvM.IsWhole := Memref.isWhole_whole main_arg1
  sl_exec! (disch := first | (guard_target = ¬(Scalar.cmpi = _); exact hf) | (guard_target = ¬(k0_cond2 _ _ = _); exact h2) | (guard_target = k0_cond3 _ _ = _; exact h3))
  rw [wp_ret]; imodintro
  iapply Hk
  isplitl [H0]; · iexact H0
  isplitl [H1]; · iexact H1
  isplitl [H2]; · iexact H2
  isplitl [H3]; · iexact H3
  isplitl [HT0]; · iexact HT0
  isplitl [HT1]; · iexact HT1
  isplitl [HO4]
  · iexists _
    isplitr
    rotate_left
    · iexact HO4
    · ipureintro
      exact store_full arg7.view _ off2 _ _
  isplitl [HS0]; · iexact HS0
  isplitl [HS1]; · iexact HS1
  iexact HS2

end Cert.Kernel2Ideal.Expert
end
-- ==== Proof.ExpertTables.lean ====
module
public import proofs.«01_k».proof.Proof.ExpertRun
public import Idealize.ShloMosaic.Lib.Pointwise

/-!
# What the two tables say

The table of experts names every tile's expert, the count says how many tiles are used. Of tables in range: which tiles the
body computes at, at which it takes new weights, and which blocks the windows name.
-/

@[expose] public section

set_option maxRecDepth 16384

noncomputable section

namespace Cert.Kernel2Ideal.Expert

open Cert.Kernel2Ideal Cert.Kernel2Ideal.Gen
open Idealize.ShloMosaic
open Idealize.ShloMosaic.TcCoe

variable {F : FTy → Type} [FloatOps F]

/-- The expert of a tile. -/
def expert (T0 : S164.Idx → Elt F .i32) (n : ℕ) : ℕ := BitVec.toNat (w := 32) (T0 (ix1 (Fin.ofNat 164 n)))

/-- How many tiles are used. -/
def used (T1 : S1.Idx → Elt F .i32) : ℕ := BitVec.toNat (w := 32) (T1 (ix1 0))

/-- Every tile names one of the experts, and at least one tile and no more than all are used. -/
structure InRange (T0 : S164.Idx → Elt F .i32) (T1 : S1.Idx → Elt F .i32) : Prop where
  expert_lt : ∀ n, expert T0 n < 32
  used_pos : 1 ≤ used T1
  used_le : used T1 ≤ 164

/-- The count as the body reads it. -/
theorem nvAt_eq (T1 : S1.Idx → Elt F .i32) : nvAt T1 = T1 (ix1 0) :=
  congrArg T1 (funext fun a => by fin_cases a; rfl)

/-- A tile's expert as the body reads it. -/
theorem teAt_eq (T0 : S164.Idx → Elt F .i32) (i : grid0.Coords) : teAt T0 i = T0 (ix1 (i 0)) := by
  refine congrArg T0 (funext fun a => ?_)
  fin_cases a
  refine Fin.ext ?_
  show k0_off1 i 0 + 1 * 0 = (i 0).val
  rw [k0_off1_eq]
  rfl

/-- The offsets of the load of the tile before, which is the tile itself at the first. -/
theorem off_prev : ∀ i : grid0.Coords, k0_off2 i = ![(i 0).val - 1] := by decide +kernel

/-- The expert of the tile before as the body reads it. -/
theorem tePrev_eq (T0 : S164.Idx → Elt F .i32) (i : grid0.Coords) :
    tePrev T0 i = T0 (ix1 ⟨(i 0).val - 1, by have := (i 0).isLt; have e : grid0.bound 0 = 164 := rfl; omega⟩) := by
  refine congrArg T0 (funext fun a => ?_)
  fin_cases a
  refine Fin.ext ?_
  show k0_off2 i 0 + 1 * 0 = (i 0).val - 1
  rw [off_prev]
  rfl

/-- A signed comparison of a tile with a small word compares the numbers. -/
theorem slt_tile (n : ℕ) (v : BitVec 32) (hn : n < 164) (hv : v.toNat ≤ 164) :
    Scalar.cmpi .slt (BitVec.ofNat 32 n) v = BitVec.ofBool (decide (n < v.toNat)) := by
  show BitVec.ofBool (BitVec.slt _ _) = _
  congr 1
  have h1 : (BitVec.ofNat 32 n).toNat = n := by rw [BitVec.toNat_ofNat]; omega
  rw [BitVec.slt_eq_decide, BitVec.toInt_eq_toNat_of_lt (by omega), BitVec.toInt_eq_toNat_of_lt (by omega), h1]
  simp

/-- The tile is computed at exactly if it is used. -/
theorem cond2_iff {T0 : S164.Idx → Elt F .i32} {T1 : S1.Idx → Elt F .i32} (hr : InRange T0 T1) (i : grid0.Coords) :
    k0_cond2 i (nvAt T1) = 1#1 ↔ (i 0).val < used T1 := by
  have h := slt_tile (i 0).val (T1 (ix1 0)) (i 0).isLt hr.used_le
  rw [nvAt_eq]
  unfold k0_cond2 used
  dsimp only
  rw [h]
  by_cases hl : (i 0).val < BitVec.toNat (w := 32) (T1 (ix1 0))
  · simp only [hl]; decide
  · simp only [hl]; decide

/-- Zeros are stored exactly at the other tiles. -/
theorem cond3_iff {T0 : S164.Idx → Elt F .i32} {T1 : S1.Idx → Elt F .i32} (hr : InRange T0 T1) (i : grid0.Coords) :
    k0_cond3 i (nvAt T1) = 1#1 ↔ ¬ (i 0).val < used T1 := by
  have h := slt_tile (i 0).val (T1 (ix1 0)) (i 0).isLt hr.used_le
  rw [nvAt_eq]
  unfold k0_cond3 used
  dsimp only
  rw [h]
  by_cases hl : (i 0).val < BitVec.toNat (w := 32) (T1 (ix1 0))
  · simp only [hl]; decide
  · simp only [hl]; decide

/-- A conjunction of a bit with a disjunction of two, as a condition reads it. -/
theorem fresh_bits : ∀ a b c : BitVec 1, Scalar.cmpi .ne (Scalar.extui (Scalar.andi a (Scalar.ori b c)) : BitVec 32) 0#32 = 1#1 ↔
    a = 1#1 ∧ (b = 1#1 ∨ c = 1#1) := by decide

/-- New weights are not taken at a tile that is not used. -/
theorem not_fresh_of_not_used {T0 : S164.Idx → Elt F .i32} {T1 : S1.Idx → Elt F .i32} (hr : InRange T0 T1) (i : grid0.Coords)
    (h : ¬ (i 0).val < used T1) : ¬ Fresh T0 T1 i := by
  intro hf
  have h1 := ((fresh_bits _ _ _).mp hf).1
  rw [nvAt_eq, slt_tile (i 0).val (T1 (ix1 0)) (i 0).isLt hr.used_le] at h1
  have hd : decide ((i 0).val < BitVec.toNat (w := 32) (T1 (ix1 0))) = false := decide_eq_false h
  rw [hd] at h1
  exact absurd h1 (by decide)

/-- At a used tile where no new weights are taken, the tile is not the first and its expert is the one of the tile before. -/
theorem same_of_not_fresh {T0 : S164.Idx → Elt F .i32} {T1 : S1.Idx → Elt F .i32} (hr : InRange T0 T1) (i : grid0.Coords)
    (h : (i 0).val < used T1) (hf : ¬ Fresh T0 T1 i) : (i 0).val ≠ 0 ∧ expert T0 (i 0).val = expert T0 ((i 0).val - 1) := by
  have hlt : (i 0).val < 164 := (i 0).isLt
  have h1 : Scalar.cmpi .slt (BitVec.ofNat 32 (i 0).val) (nvAt T1) = 1#1 := by
    rw [nvAt_eq, slt_tile (i 0).val (T1 (ix1 0)) (i 0).isLt hr.used_le]
    have hd : decide ((i 0).val < BitVec.toNat (w := 32) (T1 (ix1 0))) = true := decide_eq_true h
    rw [hd]; rfl
  have h2 : ¬ (Scalar.cmpi .eq (BitVec.ofNat 32 (i 0).val) 0#32 = 1#1 ∨ Scalar.cmpi .ne (teAt T0 i) (tePrev T0 i) = 1#1) :=
    fun h2 => hf ((fresh_bits _ _ _).mpr ⟨h1, h2⟩)
  constructor
  · intro h0
    exact h2 (.inl (by rw [h0]; decide))
  · by_contra hne
    refine h2 (.inr ?_)
    rw [teAt_eq, tePrev_eq]
    show BitVec.ofBool (_ != _) = 1#1
    have hb : ((T0 (ix1 (i 0)) : BitVec 32) != T0 (ix1 ⟨(i 0).val - 1, by have e : grid0.bound 0 = 164 := rfl; omega⟩)) = true := by
      rw [bne_iff_ne]
      intro e
      apply hne
      unfold expert
      have a1 : (Fin.ofNat 164 (i 0).val : Fin 164) = i 0 := Fin.ext (Nat.mod_eq_of_lt hlt)
      have a2 : (Fin.ofNat 164 ((i 0).val - 1) : Fin 164) = ⟨(i 0).val - 1, by omega⟩ := Fin.ext (Nat.mod_eq_of_lt (by omega))
      rw [a1, a2]
      exact congrArg BitVec.toNat e
    rw [hb]; rfl

/-- The smaller of a tile and the last used tile, as words. -/
theorem min_word (n : ℕ) (v : BitVec 32) (hn : n < 164) (h1 : 1 ≤ v.toNat) (h2 : v.toNat ≤ 164) :
    (Scalar.minsi (BitVec.ofNat 32 n) (Scalar.subi v 1#32)).toNat = min n (v.toNat - 1) := by
  have hs : (Scalar.subi v 1#32).toNat = v.toNat - 1 := by
    show (v - 1#32).toNat = _
    rw [BitVec.toNat_sub]; simp; omega
  have hb : (BitVec.ofNat 32 n).toNat = n := by rw [BitVec.toNat_ofNat]; omega
  have hc : BitVec.slt (BitVec.ofNat 32 n) (Scalar.subi v 1#32) = decide (n < v.toNat - 1) := by
    rw [BitVec.slt_eq_decide, BitVec.toInt_eq_toNat_of_lt (by omega), BitVec.toInt_eq_toNat_of_lt (by omega), hb, hs]
    simp
  unfold Scalar.minsi IntOp.minsi
  split <;> rename_i hh <;> simp_all <;> omega

/-- The rows' window names the tile's block, and past the used tiles the last used one. -/
theorem map_rows (pf : pre0.Contents (Elt F)) (hr : InRange (pf 0) (pf 1)) (i : grid0.Coords) :
    cc0_transform_0 inb_S1_S1_0 numel1_S1 pf i = ![min (i 0).val (used (pf 1) - 1), 0] := by
  have hlt : (i 0).val < 164 := (i 0).isLt
  have h1 := hr.used_pos
  have h2 := hr.used_le
  have e : pf.at 1 (Rect.unit (s := S1) ![0] S1.size inb_S1_S1_0) numel1_S1 = pf 1 (ix1 0) :=
    congrArg (pf 1) (funext fun a => by fin_cases a; rfl)
  unfold cc0_transform_0
  dsimp only
  rw [e]
  have hm := min_word (i 0).val (pf 1 (ix1 0)) hlt h1 h2
  funext a
  fin_cases a
  · exact hm
  · rfl

/-- The windows of weights name the tile's expert. -/
theorem map_weights (pf : pre0.Contents (Elt F)) (i : grid0.Coords) :
    cc0_transform_1 k0_off1_inb numel1_S1 pf i = ![0, expert (pf 0) (i 0).val, 0, 0] := by
  have hlt : (i 0).val < 164 := (i 0).isLt
  have e : pf.at 0 (Rect.unit (s := S164) (k0_off1 i) S1.size (k0_off1_inb i)) numel1_S1 = pf 0 (ix1 (Fin.ofNat 164 (i 0).val)) := by
    refine congrArg (pf 0) (funext fun a => ?_)
    fin_cases a
    refine Fin.ext ?_
    show k0_off1 i 0 + 1 * 0 = (i 0).val % 164
    rw [k0_off1_eq]
    show (i 0).val + 1 * 0 = _
    omega
  unfold expert
  rw [← e]
  rfl

/-- Tables in range name blocks inside the arrays. -/
theorem ok_tables (pf : pre0.Contents (Elt F)) (hr : InRange (pf 0) (pf 1)) : ok0 pf := by
  have hw := fun n => hr.expert_lt n
  have h2 := hr.used_le
  have h1 := hr.used_pos
  refine ⟨fun i => ⟨?_, .inl rfl⟩, fun i => ⟨?_, .inl rfl⟩, fun i => ⟨?_, .inl rfl⟩, fun i => ⟨?_, .inl rfl⟩⟩
  · rw [map_rows pf hr i]
    intro a
    fin_cases a
    · show (min (i 0).val (used (pf 1) - 1) + 1) * 4096 ≤ 671744
      omega
    · show (0 + 1) * 128 ≤ 128
      omega
  · rw [map_weights pf i]
    have := hw (i 0).val
    intro a
    fin_cases a
    · show (0 + 1) * 1 ≤ 1; omega
    · show (expert (pf 0) (i 0).val + 1) * 1 ≤ 32; omega
    · show (0 + 1) * 2048 ≤ 2048; omega
    · show (0 + 1) * 512 ≤ 512; omega
  · rw [show cc0_transform_2 k0_off1_inb numel1_S1 pf i = _ from map_weights pf i]
    have := hw (i 0).val
    intro a
    fin_cases a
    · show (0 + 1) * 1 ≤ 1; omega
    · show (expert (pf 0) (i 0).val + 1) * 1 ≤ 32; omega
    · show (0 + 1) * 2048 ≤ 2048; omega
    · show (0 + 1) * 512 ≤ 512; omega
  · rw [show cc0_transform_3 k0_off1_inb numel1_S1 pf i = _ from map_weights pf i]
    have := hw (i 0).val
    intro a
    fin_cases a
    · show (0 + 1) * 1 ≤ 1; omega
    · show (expert (pf 0) (i 0).val + 1) * 1 ≤ 32; omega
    · show (0 + 1) * 512 ≤ 512; omega
    · show (0 + 1) * 2048 ≤ 2048; omega

end Cert.Kernel2Ideal.Expert
end
-- ==== Proof.ExpertBounds.lean ====
module
public import proofs.«01_k».proof.Proof.ExpertTables
public import proofs.«01_k».proof.Proof.Gen.Pre_tables_in_range
public import Idealize.ShloMosaic.Lib.ReduceAll

/-!
# What the precondition on the tables says

Every tile's number is one of an expert, and the count of used tiles is at least one and no more than all.
-/

@[expose] public section

set_option maxRecDepth 16384

noncomputable section

namespace Cert.Kernel2Ideal.Expert

open Idealize.ShloMosaic
open Cert.Pre_tables_in_range

variable {F : FTy → Type} [FloatOps F]

/-- Two bits whose conjunction is one are both one. -/
theorem both_bits : ∀ a b : BitVec 1, IntOp.andi a b = 1#1 → a = 1#1 ∧ b = 1#1 := by decide

/-- A bit of a truth value that is one. -/
theorem true_of_bit : ∀ b : Bool, BitVec.ofBool b = 1#1 → b = true := by decide

/-- A word at least zero and less than 32, as signed numbers, is less than 32. -/
theorem word_lt (v : BitVec 32) (h1 : IntOp.cmpi CmpIPredicate.sge v 0#32 = 1#1) (h2 : IntOp.cmpi CmpIPredicate.slt v 32#32 = 1#1) : v.toNat < 32 := by
  have a := true_of_bit _ h1
  have b := true_of_bit _ h2
  simp only [BitVec.sle_eq_decide, BitVec.slt_eq_decide, decide_eq_true_eq] at a b
  have z : (0#32).toInt = 0 := by decide
  have t : (32#32).toInt = 32 := by decide
  rw [z] at a
  rw [t] at b
  rw [BitVec.toInt_eq_toNat_cond] at a b
  have := v.isLt
  split at a <;> split at b <;> omega

/-- A word between one and 164, as signed numbers, is between them. -/
theorem word_between (v : BitVec 32) (h1 : IntOp.cmpi CmpIPredicate.sge v 1#32 = 1#1) (h2 : IntOp.cmpi CmpIPredicate.sle v 164#32 = 1#1) :
    1 ≤ v.toNat ∧ v.toNat ≤ 164 := by
  have a := true_of_bit _ h1
  have b := true_of_bit _ h2
  simp only [BitVec.sle_eq_decide, decide_eq_true_eq] at a b
  have z : (1#32).toInt = 1 := by decide
  have t : (164#32).toInt = 164 := by decide
  rw [z] at a
  rw [t] at b
  rw [BitVec.toInt_eq_toNat_cond] at a b
  have := v.isLt
  split at a <;> split at b <;> omega

/-- The precondition gives tables in range. -/
theorem in_range [Facts] (te : IVec S164 32) (nv : IVec S1 32) (x : FVec F S671744x128 .f32) (wg wu : FVec F S1x32x2048x512 .f32) (wd : FVec F S1x32x512x2048 .f32)
    (h : Cert.Pre_tables_in_range.fn (F := F) te nv x wg wu wd = fun _ => 1#1) : InRange (F := F) te nv := by
  haveI : Subsingleton S_.Idx := ⟨fun a b => funext fun i => i.elim0⟩
  have e := congrFun h (Shape.Idx.first Facts.h_S_)
  obtain ⟨et, en⟩ := both_bits _ _ e
  have ht := Host.reduce_andi_all _ _ Facts.reducesTo_S164_S_d0 Facts.h_S_ _ et
  have hn := Host.reduce_andi_all _ _ Facts.reducesTo_S1_S_d0 Facts.h_S_ _ en
  obtain ⟨n1, n2⟩ := both_bits _ _ (hn (ix1 0))
  obtain ⟨b1, b2⟩ := word_between (nv (ix1 0)) n1 n2
  refine ⟨fun n => ?_, b1, b2⟩
  obtain ⟨t1, t2⟩ := both_bits _ _ (ht (ix1 (Fin.ofNat 164 n)))
  exact word_lt (te (ix1 (Fin.ofNat 164 n))) t1 t2

end Cert.Kernel2Ideal.Expert

end
-- ==== Proof.ExpertData.lean ====
module
public import proofs.«01_k».proof.Proof.ExpertTables
public import proofs.«01_k».proof.Proof.Gen.Kernel2Ideal.Launch
public import Idealize.ShloMosaic.Lib.Pipeline.Quiescent
public import Idealize.ShloMosaic.Lib.Pipeline.FrameBody
public import Idealize.ShloMosaic.Lib.Pipeline.TableIdle
public import Idealize.ShloMosaic.Lib.Claim
public import Idealize.ShloMosaic.Adequacy
public import Idealize.ShloMosaic.Init
public import Idealize.ShloMosaic.Lib.Pipeline.ValueKit.Point

/-!
# The pipeline's data and what the body does at every tile

The weights kept at a tile are those of the tile before if that one is used, so at a tile of the same expert they are the
tile's own.
-/

@[expose] public section

set_option maxRecDepth 16384
set_option Elab.async false

noncomputable section

namespace Cert.Kernel2Ideal.Expert

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (a : (pcfg0 (F := F)).Adm)
variable (m : (ℓ : Loc nD τ sig) → Buf (Elt F) ℓ) (ρ : Dev nD → PrngReg)

/-- The pipeline at the tables. -/
abbrev cfgA : Pipeline.Cfg sig Λ₀ := cfg0 (F := F) a
/-- The pipelines of the program at the tables: the one. -/
abbrev pcs : Fin 1 → Pipeline.Cfg sig Λ₀ := Pipeline.pin (pcfgs (F := F)) fun _ => a

/-- A point's coordinates. -/
abbrev crd (t : Fin (cfgA a).N) : (cfgA a).grid.Coords := (cfgA a).grid.coords t

/-- The staging buffers at a point. -/
abbrev st0 (t : Fin (cfgA a).N) : Memref sig .tc .vmem S4096x128 .f32 := spec0_0.stage ((cfgA a).slots t (0 : Fin 5))
/-- The staging buffer of the first weights in. -/
abbrev st1 (t : Fin (cfgA a).N) : Memref sig .tc .vmem S1x1x2048x512 .f32 := spec0_1.stage ((cfgA a).slots t (1 : Fin 5))
/-- The staging buffer of the second weights in. -/
abbrev st2 (t : Fin (cfgA a).N) : Memref sig .tc .vmem S1x1x2048x512 .f32 := spec0_2.stage ((cfgA a).slots t (2 : Fin 5))
/-- The staging buffer of the weights out. -/
abbrev st3 (t : Fin (cfgA a).N) : Memref sig .tc .vmem S1x1x512x2048 .f32 := spec0_3.stage ((cfgA a).slots t (3 : Fin 5))
/-- The staging buffer of the result. -/
abbrev st4 (t : Fin (cfgA a).N) : Memref sig .tc .vmem S4096x128 .f32 := spec0_4.stage ((cfgA a).slots t (4 : Fin 5))
/-- They are whole buffers. -/
abbrev hst0 (t : Fin (cfgA a).N) : (st0 a t).IsWhole := hstage0_0 (((cfgA a).slots t (0 : Fin 5)).cast nbuf0_0)
/-- The first weights in have a whole buffer. -/
abbrev hst1 (t : Fin (cfgA a).N) : (st1 a t).IsWhole := hstage0_1 (((cfgA a).slots t (1 : Fin 5)).cast nbuf0_1)
/-- The second weights in have a whole buffer. -/
abbrev hst2 (t : Fin (cfgA a).N) : (st2 a t).IsWhole := hstage0_2 (((cfgA a).slots t (2 : Fin 5)).cast nbuf0_2)
/-- The weights out have a whole buffer. -/
abbrev hst3 (t : Fin (cfgA a).N) : (st3 a t).IsWhole := hstage0_3 (((cfgA a).slots t (3 : Fin 5)).cast nbuf0_3)
/-- The result has a whole buffer. -/
abbrev hst4 (t : Fin (cfgA a).N) : (st4 a t).IsWhole := hstage0_4 (((cfgA a).slots t (4 : Fin 5)).cast nbuf0_4)

/-- A window's block at a point, read off its array at the start. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-- A point's coordinate is its number. -/
theorem crd_val (t : Fin (cfgA a).N) : (crd a t (0 : Fin 1)).val = t.val := by
  have h := Pipeline.Grid.coords_val (G := grid0) t 0 (S := 1) (B := 164) (by decide) rfl
  have hl : t.val < 164 := lt_of_lt_of_eq t.isLt N_0
  refine h.trans ?_
  omega

/-- The blocks of weights a point names. -/
theorem idx_gate (t : Fin (cfgA a).N) : ((cfgA a).win (1 : Fin 5)).index t = ![0, expert (a.1 0) t.val, 0, 0] := by
  refine (map_weights a.1 (crd a t)).trans ?_
  rw [crd_val]
/-- The second weights in are of the same expert. -/
theorem idx_up (t : Fin (cfgA a).N) : ((cfgA a).win (2 : Fin 5)).index t = ![0, expert (a.1 0) t.val, 0, 0] := by
  refine (map_weights a.1 (crd a t)).trans ?_
  rw [crd_val]
/-- The weights out are of the same expert. -/
theorem idx_down (t : Fin (cfgA a).N) : ((cfgA a).win (3 : Fin 5)).index t = ![0, expert (a.1 0) t.val, 0, 0] := by
  refine (map_weights a.1 (crd a t)).trans ?_
  rw [crd_val]
/-- The block of the result at a point. -/
theorem idx_out (t : Fin (cfgA a).N) : ((cfgA a).win (4 : Fin 5)).index t = ![t.val, 0] := by
  have hl : t.val < 164 := lt_of_lt_of_eq t.isLt N_0
  have h : ∀ i : grid0.Coords, cc0_transform_4 i = ![(i 0).val, 0] := by decide +kernel
  refine (h (crd a t)).trans ?_
  rw [crd_val]

variable (hr : InRange (a.1 0) (a.1 1))
include hr

/-- The block of rows a point names. -/
theorem idx_rows (t : Fin (cfgA a).N) : ((cfgA a).win (0 : Fin 5)).index t = ![min t.val (used (a.1 1) - 1), 0] := by
  refine (map_rows a.1 hr (crd a t)).trans ?_
  rw [crd_val]

/-- The gate's weights at a point are the tile's expert's. -/
theorem blk_gate (c : Dev nD) (t : Fin (cfgA a).N) (y : S1x1x2048x512.Idx) :
    iblk a m ρ c (1 : Fin 5) t y
      = m ((c : Thread nD τ).loc main_arg3) (ix4 0 ⟨expert (a.1 0) t.val, hr.expert_lt _⟩ (y 2) (y 3)) := by
  show m ((c : Thread nD τ).loc main_arg3) _ = _
  refine congrArg _ (funext fun b => Fin.ext ?_)
  have hx := hr.expert_lt t.val
  refine (Pipeline.Window.rect_emb_val ((cfgA a).win (1 : Fin 5)) t y b).trans ?_
  rw [idx_gate]
  have h0 : (y 0).val < 1 := (y 0).isLt
  have h1 : (y 1).val < 1 := (y 1).isLt
  fin_cases b
  · show 0 * 1 + (y 0).val = 0; omega
  · show expert (a.1 0) t.val * 1 + (y 1).val = expert (a.1 0) t.val; omega
  · show 0 * 2048 + (y 2).val = (y 2).val; omega
  · show 0 * 512 + (y 3).val = (y 3).val; omega

/-- So are the other weights in, -/
theorem blk_up (c : Dev nD) (t : Fin (cfgA a).N) (y : S1x1x2048x512.Idx) :
    iblk a m ρ c (2 : Fin 5) t y
      = m ((c : Thread nD τ).loc main_arg4) (ix4 0 ⟨expert (a.1 0) t.val, hr.expert_lt _⟩ (y 2) (y 3)) := by
  show m ((c : Thread nD τ).loc main_arg4) _ = _
  refine congrArg _ (funext fun b => Fin.ext ?_)
  have hx := hr.expert_lt t.val
  refine (Pipeline.Window.rect_emb_val ((cfgA a).win (2 : Fin 5)) t y b).trans ?_
  rw [idx_up]
  have h0 : (y 0).val < 1 := (y 0).isLt
  have h1 : (y 1).val < 1 := (y 1).isLt
  fin_cases b
  · show 0 * 1 + (y 0).val = 0; omega
  · show expert (a.1 0) t.val * 1 + (y 1).val = expert (a.1 0) t.val; omega
  · show 0 * 2048 + (y 2).val = (y 2).val; omega
  · show 0 * 512 + (y 3).val = (y 3).val; omega

/-- and the weights out. -/
theorem blk_down (c : Dev nD) (t : Fin (cfgA a).N) (y : S1x1x512x2048.Idx) :
    iblk a m ρ c (3 : Fin 5) t y
      = m ((c : Thread nD τ).loc main_arg5) (ix4 0 ⟨expert (a.1 0) t.val, hr.expert_lt _⟩ (y 2) (y 3)) := by
  show m ((c : Thread nD τ).loc main_arg5) _ = _
  refine congrArg _ (funext fun b => Fin.ext ?_)
  have hx := hr.expert_lt t.val
  refine (Pipeline.Window.rect_emb_val ((cfgA a).win (3 : Fin 5)) t y b).trans ?_
  rw [idx_down]
  have h0 : (y 0).val < 1 := (y 0).isLt
  have h1 : (y 1).val < 1 := (y 1).isLt
  fin_cases b
  · show 0 * 1 + (y 0).val = 0; omega
  · show expert (a.1 0) t.val * 1 + (y 1).val = expert (a.1 0) t.val; omega
  · show 0 * 512 + (y 2).val = (y 2).val; omega
  · show 0 * 2048 + (y 3).val = (y 3).val; omega

/-- The rows of a used tile. -/
theorem blk_rows (c : Dev nD) (t : Fin (cfgA a).N) (hu : t.val < used (a.1 1)) (y : S4096x128.Idx) :
    iblk a m ρ c (0 : Fin 5) t y
      = m ((c : Thread nD τ).loc main_arg2) (ix2 ⟨t.val * 4096 + (y 0).val, by have := hr.used_le; have h0 : (y 0).val < 4096 := (y 0).isLt; omega⟩ (y 1)) := by
  show m ((c : Thread nD τ).loc main_arg2) _ = _
  refine congrArg _ (funext fun b => Fin.ext ?_)
  refine (Pipeline.Window.rect_emb_val ((cfgA a).win (0 : Fin 5)) t y b).trans ?_
  rw [idx_rows a hr]
  fin_cases b
  · show min t.val (used (a.1 1) - 1) * 4096 + (y 0).val = t.val * 4096 + (y 0).val
    rw [show min t.val (used (a.1 1) - 1) = t.val by omega]
  · show 0 * 128 + (y 1).val = (y 1).val; omega

/-- Two points of one expert have the same weights. -/
theorem same_weights (c : Dev nD) (t s : Fin (cfgA a).N) (h : expert (a.1 0) t.val = expert (a.1 0) s.val) :
    iblk a m ρ c (1 : Fin 5) t = iblk a m ρ c (1 : Fin 5) s ∧ iblk a m ρ c (2 : Fin 5) t = iblk a m ρ c (2 : Fin 5) s
      ∧ iblk a m ρ c (3 : Fin 5) t = iblk a m ρ c (3 : Fin 5) s := by
  have e : (⟨expert (a.1 0) t.val, hr.expert_lt _⟩ : Fin 32) = ⟨expert (a.1 0) s.val, hr.expert_lt _⟩ := Fin.ext h
  refine ⟨funext fun y => ?_, funext fun y => ?_, funext fun y => ?_⟩
  · exact (blk_gate a m ρ hr c t y).trans ((congrArg (fun q => m ((c : Thread nD τ).loc main_arg3) (ix4 0 q (y 2) (y 3))) e).trans (blk_gate a m ρ hr c s y).symm)
  · exact (blk_up a m ρ hr c t y).trans ((congrArg (fun q => m ((c : Thread nD τ).loc main_arg4) (ix4 0 q (y 2) (y 3))) e).trans (blk_up a m ρ hr c s y).symm)
  · exact (blk_down a m ρ hr c t y).trans ((congrArg (fun q => m ((c : Thread nD τ).loc main_arg5) (ix4 0 q (y 2) (y 3))) e).trans (blk_down a m ρ hr c s y).symm)

omit hr

/-- What a point leaves of the result. -/
def outAt (c : Dev nD) (t : Fin (cfgA a).N) : Vec F S4096x128 .f32 :=
  if t.val < used (a.1 1) then
    outBlk (iblk a m ρ c (0 : Fin 5) t) (k0_pay1 (iblk a m ρ c (1 : Fin 5) t)) (k0_pay2 (iblk a m ρ c (2 : Fin 5) t)) (k0_pay3 (iblk a m ρ c (3 : Fin 5) t))
  else k0_pay4

/-- What is kept before a point: the weights of the tile before if it is used, and the tables. -/
def Phi (c : Dev nD) (t : Fin ((cfgA a).N + 1)) : sProp 𝕄 :=
  iprop((∃ a0 a1 a2, ⌜∀ s : Fin (cfgA a).N, s.val + 1 = t.val → s.val < used (a.1 1) →
        a0 = k0_pay1 (iblk a m ρ c (1 : Fin 5) s) ∧ a1 = k0_pay2 (iblk a m ρ c (2 : Fin 5) s) ∧ a2 = k0_pay3 (iblk a m ρ c (3 : Fin 5) s)⌝
      ∗ (gM.view.loc (c : Thread nD τ) ↦{fullShare} a0) ∗ (uM.view.loc (c : Thread nD τ) ↦{fullShare} a1) ∗ (dM.view.loc (c : Thread nD τ) ↦{fullShare} a2))
    ∗ (teM.view.loc (c : Thread nD τ) ↦{fullShare.right} (a.1 0)) ∗ (nvM.view.loc (c : Thread nD τ) ↦{fullShare.right} (a.1 1)))

/-- The proof data of the one pipeline. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => outAt a m ρ c t
  Φ t := Phi a m ρ c t
  q _ := fullShare
  owed _ := 0

/-- After the body the rows' window holds its block, -/
theorem after0 (c : Dev nD) (t : Fin (cfgA a).N) : (dats a m ρ 0 c).after (0 : Fin 5) t = iblk a m ρ c (0 : Fin 5) t := rfl
/-- the first weights in theirs, -/
theorem after1 (c : Dev nD) (t : Fin (cfgA a).N) : (dats a m ρ 0 c).after (1 : Fin 5) t = iblk a m ρ c (1 : Fin 5) t := rfl
/-- the second weights in theirs, -/
theorem after2 (c : Dev nD) (t : Fin (cfgA a).N) : (dats a m ρ 0 c).after (2 : Fin 5) t = iblk a m ρ c (2 : Fin 5) t := rfl
/-- the weights out theirs, -/
theorem after3 (c : Dev nD) (t : Fin (cfgA a).N) : (dats a m ρ 0 c).after (3 : Fin 5) t = iblk a m ρ c (3 : Fin 5) t := rfl
/-- and the result's the tile's block. -/
theorem after4 (c : Dev nD) (t : Fin (cfgA a).N) : (dats a m ρ 0 c).after (4 : Fin 5) t = outAt a m ρ c t := rfl

/-! An input window holds its block when the body runs, fetched there or before. -/

/-- The rows. -/
theorem before0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0]; unfold Dat.blockOf iblk; rfl) t d).trans
    (by unfold Dat.fetched Dat.blockOf iblk; rfl)
/-- The first weights in. -/
theorem before1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after1]; unfold Dat.blockOf iblk; rfl) t d).trans
    (by unfold Dat.fetched Dat.blockOf iblk; rfl)
/-- The second weights in. -/
theorem before2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after2]; unfold Dat.blockOf iblk; rfl) t d).trans
    (by unfold Dat.fetched Dat.blockOf iblk; rfl)
/-- The weights out. -/
theorem before3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-- The result's window is written at every tile. -/
theorem not_idle (hr : InRange (a.1 0) (a.1 1)) (t : Fin (cfgA a).N) : (cfgA a).idle (4 : Fin 5) ((cfgA a).grid.coords t) = false := by
  show (!(k0_cond2 (crd a t) (a.1.atD 1 ![0]) == 1#1) && !(k0_cond3 (crd a t) (a.1.atD 1 ![0]) == 1#1)) = false
  have e : a.1.atD 1 ![0] = nvAt (a.1 1) := by
    refine Eq.trans ?_ (nvAt_eq (a.1 1)).symm
    refine (dif_pos (show ∀ b, (![0] : Fin 1 → ℕ) b + 1 ≤ S1.size b from by decide)).trans ?_
    exact congrArg (a.1 1) (funext fun b => by fin_cases b; rfl)
  rw [e]
  by_cases h : (crd a t (0 : Fin 1)).val < used (a.1 1)
  · rw [(cond2_iff hr (crd a t)).mpr h]; rfl
  · rw [(cond3_iff hr (crd a t)).mpr h]; simp

end Cert.Kernel2Ideal.Expert
end
-- ==== Proof.ExpertBody.lean ====
module
public import proofs.«01_k».proof.Proof.ExpertData

/-!
# The body at every tile, and the launch

At a used tile the body ends with the tile's expert's weights kept, taken there or found there, and with the tile's rows
through that expert; at another it ends with zeros. So every execution terminates, with the arrays at what the tiles leave.
-/

@[expose] public section

set_option maxRecDepth 16384
set_option Elab.async false

noncomputable section

namespace Cert.Kernel2Ideal.Expert

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (a : (pcfg0 (F := F)).Adm)
variable (m : (ℓ : Loc nD τ sig) → Buf (Elt F) ℓ) (ρ : Dev nD → PrngReg)

/-- The body at a point, on its staging buffers. -/
abbrev bodyAt (t : Fin (cfgA a).N) : Prog (TpuEff nD τ sig (Elt F) Λ₀ .tc) PUnit :=
  cc0_experts (crd a t) teM (Memref.isWhole_whole _) nvM (Memref.isWhole_whole _) (st0 a t) (hst0 a t) (st1 a t) (hst1 a t) (st2 a t) (hst2 a t) (st3 a t) (hst3 a t) (st4 a t) (hst4 a t) gM (Memref.isWhole_whole _) uM (Memref.isWhole_whole _) dM (Memref.isWhole_whole _)

set_option maxHeartbeats 4000000 in
/-- The body at a point, whichever of the three it is: with the weights of the tile before kept if that one is used, it ends
    with the tile's own kept if the tile is used, and leaves the point's result. -/
theorem body_at (hr : InRange (a.1 0) (a.1 1)) (c : Dev nD) (t : Fin (cfgA a).N) (K : PUnit → sProp 𝕄) :
    iprop(((st0 a t).view.loc (c : Thread nD τ) ↦[(st0 a t).view.set]{fullShare} (st0 a t).view.rep (iblk a m ρ c (0 : Fin 5) t))
        ∗ ((st1 a t).view.loc (c : Thread nD τ) ↦[(st1 a t).view.set]{fullShare} (st1 a t).view.rep (iblk a m ρ c (1 : Fin 5) t))
        ∗ ((st2 a t).view.loc (c : Thread nD τ) ↦[(st2 a t).view.set]{fullShare} (st2 a t).view.rep (iblk a m ρ c (2 : Fin 5) t))
        ∗ ((st3 a t).view.loc (c : Thread nD τ) ↦[(st3 a t).view.set]{fullShare} (st3 a t).view.rep (iblk a m ρ c (3 : Fin 5) t))
        ∗ (∃ d, owns (c : Thread nD τ) (st4 a t) fullShare d)
        ∗ Phi a m ρ c t.castSucc
        ∗ (iprop(((st0 a t).view.loc (c : Thread nD τ) ↦[(st0 a t).view.set]{fullShare} (st0 a t).view.rep (iblk a m ρ c (0 : Fin 5) t))
            ∗ ((st1 a t).view.loc (c : Thread nD τ) ↦[(st1 a t).view.set]{fullShare} (st1 a t).view.rep (iblk a m ρ c (1 : Fin 5) t))
            ∗ ((st2 a t).view.loc (c : Thread nD τ) ↦[(st2 a t).view.set]{fullShare} (st2 a t).view.rep (iblk a m ρ c (2 : Fin 5) t))
            ∗ ((st3 a t).view.loc (c : Thread nD τ) ↦[(st3 a t).view.set]{fullShare} (st3 a t).view.rep (iblk a m ρ c (3 : Fin 5) t))
            ∗ owns (c : Thread nD τ) (st4 a t) fullShare (outAt a m ρ c t)
            ∗ Phi a m ρ c t.succ) -∗ K ⟨⟩))
      ⊢ wp frame (wpE (defs₀ (F := F)) Variants.none c none) Set.univ (bodyAt a t) K := by
  unfold Phi
  iintro ⟨H0, H1, H2, H3, H4, ⟨⟨%a0, %a1, %a2, %ha, HS0, HS1, HS2⟩, HT0, HT1⟩, Hk⟩
  have hv := crd_val a t
  have own : ∀ s : Fin (cfgA a).N, s.val + 1 = t.succ.val → s = t := fun s hs => Fin.ext (by rw [Fin.val_succ] at hs; omega)
  by_cases hu : t.val < used (a.1 1)
  · have h2 : k0_cond2 (crd a t) (nvAt (a.1 1)) = 1#1 := (cond2_iff hr _).mpr (by rw [hv]; exact hu)
    have h3 : ¬ k0_cond3 (crd a t) (nvAt (a.1 1)) = 1#1 := fun h => (cond3_iff hr _).mp h (by rw [hv]; exact hu)
    have ho : outAt a m ρ c t = outBlk (iblk a m ρ c (0 : Fin 5) t) (k0_pay1 (iblk a m ρ c (1 : Fin 5) t)) (k0_pay2 (iblk a m ρ c (2 : Fin 5) t)) (k0_pay3 (iblk a m ρ c (3 : Fin 5) t)) := if_pos hu
    by_cases hf : Fresh (a.1 0) (a.1 1) (crd a t)
    · iapply run_load c (crd a t) (st0 a t) (hst0 a t) (st1 a t) (hst1 a t) (st2 a t) (hst2 a t) (st3 a t) (hst3 a t) (st4 a t) (hst4 a t) (a.1 0) (a.1 1) (iblk a m ρ c (0 : Fin 5) t) (iblk a m ρ c (1 : Fin 5) t) (iblk a m ρ c (2 : Fin 5) t) (iblk a m ρ c (3 : Fin 5) t) a0 a1 a2 hf h2 h3 K
      isplitl [H0]; · iexact H0
      isplitl [H1]; · iexact H1
      isplitl [H2]; · iexact H2
      isplitl [H3]; · iexact H3
      isplitl [HT0]; · iexact HT0
      isplitl [HT1]; · iexact HT1
      isplitl [H4]; · iexact H4
      isplitl [HS0]; · iexact HS0
      isplitl [HS1]; · iexact HS1
      isplitl [HS2]; · iexact HS2
      iintro ⟨H0, H1, H2, H3, HT0, HT1, H4, HS0, HS1, HS2⟩
      iapply Hk
      rw [ho]
      isplitl [H0]; · iexact H0
      isplitl [H1]; · iexact H1
      isplitl [H2]; · iexact H2
      isplitl [H3]; · iexact H3
      isplitl [H4]; · iexact H4
      isplitl [HS0 HS1 HS2]
      · iexists (k0_pay1 (iblk a m ρ c (1 : Fin 5) t)), (k0_pay2 (iblk a m ρ c (2 : Fin 5) t)), (k0_pay3 (iblk a m ρ c (3 : Fin 5) t))
        isplitr
        rotate_left
        · isplitl [HS0]; · iexact HS0
          isplitl [HS1]; · iexact HS1
          iexact HS2
        · ipureintro
          intro s hs _
          rw [own s hs]
          exact ⟨rfl, rfl, rfl⟩
      isplitl [HT0]; · iexact HT0
      iexact HT1
    · obtain ⟨hne, hsame⟩ := same_of_not_fresh hr (crd a t) (by rw [hv]; exact hu) hf
      rw [hv] at hne hsame
      have hp := ha ⟨t.val - 1, by have := t.isLt; omega⟩ (by rw [Fin.val_castSucc]; dsimp only; omega) (by dsimp only; omega)
      obtain ⟨w1, w2, w3⟩ := same_weights a m ρ hr c t ⟨t.val - 1, by have := t.isLt; omega⟩ hsame
      rw [← w1, ← w2, ← w3] at hp
      obtain ⟨rfl, rfl, rfl⟩ := hp
      iapply run_keep c (crd a t) (st0 a t) (hst0 a t) (st1 a t) (hst1 a t) (st2 a t) (hst2 a t) (st3 a t) (hst3 a t) (st4 a t) (hst4 a t) (a.1 0) (a.1 1) (iblk a m ρ c (0 : Fin 5) t) (iblk a m ρ c (1 : Fin 5) t) (iblk a m ρ c (2 : Fin 5) t) (iblk a m ρ c (3 : Fin 5) t) _ _ _ hf h2 h3 K
      isplitl [H0]; · iexact H0
      isplitl [H1]; · iexact H1
      isplitl [H2]; · iexact H2
      isplitl [H3]; · iexact H3
      isplitl [HT0]; · iexact HT0
      isplitl [HT1]; · iexact HT1
      isplitl [H4]; · iexact H4
      isplitl [HS0]; · iexact HS0
      isplitl [HS1]; · iexact HS1
      isplitl [HS2]; · iexact HS2
      iintro ⟨H0, H1, H2, H3, HT0, HT1, H4, HS0, HS1, HS2⟩
      iapply Hk
      rw [ho]
      isplitl [H0]; · iexact H0
      isplitl [H1]; · iexact H1
      isplitl [H2]; · iexact H2
      isplitl [H3]; · iexact H3
      isplitl [H4]; · iexact H4
      isplitl [HS0 HS1 HS2]
      · iexists (k0_pay1 (iblk a m ρ c (1 : Fin 5) t)), (k0_pay2 (iblk a m ρ c (2 : Fin 5) t)), (k0_pay3 (iblk a m ρ c (3 : Fin 5) t))
        isplitr
        rotate_left
        · isplitl [HS0]; · iexact HS0
          isplitl [HS1]; · iexact HS1
          iexact HS2
        · ipureintro
          intro s hs _
          rw [own s hs]
          exact ⟨rfl, rfl, rfl⟩
      isplitl [HT0]; · iexact HT0
      iexact HT1
  · have h2 : ¬ k0_cond2 (crd a t) (nvAt (a.1 1)) = 1#1 := fun h => hu (by rw [← hv]; exact (cond2_iff hr _).mp h)
    have h3 : k0_cond3 (crd a t) (nvAt (a.1 1)) = 1#1 := (cond3_iff hr _).mpr (by rw [hv]; exact hu)
    have hf := not_fresh_of_not_used hr (crd a t) (by rw [hv]; exact hu)
    have ho : outAt a m ρ c t = k0_pay4 := if_neg hu
    iapply run_skip c (crd a t) (st0 a t) (hst0 a t) (st1 a t) (hst1 a t) (st2 a t) (hst2 a t) (st3 a t) (hst3 a t) (st4 a t) (hst4 a t) (a.1 0) (a.1 1) (iblk a m ρ c (0 : Fin 5) t) (iblk a m ρ c (1 : Fin 5) t) (iblk a m ρ c (2 : Fin 5) t) (iblk a m ρ c (3 : Fin 5) t) a0 a1 a2 hf h2 h3 K
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [HS0]; · iexact HS0
    isplitl [HS1]; · iexact HS1
    isplitl [HS2]; · iexact HS2
    iintro ⟨H0, H1, H2, H3, HT0, HT1, H4, HS0, HS1, HS2⟩
    iapply Hk
    rw [ho]
    isplitl [H0]; · iexact H0
    isplitl [H1]; · iexact H1
    isplitl [H2]; · iexact H2
    isplitl [H3]; · iexact H3
    isplitl [H4]; · iexact H4
    isplitl [HS0 HS1 HS2]
    · iexists a0, a1, a2
      isplitr
      rotate_left
      · isplitl [HS0]; · iexact HS0
        isplitl [HS1]; · iexact HS1
        iexact HS2
      · ipureintro
        intro s hs hu'
        rw [own s hs] at hu'
        exact absurd hu' hu
    isplitl [HT0]; · iexact HT0
    iexact HT1

set_option maxHeartbeats 4000000 in
/-- The library's body obligation, at every point. -/
theorem body_obligation (hr : InRange (a.1 0) (a.1 1)) (c : Dev nD) : BodyObligation (dats a m ρ 0 c) (defs₀ (F := F)) Variants.none () Set.univ := fun t => by
  rw [bigSep_W0, bigSep_W0]
  rewrite [not_idle a hr t]
  simp only [before0, before1, before2, before3, after0, after1, after2, after3, after4]
  rewrite [show (dats a m ρ 0 c).Φ t.succ = Phi a m ρ c t.succ from rfl, show (dats a m ρ 0 c).Φ t.castSucc = Phi a m ρ c t.castSucc from rfl,
    show (dats a m ρ 0 c).owesAt () t.succ = (dats a m ρ 0 c).owesAt () t.castSucc from rfl]
  iintro ⟨HP, Ho, ⟨%d0, H0⟩, ⟨%d1, H1⟩, ⟨%d2, H2⟩, ⟨%d3, H3⟩, ⟨%d4, H4⟩⟩
  iapply body_at a m ρ hr c t _
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iexists _; iexact H4
  isplitl [HP]; · iexact HP
  iintro ⟨H0, H1, H2, H3, H4, HP⟩
  isplitl [HP]; · iexact HP
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexact H4

/-! ## The launch -/

/-- The rounds library's launch element. -/
def u₀ : UR sig nD τ :=
  initOf (Pipeline.cells (pcs a) ((launch0 (F := F)).cellOf_inj fun _ => a))
    (Pipeline.launchToks (pcs a) ((launch0 (F := F)).cellOf_inj fun _ => a))

/-- Every window holds its array whole. -/
theorem share_eq (c : Dev nD) (w : Fin (cfgA a).W) : (dats a m ρ 0 c).share w = fullShare := by unfold Dat.share; split <;> rfl

/-- The tables as the launch hands them over, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- Before the first point nothing is known of the weights kept. -/
theorem phi_first (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩, ⟨%a1, HS1⟩, ⟨%a2, HS2⟩⟩
  isplitl [HS0 HS1 HS2]
  · iexists a0, a1, a2
    isplitr
    rotate_left
    · isplitl [HS0]; · iexact HS0
      isplitl [HS1]; · iexact HS1
      iexact HS2
    · ipureintro
      intro s hs
      exact absurd hs (Nat.succ_ne_zero _)
  isplitl [HT0]; · iexact HT0
  iexact HT1

/-- After the last the buffers are given back. -/
theorem phi_last (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨⟨%a0, %a1, %a2, -, HS0, HS1, HS2⟩, -, -⟩
  isplitr; · iempintro
  isplitl [HS0]
  · iexists a0; iexact HS0
  isplitl [HS1]
  · iexists a1; iexact HS1
  iexists a2; iexact HS2

/-- What a final state holds: every array as the tiles leave it, and the tables. -/
def Done : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
/-- From a memory that holds the tables, every fair execution terminates with the arrays as the tiles leave them and every
    counter at zero. -/
theorem run_all (hr : InRange (a.1 0) (a.1 1)) (hp : ∀ (c : Dev nD) (j : Fin 2), m ((c : Thread nD τ).loc (pre0.ref j)) = a.1 j) :
    θ_run (defs (F := F)) (onTc (τ := τ) (main (F := F))) (s₀ m ρ) (fun r => Done a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre (emb₁ : Emb (UR sig nD τ) 𝕄) defs₀ Variants.none m ρ main
    (hbody := fun c => (body_obligation a m ρ hr c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_first a m ρ)
    (hout := phi_last a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

end Cert.Kernel2Ideal.Expert
end
-- ==== Proof.ExpertFrame.lean ====
module
public import proofs.«01_k».proof.Proof.ExpertBody
public import Idealize.ShloMosaic.Lib.Pipeline.ValueKit.Geometry
public import Idealize.ShloMosaic.Lib.Pipeline.Covers

/-!
# The experts' call from a memory

From a memory whose tables are in range the call ends with every tile's block in the result, its arguments unchanged and every
counter at zero.
-/

@[expose] public section

set_option maxRecDepth 16384

noncomputable section

namespace Cert.Kernel2Ideal.Expert

open Cert.Kernel2Ideal Cert.Kernel2Ideal.Gen
open Idealize.ShloMosaic
open Idealize.ShloMosaic.TcCoe
open Idealize.SL.Sem
open Idealize.ShloMosaic.Pipeline (Dat Cfg Window)

variable {F : FTy → Type} [FloatOps F]

variable (a : (pcfg0 (F := F)).Adm)
variable (m : (ℓ : Loc nD τ sig) → Buf (Elt F) ℓ) (ρ : Dev nD → PrngReg)

/-- The tile of a line of the result. -/
def tileOf (R : Fin 671744) : Fin (cfgA a).N := ⟨R.val / 4096, by rw [show (cfgA a).N = 164 from N_0]; omega⟩

/-- The result: every line is its tile's. -/
def result (c : Dev nD) : Vec F S671744x128 .f32 := fun I =>
  outAt a m ρ c (tileOf a (I 0)) (ix2 (⟨(I 0).val % 4096, Nat.mod_lt _ (by norm_num)⟩ : Fin 4096) (I 1))

set_option backward.isDefEq.respectTransparency.types false in
/-- The blocks of the result cover it. -/
theorem cover_out : ((cfgA a).win (4 : Fin 5)).Covers :=
  ((cfgA a).win (4 : Fin 5)).covers_of_indexMap_surj rfl (fun b => by fin_cases b <;> exact Nat.succ_pos _) fun β => by
    have n0 : ((cfgA a).win (4 : Fin 5)).nblk 0 = 164 := by
      show (S671744x128.size 0 + S4096x128.size 0 - 1) / S4096x128.size 0 = 164
      rfl
    have n1 : ((cfgA a).win (4 : Fin 5)).nblk 1 = 1 := by
      show (S671744x128.size 1 + S4096x128.size 1 - 1) / S4096x128.size 1 = 1
      rfl
    have h0 : (β 0).val < 164 := lt_of_lt_of_eq (β 0).isLt n0
    have h1 : (β 1).val < 1 := lt_of_lt_of_eq (β 1).isLt n1
    have h : ∀ i : grid0.Coords, cc0_transform_4 i = ![(i 0).val, 0] := by decide +kernel
    let i : grid0.Coords := fun k => ⟨(β 0).val, by fin_cases k; exact h0⟩
    refine ⟨i, fun b => ?_⟩
    have e : ((cfgA a).win (4 : Fin 5)).indexMap i = ![(β 0).val, 0] := h i
    rw [e]
    fin_cases b
    · rfl
    · show 0 = (β 1).val
      omega

/-- What the array of the result ends at. -/
theorem arr_out (c : Dev nD) : (dats a m ρ 0 c).arrAt (4 : Fin 5) (cfgA a).N = result a m ρ c := by
  refine (dats a m ρ 0 c).arrAt_eq_of_covers (4 : Fin 5) (result a m ρ c) (cover_out a) fun t hf y => ?_
  show outAt a m ρ c t y = outAt a m ρ c (tileOf a _) _
  have e : ∀ b, ((((cfgA a).win (4 : Fin 5)).blk t).view.emb y b).val = ((cfgA a).win (4 : Fin 5)).index t b * ((cfgA a).win (4 : Fin 5)).size b + (y b).val :=
    fun b => Pipeline.Window.rect_emb_val ((cfgA a).win (4 : Fin 5)) t y b
  rw [idx_out] at e
  have e0 : ((((cfgA a).win (4 : Fin 5)).blk t).view.emb y 0).val = t.val * 4096 + (y 0).val := e 0
  have e1 : ((((cfgA a).win (4 : Fin 5)).blk t).view.emb y 1).val = 0 * 128 + (y 1).val := e 1
  have e1' : ((((cfgA a).win (4 : Fin 5)).blk t).view.emb y 1).val = (y 1).val := e1.trans (by omega)
  have h0 : (y 0).val < 4096 := (y 0).isLt
  have ht : tileOf a ((((cfgA a).win (4 : Fin 5)).blk t).view.emb y 0) = t := Fin.ext (by show _ / 4096 = _; rw [e0]; omega)
  rw [ht]
  refine congrArg _ (funext fun b => ?_)
  fin_cases b
  · refine Fin.ext ?_
    show (y 0).val = _ % 4096
    rw [e0]; omega
  · exact Fin.ext e1'.symm

/-- The tables of a memory. -/
def tabs (hr : ∀ c : Dev nD, InRange (m ((c : Thread nD τ).loc main_arg0)) (m ((c : Thread nD τ).loc main_arg1))) : (pcfg0 (F := F)).Adm :=
  ⟨fun j => m (((0 : Dev nD) : Thread nD τ).loc (pre0.ref j)), ok_tables _ (hr 0)⟩

/-- The run: the result holds the tiles' blocks, the arguments are unchanged, the counters zero. -/
theorem run (hr : ∀ c : Dev nD, InRange (m ((c : Thread nD τ).loc main_arg0)) (m ((c : Thread nD τ).loc main_arg1))) :
    θ_run (defs (F := F)) (onTc (τ := τ) (main (F := F))) ⟨m, fun _ => 0, ρ⟩ (fun r => (∀ c : Dev nD,
      r.2.mem ((c.tc : Thread nD τ).loc main_v0) = result (tabs m hr) m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  have hp : ∀ (c : Dev nD) (j : Fin 2), m ((c : Thread nD τ).loc (pre0.ref j)) = (tabs m hr).1 j := fun c j => by
    obtain rfl : c = 0 := Subsingleton.elim _ _
    rfl
  refine (θ_run defs _ _).mono (fun r h => ⟨fun c => ?_, h.2⟩) (run_all (tabs m hr) m ρ (hr 0) hp)
  obtain ⟨hd, ht⟩ := h.1 c
  exact ⟨(hd (4 : Fin 5)).trans (arr_out (tabs m hr) m ρ c), (ht 0).trans (hp c 0).symm, (ht 1).trans (hp c 1).symm,
    (hd (0 : Fin 5)).trans ((dats (tabs m hr) m ρ 0 c).arrAt_in (0 : Fin 5) rfl _),
    (hd (1 : Fin 5)).trans ((dats (tabs m hr) m ρ 0 c).arrAt_in (1 : Fin 5) rfl _),
    (hd (2 : Fin 5)).trans ((dats (tabs m hr) m ρ 0 c).arrAt_in (2 : Fin 5) rfl _),
    (hd (3 : Fin 5)).trans ((dats (tabs m hr) m ρ 0 c).arrAt_in (3 : Fin 5) rfl _)⟩

end Cert.Kernel2Ideal.Expert

end
-- ==== Proof.ExpertVal.lean ====
module
public import proofs.«01_k».proof.Proof.ExpertFrame
public import Idealize.ShloMosaic.Lib.Claim
public import Idealize.ShloMosaic.Lib.Tactic.CleanTypes

/-!
# A block's rows through an expert, in extended reals

The kernel's block at an element, and the whole result at an element: the feed-forward layer of the tile's expert at the row the
element belongs to.
-/

@[expose] public section

set_option maxRecDepth 16384

noncomputable section

namespace Cert.Kernel2Ideal.Expert

open Cert.Kernel2Ideal Cert.Kernel2Ideal.Gen
open Idealize.ShloMosaic
open Idealize.ShloMosaic.TcCoe

/-- A row through an expert: its gate's products by the logistic of themselves, by the other products, through the weights out. -/
def mlp (h : Fin 2048 → EReal) (wg wu : Fin 2048 → Fin 512 → EReal) (wd : Fin 512 → Fin 2048 → EReal) (d : Fin 2048) : EReal :=
  ∑ f : Fin 512, (∑ k : Fin 2048, h k * wg k f) * Ideal.logistic (∑ k : Fin 2048, h k * wg k f) * (∑ k : Fin 2048, h k * wu k f) * wd f d

/-- Equal rows and weights give equal values. -/
theorem mlp_congr {h h' : Fin 2048 → EReal} {wg wg' wu wu' : Fin 2048 → Fin 512 → EReal} {wd wd' : Fin 512 → Fin 2048 → EReal}
    (eh : ∀ k, h k = h' k) (eg : ∀ k f, wg k f = wg' k f) (eu : ∀ k f, wu k f = wu' k f) (ed : ∀ f d, wd f d = wd' f d) (d : Fin 2048) :
    mlp h wg wu wd d = mlp h' wg' wu' wd' d := by
  obtain rfl : h = h' := funext eh
  obtain rfl : wg = wg' := funext fun k => funext (eg k)
  obtain rfl : wu = wu' := funext fun k => funext (eu k)
  obtain rfl : wd = wd' := funext fun f => funext (ed f)
  rfl

/-- Sixteen groups of columns side by side, at an element. -/
theorem cols_low (l : Fin 16 → Vec Ideal S128x128 .f32) (p : Fin 128) (q : Fin 16) (r : Fin 128) :
    (k0_pay5 (l 0) (l 1) (l 2) (l 3) (l 4) (l 5) (l 6) (l 7) (l 8) (l 9) (l 10) (l 11) (l 12) (l 13) (l 14) (l 15) : FVec Ideal S128x2048 .bf16)
      (ix2 p ⟨128 * q + r, by omega⟩) = l q (ix2 p r) := by
  have hr := r.isLt
  have hq := q.isLt
  refine concatenate_ofFn_apply (s₁ := S128x128) (t := S128x2048) 1 (fun n : Fin 16 => l n)
    concatenates_S128x128_S128x128_S128x128_S128x128_S128x128_S128x128_S128x128_S128x128_S128x128_S128x128_S128x128_S128x128_S128x128_S128x128_S128x128_S128x128_S128x2048_d1 rfl 128 rfl
    (ix2 p ⟨128 * q + r, by omega⟩) q ?_ (ix2 p r) ?_ ?_
  · show (128 * q.val + r.val) / 128 = q.val
    omega
  · show r.val = (128 * q.val + r.val) % 128
    omega
  · intro b hb
    fin_cases b
    · rfl
    · exact absurd rfl hb

/-- The same of the other half's columns. -/
theorem cols_high (l : Fin 16 → Vec Ideal S128x128 .f32) (p : Fin 128) (q : Fin 16) (r : Fin 128) :
    (k0_pay6 (l 0) (l 1) (l 2) (l 3) (l 4) (l 5) (l 6) (l 7) (l 8) (l 9) (l 10) (l 11) (l 12) (l 13) (l 14) (l 15) : FVec Ideal S128x2048 .bf16)
      (ix2 p ⟨128 * q + r, by omega⟩) = l q (ix2 p r) :=
  cols_low l p q r

/-- A product with the weights in, at an element. -/
theorem gate_low (x : FVec Ideal S128x2048 .bf16) (w : Vec Ideal S2048x512 .bf16) (p : Fin 128) (f : Fin 512) :
    (k0_pay7 x w : FVec Ideal S128x512 .f32) (ix2 p f) = ∑ k : Fin 2048, x (ix2 p k) * w (ix2 k f) := by
  pointwise [k0_pay7]
/-- The same of the second weights in. -/
theorem up_low (x : FVec Ideal S128x2048 .bf16) (w : Vec Ideal S2048x512 .bf16) (p : Fin 128) (f : Fin 512) :
    (k0_pay9 x w : FVec Ideal S128x512 .f32) (ix2 p f) = ∑ k : Fin 2048, x (ix2 p k) * w (ix2 k f) := by
  pointwise [k0_pay9]
/-- The same of the second half of the rows. -/
theorem gate_high (l : Fin 16 → Vec Ideal S128x128 .f32) (w : Vec Ideal S2048x512 .bf16) (p : Fin 128) (f : Fin 512) :
    (k0_pay8 (l 0) (l 1) (l 2) (l 3) (l 4) (l 5) (l 6) (l 7) (l 8) (l 9) (l 10) (l 11) (l 12) (l 13) (l 14) (l 15) w : FVec Ideal S128x512 .f32) (ix2 p f)
      = ∑ k : Fin 2048, (k0_pay6 (l 0) (l 1) (l 2) (l 3) (l 4) (l 5) (l 6) (l 7) (l 8) (l 9) (l 10) (l 11) (l 12) (l 13) (l 14) (l 15) : FVec Ideal S128x2048 .bf16) (ix2 p k) * w (ix2 k f) :=
  gate_low _ w p f
/-- The same of the second half of the rows and the second weights in. -/
theorem up_high (l : Fin 16 → Vec Ideal S128x128 .f32) (w : Vec Ideal S2048x512 .bf16) (p : Fin 128) (f : Fin 512) :
    (k0_pay10 (l 0) (l 1) (l 2) (l 3) (l 4) (l 5) (l 6) (l 7) (l 8) (l 9) (l 10) (l 11) (l 12) (l 13) (l 14) (l 15) w : FVec Ideal S128x512 .f32) (ix2 p f)
      = ∑ k : Fin 2048, (k0_pay6 (l 0) (l 1) (l 2) (l 3) (l 4) (l 5) (l 6) (l 7) (l 8) (l 9) (l 10) (l 11) (l 12) (l 13) (l 14) (l 15) : FVec Ideal S128x2048 .bf16) (ix2 p k) * w (ix2 k f) :=
  gate_low _ w p f

/-- The gated products through the weights out, at an element. -/
theorem down_low (g u : FVec Ideal S128x512 .f32) (w : Vec Ideal S512x2048 .bf16) (p : Fin 128) (d : Fin 2048) :
    (k0_pay11 g u w : FVec Ideal S128x2048 .f32) (ix2 p d)
      = ∑ f : Fin 512, g (ix2 p f) * Ideal.logistic (g (ix2 p f)) * u (ix2 p f) * w (ix2 f d) := by
  pointwise [k0_pay11]
/-- The same of the second half of the rows. -/
theorem down_high (g u : FVec Ideal S128x512 .f32) (w : Vec Ideal S512x2048 .bf16) (p : Fin 128) (d : Fin 2048) :
    (k0_pay12 g u w : FVec Ideal S128x2048 .f32) (ix2 p d)
      = ∑ f : Fin 512, g (ix2 p f) * Ideal.logistic (g (ix2 p f)) * u (ix2 p f) * w (ix2 f d) :=
  down_low g u w p d

/-- A group's column of a row of either half, in the block. -/
theorem at_low (x : Vec Ideal S4096x128 .f32) (q : Fin 16) (p r : Fin 128) :
    x ((stripL q).idx (ix2 p r)) = x (ix2 (⟨16 * p.val + q.val, by omega⟩ : Fin 4096) r) := by
  refine congrArg x (funext fun b => ?_)
  fin_cases b
  · exact Fin.ext (by show q.val + 16 * p.val = 16 * p.val + q.val; omega)
  · exact Fin.ext (by show 0 + 1 * r.val = r.val; omega)
/-- The same of the second half of the rows. -/
theorem at_high (x : Vec Ideal S4096x128 .f32) (q : Fin 16) (p r : Fin 128) :
    x ((stripH q).idx (ix2 p r)) = x (ix2 (⟨2048 + 16 * p.val + q.val, by omega⟩ : Fin 4096) r) := by
  refine congrArg x (funext fun b => ?_)
  fin_cases b
  · exact Fin.ext (by show 2048 + q.val + 16 * p.val = 2048 + 16 * p.val + q.val; omega)
  · exact Fin.ext (by show 0 + 1 * r.val = r.val; omega)

/-- The row of 2048 values that a line of a block belongs to. -/
def rowOf (x : Vec Ideal S4096x128 .f32) (R : Fin 4096) (k : Fin 2048) : EReal :=
  x (ix2 (⟨16 * (R.val / 16) + k.val / 128, by omega⟩ : Fin 4096) (⟨k.val % 128, Nat.mod_lt _ (by norm_num)⟩ : Fin 128))

/-- The low half's columns, off the block. -/
theorem row_low (x : Vec Ideal S4096x128 .f32) (p : Fin 128) (R : Fin 4096) (hR : 16 * p.val = 16 * (R.val / 16)) (k : Fin 2048) :
    (k0_pay5 (fun y => x ((stripL 0).idx y)) (fun y => x ((stripL 1).idx y)) (fun y => x ((stripL 2).idx y)) (fun y => x ((stripL 3).idx y)) (fun y => x ((stripL 4).idx y)) (fun y => x ((stripL 5).idx y)) (fun y => x ((stripL 6).idx y)) (fun y => x ((stripL 7).idx y)) (fun y => x ((stripL 8).idx y)) (fun y => x ((stripL 9).idx y)) (fun y => x ((stripL 10).idx y)) (fun y => x ((stripL 11).idx y)) (fun y => x ((stripL 12).idx y)) (fun y => x ((stripL 13).idx y)) (fun y => x ((stripL 14).idx y)) (fun y => x ((stripL 15).idx y)) : FVec Ideal S128x2048 .bf16) (ix2 p k) = rowOf x R k := by
  have e : (⟨128 * (⟨k.val / 128, by omega⟩ : Fin 16).val + (⟨k.val % 128, Nat.mod_lt _ (by norm_num)⟩ : Fin 128).val, by
      show 128 * (k.val / 128) + k.val % 128 < 2048; omega⟩ : Fin 2048) = k := Fin.ext (by show 128 * (k.val / 128) + k.val % 128 = k.val; omega)
  have h := cols_low (fun q y => x ((stripL q).idx y)) p ⟨k.val / 128, by omega⟩ ⟨k.val % 128, Nat.mod_lt _ (by norm_num)⟩
  rw [e] at h
  refine h.trans ((at_low x _ p _).trans ?_)
  unfold rowOf
  exact congrArg (fun z => x (ix2 z _)) (Fin.ext (by show 16 * p.val + k.val / 128 = 16 * (R.val / 16) + k.val / 128; omega))

/-- The high half's columns, off the block. -/
theorem row_high (x : Vec Ideal S4096x128 .f32) (p : Fin 128) (R : Fin 4096) (hR : 2048 + 16 * p.val = 16 * (R.val / 16)) (k : Fin 2048) :
    (k0_pay6 (fun y => x ((stripH 0).idx y)) (fun y => x ((stripH 1).idx y)) (fun y => x ((stripH 2).idx y)) (fun y => x ((stripH 3).idx y)) (fun y => x ((stripH 4).idx y)) (fun y => x ((stripH 5).idx y)) (fun y => x ((stripH 6).idx y)) (fun y => x ((stripH 7).idx y)) (fun y => x ((stripH 8).idx y)) (fun y => x ((stripH 9).idx y)) (fun y => x ((stripH 10).idx y)) (fun y => x ((stripH 11).idx y)) (fun y => x ((stripH 12).idx y)) (fun y => x ((stripH 13).idx y)) (fun y => x ((stripH 14).idx y)) (fun y => x ((stripH 15).idx y)) : FVec Ideal S128x2048 .bf16) (ix2 p k) = rowOf x R k := by
  have e : (⟨128 * (⟨k.val / 128, by omega⟩ : Fin 16).val + (⟨k.val % 128, Nat.mod_lt _ (by norm_num)⟩ : Fin 128).val, by
      show 128 * (k.val / 128) + k.val % 128 < 2048; omega⟩ : Fin 2048) = k := Fin.ext (by show 128 * (k.val / 128) + k.val % 128 = k.val; omega)
  have h := cols_high (fun q y => x ((stripH q).idx y)) p ⟨k.val / 128, by omega⟩ ⟨k.val % 128, Nat.mod_lt _ (by norm_num)⟩
  rw [e] at h
  refine h.trans ((at_high x _ p _).trans ?_)
  unfold rowOf
  exact congrArg (fun z => x (ix2 z _)) (Fin.ext (by show 2048 + 16 * p.val + k.val / 128 = 16 * (R.val / 16) + k.val / 128; omega))

/-- Two halves laid out, at an element. -/
theorem lay_apply (Y0 Y1 : Vec Ideal S128x2048 .f32) (R : Fin 4096) (C : Fin 128) : lay Y0 Y1 (ix2 R C) =
    if R.val < 2048 then Y0 (ix2 (⟨R.val / 16 % 128, Nat.mod_lt _ (by norm_num)⟩ : Fin 128) (⟨R.val % 16 * 128 + C.val, by omega⟩ : Fin 2048))
    else Y1 (ix2 (⟨R.val / 16 % 128, Nat.mod_lt _ (by norm_num)⟩ : Fin 128) (⟨R.val % 16 * 128 + C.val, by omega⟩ : Fin 2048)) := by
  have ed : (⟨R.val % 16 * 128 + C.val % 128, by omega⟩ : Fin 2048) = ⟨R.val % 16 * 128 + C.val, by omega⟩ :=
    Fin.ext (by show _ + C.val % 128 = _ + C.val; omega)
  rw [← ed]
  rfl

/-- A block's line holds the feed-forward layer's values at the row the line belongs to. -/
theorem outBlk_apply (x : Vec Ideal S4096x128 .f32) (w0 w1 : Vec Ideal S2048x512 .bf16) (w2 : Vec Ideal S512x2048 .bf16) (R : Fin 4096) (C : Fin 128) :
    outBlk x w0 w1 w2 (ix2 R C) = mlp (rowOf x R) (fun k f => w0 (ix2 k f)) (fun k f => w1 (ix2 k f)) (fun f d => w2 (ix2 f d))
      (⟨R.val % 16 * 128 + C.val, by omega⟩ : Fin 2048) := by
  unfold outBlk outOf mlp
  rw [lay_apply]
  by_cases h : R.val < 2048
  · rw [if_pos h]
    have hp : ∀ k, _ := row_low x ⟨R.val / 16 % 128, Nat.mod_lt _ (by norm_num)⟩ R (by show 16 * (R.val / 16 % 128) = _; omega)
    refine (down_low _ _ _ _ _).trans ?_
    simp only [gate_low, up_low, hp]
  · rw [if_neg h]
    have hp : ∀ k, _ := row_high x ⟨R.val / 16 % 128, Nat.mod_lt _ (by norm_num)⟩ R (by show 2048 + 16 * (R.val / 16 % 128) = _; omega)
    refine (down_high _ _ _ _ _).trans ?_
    simp only [gate_high (fun q y => x ((stripH q).idx y)), up_high (fun q y => x ((stripH q).idx y)), hp]

/-- The weights kept are the blocks'. -/
theorem kept_gate (w : Vec Ideal S1x1x2048x512 .f32) (k : Fin 2048) (f : Fin 512) :
    (k0_pay1 w : FVec Ideal S2048x512 .bf16) (ix2 k f) = w (ix4 0 0 k f) := by
  pointwise [k0_pay1]
/-- The same of the second weights in. -/
theorem kept_up (w : Vec Ideal S1x1x2048x512 .f32) (k : Fin 2048) (f : Fin 512) :
    (k0_pay2 w : FVec Ideal S2048x512 .bf16) (ix2 k f) = w (ix4 0 0 k f) := by
  pointwise [k0_pay2]
/-- The same of the weights out. -/
theorem kept_down (w : Vec Ideal S1x1x512x2048 .f32) (f : Fin 512) (d : Fin 2048) :
    (k0_pay3 w : FVec Ideal S512x2048 .bf16) (ix2 f d) = w (ix4 0 0 f d) := by
  pointwise [k0_pay3]

variable (a : (pcfg0 (F := Ideal)).Adm) (m : (ℓ : Loc nD τ sig) → Buf (Elt Ideal) ℓ) (ρ : Dev nD → PrngReg)

/-- The result at a line: the layer of the tile's expert at the line's row if the tile is used, zero if not. -/
theorem result_apply (hr : InRange (a.1 0) (a.1 1)) (c : Dev nD) (R : Fin 671744) (C : Fin 128) :
    (result a m ρ c : Vec Ideal S671744x128 .f32) (ix2 R C)
      = if R.val / 4096 < used (a.1 1) then
          mlp (fun k => m ((c : Thread nD τ).loc main_arg2) (ix2 (⟨R.val / 16 * 16 + k.val / 128, by omega⟩ : Fin 671744) (⟨k.val % 128, Nat.mod_lt _ (by norm_num)⟩ : Fin 128)))
            (fun k f => m ((c : Thread nD τ).loc main_arg3) (ix4 (0 : Fin 1) (⟨expert (a.1 0) (R.val / 4096), hr.expert_lt _⟩ : Fin 32) k f))
            (fun k f => m ((c : Thread nD τ).loc main_arg4) (ix4 (0 : Fin 1) (⟨expert (a.1 0) (R.val / 4096), hr.expert_lt _⟩ : Fin 32) k f))
            (fun f d => m ((c : Thread nD τ).loc main_arg5) (ix4 (0 : Fin 1) (⟨expert (a.1 0) (R.val / 4096), hr.expert_lt _⟩ : Fin 32) f d)) ⟨R.val % 16 * 128 + C.val, by omega⟩
        else 0 := by
  show outAt a m ρ c (tileOf a R) (ix2 (⟨R.val % 4096, Nat.mod_lt _ (by norm_num)⟩ : Fin 4096) C) = _
  unfold outAt
  by_cases q : R.val / 4096 < used (a.1 1)
  · have q' : (tileOf a R).val < used (a.1 1) := q
    rw [if_pos q, if_pos q', outBlk_apply]
    have ed : (⟨R.val % 4096 % 16 * 128 + C.val, by omega⟩ : Fin 2048) = ⟨R.val % 16 * 128 + C.val, by omega⟩ :=
      Fin.ext (by show R.val % 4096 % 16 * 128 + C.val = R.val % 16 * 128 + C.val; omega)
    have hx : rowOf (iblk a m ρ c (0 : Fin 5) (tileOf a R)) (⟨R.val % 4096, Nat.mod_lt _ (by norm_num)⟩ : Fin 4096)
        = fun k => m ((c : Thread nD τ).loc main_arg2) (ix2 (⟨R.val / 16 * 16 + k.val / 128, by omega⟩ : Fin 671744) (⟨k.val % 128, Nat.mod_lt _ (by norm_num)⟩ : Fin 128)) := by
      funext k
      refine (blk_rows a m ρ hr c (tileOf a R) q' _).trans ?_
      refine congrArg (fun z => m ((c : Thread nD τ).loc main_arg2) (ix2 z (⟨k.val % 128, Nat.mod_lt _ (by norm_num)⟩ : Fin 128))) (Fin.ext ?_)
      show R.val / 4096 * 4096 + (16 * (R.val % 4096 / 16) + k.val / 128) = R.val / 16 * 16 + k.val / 128
      omega
    have hg : ∀ k f, (k0_pay1 (iblk a m ρ c (1 : Fin 5) (tileOf a R)) : FVec Ideal S2048x512 .bf16) (ix2 k f)
        = m ((c : Thread nD τ).loc main_arg3) (ix4 (0 : Fin 1) (⟨expert (a.1 0) (R.val / 4096), hr.expert_lt _⟩ : Fin 32) k f) :=
      fun k f => (kept_gate _ k f).trans (blk_gate a m ρ hr c (tileOf a R) _)
    have hu : ∀ k f, (k0_pay2 (iblk a m ρ c (2 : Fin 5) (tileOf a R)) : FVec Ideal S2048x512 .bf16) (ix2 k f)
        = m ((c : Thread nD τ).loc main_arg4) (ix4 (0 : Fin 1) (⟨expert (a.1 0) (R.val / 4096), hr.expert_lt _⟩ : Fin 32) k f) :=
      fun k f => (kept_up _ k f).trans (blk_up a m ρ hr c (tileOf a R) _)
    have hd : ∀ f d, (k0_pay3 (iblk a m ρ c (3 : Fin 5) (tileOf a R)) : FVec Ideal S512x2048 .bf16) (ix2 f d)
        = m ((c : Thread nD τ).loc main_arg5) (ix4 (0 : Fin 1) (⟨expert (a.1 0) (R.val / 4096), hr.expert_lt _⟩ : Fin 32) f d) :=
      fun f d => (kept_down _ f d).trans (blk_down a m ρ hr c (tileOf a R) _)
    rw [hx]
    simp only [hg, hu, hd, ed]
  · have q' : ¬ (tileOf a R).val < used (a.1 1) := q
    rw [if_neg q, if_neg q']
    pointwise [k0_pay4]

end Cert.Kernel2Ideal.Expert

end
-- ==== Proof.Ref2Step.lean ====
module
public import proofs.«01_k».proof.Proof.ExpertVal
public import proofs.«01_k».proof.Proof.Gen.Reference2Ideal.Run
public import Idealize.ShloMosaic.Lib.Pipeline.ValueKit.Point
public import Idealize.ShloMosaic.Lib.DynamicIndex
public import Idealize.ShloMosaic.Lib.Claim
public import Idealize.ShloMosaic.Lib.Tactic.CleanTypes

/-!
# One trip of the experts' reference

A trip takes one expert's weights from the stacked arrays and adds that expert's feed-forward layer to the rows whose number of
expert is its own.
-/

@[expose] public section

set_option maxRecDepth 16384

noncomputable section

namespace Cert.Reference2Ideal.Trip

open Idealize.ShloMosaic Idealize.ShloMosaic.TcCoe Idealize.SL.Sem
open Cert.Reference2Ideal Cert.Reference2Ideal.Gen Cert.Reference2Ideal.Value
open Cert.Kernel2Ideal.Expert (mlp)

variable {F : FTy → Type} [FloatOps F]

/-- The start of entry `n` of a stacked array. -/
def start (n : IVec S_ 32) : Fin 3 → Int :=
  fun k => (((![n, constantI S_ 32 0#32, constantI S_ 32 0#32] : Fin 3 → IVec S_ 32)) k (Shape.Idx.first h_S_)).toInt

/-- The weights in of expert `n`. -/
def takeIn (x : FVec F S32x2048x512 .f32) (n : IVec S_ 32) : FVec F S2048x512 .f32 :=
  shapeCast S2048x512 (Host.dynamicSlice S1x2048x512 x (start n) sliceFits_S32x2048x512_S1x2048x512) shapeCasts_S1x2048x512_S2048x512

/-- The weights out of expert `n`. -/
def takeOut (x : FVec F S32x512x2048 .f32) (n : IVec S_ 32) : FVec F S512x2048 .f32 :=
  shapeCast S512x2048 (Host.dynamicSlice S1x512x2048 x (start n) sliceFits_S32x512x2048_S1x512x2048) shapeCasts_S1x512x2048_S512x2048

/-- The start of entry `n` of the numbers of the experts. -/
def startNum (n : IVec S_ 32) : Fin 1 → Int := fun k => (((![n] : Fin 1 → IVec S_ 32)) k (Shape.Idx.first h_S_)).toInt

/-- Entry `n` of the numbers of the experts. -/
def takeNum (x : IVec S32 32) (n : IVec S_ 32) : IVec S_ 32 :=
  shapeCast S_ (Host.dynamicSlice S1 x (startNum n) sliceFits_S32_S1) shapeCasts_S1_S_

/-- The rows through weights in. -/
def through (h : FVec F S41984x2048 .f32) (w : FVec F S2048x512 .f32) : FVec F S41984x512 .f32 :=
  Host.dotGeneral dot_S41984x2048_S2048x512_S41984x512_1_0_0_1_n_n none h w

/-- The gating function, as the reference has it. -/
def silu (g : FVec F S41984x512 .f32) : FVec F S41984x512 .f32 :=
  mulf g (Host.divf (broadcastInDim S41984x512 ![] bcast_S_S41984x512 (constant S_ .f32 0x3F800000#32))
    (addf (broadcastInDim S41984x512 ![] bcast_S_S41984x512 (constant S_ .f32 0x3F800000#32)) (Host.exp (Host.negf g))))

/-- One at the rows whose number of expert is `e`, zero at the others. -/
def gate (eid : IVec S41984 32) (e : IVec S_ 32) : FVec F S41984x2048 .f32 :=
  broadcastInDim S41984x2048 ![0, 1] bcast_S41984x1_S41984x2048_0_1 (broadcastInDim S41984x1 ![0] bcast_S41984_S41984x1_0
    (uitofp .f32 (cmpi .eq eid (broadcastInDim S41984 ![] bcast_S_S41984 e))))

/-- The gated products through the weights out. -/
def back (g u : FVec F S41984x512 .f32) (w : FVec F S512x2048 .f32) : FVec F S41984x2048 .f32 :=
  Host.dotGeneral dot_S41984x512_S512x2048_S41984x2048_1_0_0_1_n_n none (mulf (silu g) u) w

/-- A carried buffer's contents, as an array. -/
abbrev at0 (V0 : Valuation τ sig (Elt F)) : IVec S32 32 := V0 (Proc.devRef .tc main_v15_0)
@[inherit_doc at0] abbrev at1 (V0 : Valuation τ sig (Elt F)) : FVec F S32x2048x512 .f32 := V0 (Proc.devRef .tc main_v15_1)
@[inherit_doc at0] abbrev at2 (V0 : Valuation τ sig (Elt F)) : FVec F S32x2048x512 .f32 := V0 (Proc.devRef .tc main_v15_2)
@[inherit_doc at0] abbrev at3 (V0 : Valuation τ sig (Elt F)) : FVec F S32x512x2048 .f32 := V0 (Proc.devRef .tc main_v15_3)
@[inherit_doc at0] abbrev at4 (V0 : Valuation τ sig (Elt F)) : FVec F S41984x2048 .f32 := V0 (Proc.devRef .tc main_v15_4)
@[inherit_doc at0] abbrev at5 (V0 : Valuation τ sig (Elt F)) : IVec S41984 32 := V0 (Proc.devRef .tc main_v15_5)
@[inherit_doc at0] abbrev at6 (V0 : Valuation τ sig (Elt F)) : IVec S_ 32 := V0 (Proc.devRef .tc main_v15_6)
@[inherit_doc at0] abbrev at7 (V0 : Valuation τ sig (Elt F)) : FVec F S41984x2048 .f32 := V0 (Proc.devRef .tc main_v15_7)

/-- The counter after a trip. -/
theorem trip6 (V0 : Valuation τ sig (Elt F)) : at6 (STEP V0) = addi (at6 V0) (constantI S_ 32 1#32) := STEP_main_v15_6 V0

/-- The accumulated rows after a trip. -/
theorem trip7 (V0 : Valuation τ sig (Elt F)) :
    at7 (STEP V0) = addf (at7 V0) (mulf (gate (at5 V0) (takeNum (at0 V0) (at6 V0)))
      (back (through (at4 V0) (takeIn (at1 V0) (at6 V0))) (through (at4 V0) (takeIn (at2 V0) (at6 V0))) (takeOut (at3 V0) (at6 V0)))) := STEP_main_v15_7 V0

/-- The number of an expert, read signed, is itself. -/
theorem toInt_small : ∀ c : Fin 32, (BitVec.ofNat 32 c.val).toInt = (c.val : Int) := by decide

section slices
variable {n : IVec S_ 32} (c : Fin 32) (hn : n = fun _ => BitVec.ofNat 32 c.val)
include hn

/-- The weights in of an expert, at an element. -/
theorem takeIn_apply (x : FVec Ideal S32x2048x512 .f32) (k : Fin 2048) (f : Fin 512) : takeIn x n (ix2 k f) = x (ix3 c k f) := by
  have hc := c.isLt
  have e : ∀ (ht : S1x2048x512.rank = S32x2048x512.rank) (a : Fin 3), Host.clampedStart S32x2048x512 S1x2048x512 ht (start n) a = ![c.val, 0, 0] a := by
    subst hn
    intro ht a
    refine Host.clampedStart_of_le ht _ a _ ?_ ?_
    · match a with
      | ⟨0, _⟩ => exact toInt_small c
      | ⟨1, _⟩ => rfl
      | ⟨2, _⟩ => rfl
    · match a with
      | ⟨0, _⟩ => show c.val + 1 ≤ 32; omega
      | ⟨1, _⟩ => show 0 + 2048 ≤ 2048; omega
      | ⟨2, _⟩ => show 0 + 512 ≤ 512; omega
  pointwise [takeIn]
  have e0 := e rfl 0
  have e1 := e rfl 1
  have e2 := e rfl 2
  change _ = c.val at e0
  change _ = 0 at e1
  change _ = 0 at e2
  simp [e0, e1, e2]

/-- The weights out of an expert, at an element. -/
theorem takeOut_apply (x : FVec Ideal S32x512x2048 .f32) (f : Fin 512) (d : Fin 2048) : takeOut x n (ix2 f d) = x (ix3 c f d) := by
  have hc := c.isLt
  have e : ∀ (ht : S1x512x2048.rank = S32x512x2048.rank) (a : Fin 3), Host.clampedStart S32x512x2048 S1x512x2048 ht (start n) a = ![c.val, 0, 0] a := by
    subst hn
    intro ht a
    refine Host.clampedStart_of_le ht _ a _ ?_ ?_
    · match a with
      | ⟨0, _⟩ => exact toInt_small c
      | ⟨1, _⟩ => rfl
      | ⟨2, _⟩ => rfl
    · match a with
      | ⟨0, _⟩ => show c.val + 1 ≤ 32; omega
      | ⟨1, _⟩ => show 0 + 512 ≤ 512; omega
      | ⟨2, _⟩ => show 0 + 2048 ≤ 2048; omega
  pointwise [takeOut]
  have e0 := e rfl 0
  have e1 := e rfl 1
  have e2 := e rfl 2
  change _ = c.val at e0
  change _ = 0 at e1
  change _ = 0 at e2
  simp [e0, e1, e2]

/-- An entry of the numbers of the experts. -/
theorem takeNum_apply (x : IVec S32 32) (I : S_.Idx) : takeNum x n I = x (ix1 c) := by
  have hc := c.isLt
  have e : ∀ (ht : S1.rank = S32.rank) (a : Fin 1), Host.clampedStart S32 S1 ht (startNum n) a = ![c.val] a := by
    subst hn
    intro ht a
    refine Host.clampedStart_of_le ht _ a _ ?_ ?_
    · match a with
      | ⟨0, _⟩ => exact toInt_small c
    · match a with
      | ⟨0, _⟩ => show c.val + 1 ≤ 32; omega
  pointwise [takeNum]
  have e0 := e rfl 0
  change _ = c.val at e0
  simp [e0]

end slices

/-- The rows through weights in, at an element. -/
theorem through_apply (h : FVec Ideal S41984x2048 .f32) (w : FVec Ideal S2048x512 .f32) (r : Fin 41984) (f : Fin 512) :
    through h w (ix2 r f) = ∑ k : Fin 2048, h (ix2 r k) * w (ix2 k f) := by
  pointwise [through]

/-- The gating function at an element. -/
theorem silu_apply (g : FVec Ideal S41984x512 .f32) (r : Fin 41984) (f : Fin 512) :
    silu g (ix2 r f) = g (ix2 r f) * Ideal.logistic (g (ix2 r f)) := by
  pointwise [silu]
  rfl

/-- The gate at an element. -/
theorem gate_apply (eid : IVec S41984 32) (e : IVec S_ 32) (r : Fin 41984) (d : Fin 2048) (v : BitVec 32) (he : ∀ I, e I = v) :
    (gate eid e : FVec Ideal S41984x2048 .f32) (ix2 r d) = if eid (ix1 r) = v then 1 else 0 := by
  pointwise [gate]
  simp only [he]
  by_cases h : eid (ix1 r) = v
  · rw [if_pos h, h]
    have hb : IntOp.cmpi CmpIPredicate.eq v v = 1#1 := by show BitVec.ofBool (v == v) = 1#1; rw [beq_self_eq_true]; rfl
    rw [hb]
    simp [FloatOps.uitofp]
  · rw [if_neg h]
    have hb : IntOp.cmpi CmpIPredicate.eq (eid (ix1 r)) v = 0#1 := by
      show BitVec.ofBool (eid (ix1 r) == v) = 0#1; rw [beq_eq_false_iff_ne.mpr h]; rfl
    rw [hb]
    simp [FloatOps.uitofp]

/-- The gated products through the weights out, at an element. -/
theorem back_apply (g u : FVec Ideal S41984x512 .f32) (w : FVec Ideal S512x2048 .f32) (r : Fin 41984) (d : Fin 2048) :
    back g u w (ix2 r d) = ∑ f : Fin 512, g (ix2 r f) * Ideal.logistic (g (ix2 r f)) * u (ix2 r f) * w (ix2 f d) := by
  refine Eq.trans (b := ∑ f : Fin 512, silu g (ix2 r f) * u (ix2 r f) * w (ix2 f d)) ?_ ?_
  · pointwise [back]
  · simp only [silu_apply]

end Cert.Reference2Ideal.Trip

end
-- ==== Proof.Ref2Loop.lean ====
module
public import proofs.«01_k».proof.Proof.Ref2Step
public import Idealize.ShloMosaic.Lib.StableHlo.RunRead

/-!
# The experts' reference

After `n` trips every row whose number of expert is below `n` holds its expert's feed-forward layer, the others zero.
-/

@[expose] public section

set_option maxRecDepth 16384

noncomputable section

namespace Cert.Reference2Ideal.Trip

open Idealize.ShloMosaic Idealize.ShloMosaic.TcCoe Idealize.SL Idealize.SL.RA Idealize.SL.Sem
open Idealize.ShloMosaic.StableHlo
open Cert.Reference2Ideal Cert.Reference2Ideal.Gen Cert.Reference2Ideal.Value
open Cert.Kernel2Ideal.Expert (mlp mlp_congr)

/-- The feed-forward layer of expert `e` at row `r`. -/
def layer (h : FVec Ideal S41984x2048 .f32) (wg wu : FVec Ideal S32x2048x512 .f32) (wd : FVec Ideal S32x512x2048 .f32) (e : Fin 32) (r : Fin 41984) : Fin 2048 → EReal :=
  mlp (fun k => h (ix2 r k)) (fun k f => wg (ix3 e k f)) (fun k f => wu (ix3 e k f)) (fun f d => wd (ix3 e f d))

/-- What holds of the carried buffers after `n` trips. -/
structure Inv (h : FVec Ideal S41984x2048 .f32) (wg wu : FVec Ideal S32x2048x512 .f32) (wd : FVec Ideal S32x512x2048 .f32)
    (eid : Fin 41984 → ℕ) (n : ℕ) (V0 : Valuation τ sig (Elt Ideal)) : Prop where
  nums : ∀ e : Fin 32, at0 V0 (ix1 e) = BitVec.ofNat 32 e.val
  gates : at1 V0 = wg
  ups : at2 V0 = wu
  downs : at3 V0 = wd
  rows : at4 V0 = h
  ids : ∀ r, BitVec.toNat (w := 32) (at5 V0 (ix1 r)) = eid r
  counter : at6 V0 = fun _ => BitVec.ofNat 32 n
  done : ∀ (r : Fin 41984) (d : Fin 2048) (e : Fin 32), eid r = e.val → e.val < n → at7 V0 (ix2 r d) = layer h wg wu wd e r d
  todo : ∀ (r : Fin 41984) (d : Fin 2048), n ≤ eid r → at7 V0 (ix2 r d) = 0

variable {h : FVec Ideal S41984x2048 .f32} {wg wu : FVec Ideal S32x2048x512 .f32} {wd : FVec Ideal S32x512x2048 .f32} {eid : Fin 41984 → ℕ}

/-- A trip adds its expert's layer at its expert's rows. -/
theorem Inv.at7_step {n : ℕ} (hn : n < 32) {V0 : Valuation τ sig (Elt Ideal)} (I : Inv h wg wu wd eid n V0) (r : Fin 41984) (d : Fin 2048) :
    at7 (STEP V0) (ix2 r d) = at7 V0 (ix2 r d) + (if eid r = n then 1 else 0) * layer h wg wu wd ⟨n, hn⟩ r d := by
  have hc : at6 V0 = fun _ => BitVec.ofNat 32 (⟨n, hn⟩ : Fin 32).val := I.counter
  have hg : (gate (at5 V0) (takeNum (at0 V0) (at6 V0)) : FVec Ideal S41984x2048 .f32) (ix2 r d) = if eid r = n then 1 else 0 := by
    rw [gate_apply _ _ r d (BitVec.ofNat 32 n) (fun J => (takeNum_apply ⟨n, hn⟩ hc _ J).trans (I.nums _))]
    have hi := I.ids r
    have hw : (BitVec.ofNat 32 n).toNat = n := by rw [BitVec.toNat_ofNat]; omega
    by_cases q : eid r = n
    · rw [if_pos q, if_pos (BitVec.eq_of_toNat_eq (by rw [hw, ← q]; exact hi))]
    · rw [if_neg q, if_neg (fun e => q (by rw [← hi, e, hw]))]
  have hb : back (through (at4 V0) (takeIn (at1 V0) (at6 V0))) (through (at4 V0) (takeIn (at2 V0) (at6 V0))) (takeOut (at3 V0) (at6 V0)) (ix2 r d)
      = layer h wg wu wd ⟨n, hn⟩ r d := by
    rw [back_apply]
    simp only [through_apply, takeIn_apply ⟨n, hn⟩ hc, takeOut_apply ⟨n, hn⟩ hc, I.gates, I.ups, I.downs, I.rows]
    rfl
  rw [trip7, ← hg, ← hb]
  rfl

/-- A trip keeps the invariant. -/
theorem Inv.step {n : ℕ} (hn : n < 32) {V0 : Valuation τ sig (Elt Ideal)} (I : Inv h wg wu wd eid n V0) : Inv h wg wu wd eid (n + 1) (STEP V0) := by
  have e0 : at0 (STEP V0) = at0 V0 := STEP_main_v15_0 V0
  have e1 : at1 (STEP V0) = at1 V0 := STEP_main_v15_1 V0
  have e2 : at2 (STEP V0) = at2 V0 := STEP_main_v15_2 V0
  have e3 : at3 (STEP V0) = at3 V0 := STEP_main_v15_3 V0
  have e4 : at4 (STEP V0) = at4 V0 := STEP_main_v15_4 V0
  have e5 : at5 (STEP V0) = at5 V0 := STEP_main_v15_5 V0
  refine ⟨by rw [e0]; exact I.nums, by rw [e1]; exact I.gates, by rw [e2]; exact I.ups, by rw [e3]; exact I.downs, by rw [e4]; exact I.rows,
    by rw [e5]; exact I.ids, ?_, ?_, ?_⟩
  · rw [trip6, I.counter]
    funext _
    exact (BitVec.ofNat_add n 1).symm
  · intro r d e he hen
    rw [I.at7_step hn r d]
    by_cases q : e.val < n
    · rw [I.done r d e he q, if_neg (by omega), zero_mul, add_zero]
    · obtain rfl : e = ⟨n, hn⟩ := Fin.ext (by show e.val = n; omega)
      rw [I.todo r d (by rw [he]), if_pos he, one_mul, zero_add]
  · intro r d hr
    rw [I.at7_step hn r d, I.todo r d (by omega), if_neg (by omega), zero_mul, add_zero]

/-- The invariant after any number of trips. -/
theorem Inv.iterate {V0 : Valuation τ sig (Elt Ideal)} (I : Inv h wg wu wd eid 0 V0) : ∀ n ≤ 32, Inv h wg wu wd eid n (STEP^[n] V0)
  | 0, _ => I
  | n + 1, hn => by
    rw [Function.iterate_succ_apply']
    exact (Inv.iterate I n (by omega)).step (by omega)

variable (m : (l : Loc nD τ sig) → Buf (Elt Ideal) l) (c : Dev nD)

/-- The rows' numbers of experts: the tile's expert at a used tile's rows, 32 at the others. -/
def rowIds (te : IVec S164 32) (nv : IVec S1 32) : IVec S41984 32 :=
  select (cmpi .slt (shapeCast S41984 (broadcastInDim S164x256 ![0] bcast_S164_S164x256_0 (iotaInDim S164 32 0)) shapeCasts_S164x256_S41984)
      (broadcastInDim S41984 ![] bcast_S_S41984 (shapeCast S_ nv shapeCasts_S1_S_)))
    (shapeCast S41984 (broadcastInDim S164x256 ![0] bcast_S164_S164x256_0 te) shapeCasts_S164x256_S41984)
    (broadcastInDim S41984 ![] bcast_S_S41984 (constantI S_ 32 32#32))

/-- What the loop starts from: the experts' numbers, -/
theorem entry_nums : at0 (entryContents preI m c) = iotaInDim S32 32 0 := by
  show entryContents preI m c (Proc.devRef .tc main_v15_0) = _
  simp only [preI, entryContents, afterL_cons, afterL_nil]
  after_reads_simp
  rfl
/-- the stacks of weights, of which the first, -/
theorem entry_gates : at1 (entryContents preI m c) = shapeCast S32x2048x512 (m ((c.tc : Thread nD τ).loc main_arg3) : FVec Ideal S1x32x2048x512 .f32) shapeCasts_S1x32x2048x512_S32x2048x512 := by
  show entryContents preI m c (Proc.devRef .tc main_v15_1) = _
  simp only [preI, entryContents, afterL_cons, afterL_nil]
  after_reads_simp
  rfl
/-- the second, -/
theorem entry_ups : at2 (entryContents preI m c) = shapeCast S32x2048x512 (m ((c.tc : Thread nD τ).loc main_arg4) : FVec Ideal S1x32x2048x512 .f32) shapeCasts_S1x32x2048x512_S32x2048x512 := by
  show entryContents preI m c (Proc.devRef .tc main_v15_2) = _
  simp only [preI, entryContents, afterL_cons, afterL_nil]
  after_reads_simp
  rfl
/-- and the third, -/
theorem entry_downs : at3 (entryContents preI m c) = shapeCast S32x512x2048 (m ((c.tc : Thread nD τ).loc main_arg5) : FVec Ideal S1x32x512x2048 .f32) shapeCasts_S1x32x512x2048_S32x512x2048 := by
  show entryContents preI m c (Proc.devRef .tc main_v15_3) = _
  simp only [preI, entryContents, afterL_cons, afterL_nil]
  after_reads_simp
  rfl
/-- the rows, -/
theorem entry_rows : at4 (entryContents preI m c) = shapeCast S41984x2048 (m ((c.tc : Thread nD τ).loc main_arg2) : FVec Ideal S671744x128 .f32) shapeCasts_S671744x128_S41984x2048 := by
  show entryContents preI m c (Proc.devRef .tc main_v15_4) = _
  simp only [preI, entryContents, afterL_cons, afterL_nil]
  after_reads_simp
  rfl
/-- the rows' numbers of experts, -/
theorem entry_ids : at5 (entryContents preI m c) = rowIds (m ((c.tc : Thread nD τ).loc main_arg0)) (m ((c.tc : Thread nD τ).loc main_arg1)) := by
  show entryContents preI m c (Proc.devRef .tc main_v15_5) = _
  simp only [preI, entryContents, afterL_cons, afterL_nil]
  after_reads_simp
  rfl
/-- the counter at zero, -/
theorem entry_counter : at6 (entryContents preI m c) = constantI S_ 32 0#32 := by
  show entryContents preI m c (Proc.devRef .tc main_v15_6) = _
  simp only [preI, entryContents, afterL_cons, afterL_nil]
  after_reads_simp
  rfl
/-- and zeros. -/
theorem entry_acc : at7 (entryContents preI m c) = broadcastInDim S41984x2048 ![] bcast_S_S41984x2048 (constant S_ .f32 0x00000000#32) := by
  show entryContents preI m c (Proc.devRef .tc main_v15_7) = _
  simp only [preI, entryContents, afterL_cons, afterL_nil]
  after_reads_simp
  rfl

/-- A row's number of expert. -/
theorem rowIds_apply (te : IVec S164 32) (nv : IVec S1 32) (hv : BitVec.toNat (w := 32) (nv (ix1 0)) ≤ 164) (r : Fin 41984) :
    BitVec.toNat (w := 32) (rowIds te nv (ix1 r))
      = if r.val / 256 < BitVec.toNat (w := 32) (nv (ix1 0)) then BitVec.toNat (w := 32) (te (ix1 ⟨r.val / 256, by omega⟩)) else 32 := by
  pointwise [rowIds]
  have hs : IntOp.cmpi CmpIPredicate.slt (BitVec.ofNat 32 (r.val / 256)) (nv (ix1 0)) = BitVec.ofBool (decide (r.val / 256 < BitVec.toNat (w := 32) (nv (ix1 0)))) :=
    Cert.Kernel2Ideal.Expert.slt_tile (r.val / 256) (nv (ix1 0)) (by omega) hv
  rw [hs]
  by_cases q : r.val / 256 < BitVec.toNat (w := 32) (nv (ix1 0))
  · rw [if_pos q, decide_eq_true q]
    rfl
  · rw [if_neg q, decide_eq_false q]
    rfl

/-- The reshaped arguments at an element. -/
theorem rows_apply (x : FVec Ideal S671744x128 .f32) (r : Fin 41984) (k : Fin 2048) :
    (shapeCast S41984x2048 x shapeCasts_S671744x128_S41984x2048 : FVec Ideal S41984x2048 .f32) (ix2 r k)
      = x (ix2 ⟨r.val * 16 + k.val / 128, by omega⟩ ⟨k.val % 128, Nat.mod_lt _ (by norm_num)⟩) := by
  pointwise []
/-- The weights in at an element. -/
theorem in_apply (x : FVec Ideal S1x32x2048x512 .f32) (e : Fin 32) (k : Fin 2048) (f : Fin 512) :
    (shapeCast S32x2048x512 x shapeCasts_S1x32x2048x512_S32x2048x512 : FVec Ideal S32x2048x512 .f32) (ix3 e k f) = x (ix4 0 e k f) := by
  pointwise []
/-- The weights out at an element. -/
theorem out_apply (x : FVec Ideal S1x32x512x2048 .f32) (e : Fin 32) (f : Fin 512) (d : Fin 2048) :
    (shapeCast S32x512x2048 x shapeCasts_S1x32x512x2048_S32x512x2048 : FVec Ideal S32x512x2048 .f32) (ix3 e f d) = x (ix4 0 e f d) := by
  pointwise []

/-- The result at an element, off the accumulated rows. -/
theorem final_apply (V0 : Valuation τ sig (Elt Ideal)) (R : Fin 671744) (C : Fin 128) :
    (out_main_v16 V0 : FVec Ideal S671744x128 .f32) (ix2 R C) = at7 V0 (ix2 ⟨R.val / 16, by omega⟩ ⟨R.val % 16 * 128 + C.val, by omega⟩) := by
  clean_types
  pointwise [out_main_v16]

/-- A row's number of expert, as a number. -/
def idOf (te : IVec S164 32) (nv : IVec S1 32) (r : Fin 41984) : ℕ :=
  if r.val / 256 < BitVec.toNat (w := 32) (nv (ix1 0)) then BitVec.toNat (w := 32) (te (ix1 ⟨r.val / 256, by omega⟩)) else 32

/-- The carried buffers at the loop's entry satisfy the invariant. -/
theorem entry_inv (hv : BitVec.toNat (w := 32) ((m ((c.tc : Thread nD τ).loc main_arg1) : IVec S1 32) (ix1 0)) ≤ 164) :
    Inv (at4 (entryContents preI m c)) (at1 (entryContents preI m c)) (at2 (entryContents preI m c)) (at3 (entryContents preI m c))
      (idOf (m ((c.tc : Thread nD τ).loc main_arg0)) (m ((c.tc : Thread nD τ).loc main_arg1))) 0 (entryContents preI m c) := by
  refine ⟨?_, rfl, rfl, rfl, rfl, ?_, ?_, ?_, ?_⟩
  · intro e
    rw [entry_nums]
    rfl
  · intro r
    rw [entry_ids]
    exact rowIds_apply _ _ hv r
  · rw [entry_counter]
    rfl
  · intro r d e he hn
    omega
  · intro r d _
    rw [entry_acc]
    pointwise []

/-- The reference's result at a line: the layer of the tile's expert at the line's row if the tile is used, zero if not. -/
theorem final (te : IVec S164 32) (nv : IVec S1 32) (x : FVec Ideal S671744x128 .f32) (wg wu : FVec Ideal S1x32x2048x512 .f32) (wd : FVec Ideal S1x32x512x2048 .f32)
    (h0 : m ((c.tc : Thread nD τ).loc main_arg0) = te) (h1 : m ((c.tc : Thread nD τ).loc main_arg1) = nv) (h2 : m ((c.tc : Thread nD τ).loc main_arg2) = x)
    (h3 : m ((c.tc : Thread nD τ).loc main_arg3) = wg) (h4 : m ((c.tc : Thread nD τ).loc main_arg4) = wu) (h5 : m ((c.tc : Thread nD τ).loc main_arg5) = wd)
    (hv : BitVec.toNat (w := 32) (nv (ix1 0)) ≤ 164) (R : Fin 671744) (C : Fin 128)
    (he : BitVec.toNat (w := 32) (te (ix1 ⟨R.val / 4096, by omega⟩)) < 32) :
    (out_main_v16 (STEP^[32] (entryContents preI m c)) : FVec Ideal S671744x128 .f32) (ix2 R C)
      = if R.val / 4096 < BitVec.toNat (w := 32) (nv (ix1 0)) then
          mlp (fun k => x (ix2 ⟨R.val / 16 * 16 + k.val / 128, by omega⟩ ⟨k.val % 128, Nat.mod_lt _ (by norm_num)⟩))
            (fun k f => wg (ix4 0 ⟨BitVec.toNat (w := 32) (te (ix1 ⟨R.val / 4096, by omega⟩)), he⟩ k f))
            (fun k f => wu (ix4 0 ⟨BitVec.toNat (w := 32) (te (ix1 ⟨R.val / 4096, by omega⟩)), he⟩ k f))
            (fun f d => wd (ix4 0 ⟨BitVec.toNat (w := 32) (te (ix1 ⟨R.val / 4096, by omega⟩)), he⟩ f d)) ⟨R.val % 16 * 128 + C.val, by omega⟩
        else 0 := by
  have I := (entry_inv m c (by rw [h1]; exact hv)).iterate 32 le_rfl
  rw [h0, h1] at I
  rw [final_apply]
  have er : R.val / 16 / 256 = R.val / 4096 := by omega
  have ei : idOf te nv ⟨R.val / 16, by omega⟩ = if R.val / 4096 < BitVec.toNat (w := 32) (nv (ix1 0)) then BitVec.toNat (w := 32) (te (ix1 ⟨R.val / 4096, by omega⟩)) else 32 := by
    unfold idOf
    simp only [er]
  by_cases q : R.val / 4096 < BitVec.toNat (w := 32) (nv (ix1 0))
  · rw [if_pos q] at ei ⊢
    rw [I.done _ _ ⟨_, he⟩ ei he]
    unfold layer
    refine mlp_congr (fun k => ?_) (fun k f => ?_) (fun k f => ?_) (fun f d => ?_) _
    · rw [entry_rows, h2]
      exact rows_apply _ _ _
    · rw [entry_gates, h3]
      exact in_apply _ _ _ _
    · rw [entry_ups, h4]
      exact in_apply _ _ _ _
    · rw [entry_downs, h5]
      exact out_apply _ _ _ _
  · rw [if_neg q] at ei ⊢
    exact I.todo _ _ (by rw [ei])

end Cert.Reference2Ideal.Trip

end
-- ==== Proof.ExpertClaims.lean ====
module
public import proofs.«01_k».proof.Defs
public import proofs.«01_k».proof.Proof.ExpertBounds
public import proofs.«01_k».proof.Proof.ExpertVal
public import proofs.«01_k».proof.Proof.Ref2Loop
public import proofs.«01_k».proof.Proof.Gen.Kernel2
public import Idealize.ShloMosaic.Lib.Tactic
public import Idealize.ShloMosaic.Adequacy
public import Idealize.ShloMosaic.Init

/-!
# The experts' claims

From tables in range the kernel and the reference both end with every used tile's rows through the tile's expert and zeros at
the other tiles, so they end equal.
-/

@[expose] public section

set_option maxRecDepth 16384

noncomputable section

namespace Cert.Proof.Experts

open Idealize.ShloMosaic Idealize.ShloMosaic.TcCoe Idealize.SL.Sem
open Cert.Kernel2Ideal.Expert

/-- From tables in range the call terminates, leaves its arguments unchanged and its counters at zero, over any floats. -/
theorem frame {F : FTy → Type} [FloatOps F] (m : (ℓ : Loc Cert.Kernel2Ideal.nD Cert.Kernel2Ideal.τ Cert.Kernel2Ideal.sig) → Buf (Elt F) ℓ)
    (ρ : Dev Cert.Kernel2Ideal.nD → PrngReg)
    (hr : ∀ c : Dev Cert.Kernel2Ideal.nD, InRange (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))) :
    θ_run (Cert.Kernel2Ideal.defs (F := F)) (onTc (τ := Cert.Kernel2Ideal.τ) (Cert.Kernel2Ideal.main (F := F))) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0) :=
  (θ_run Cert.Kernel2Ideal.defs _ _).mono (fun _ h => ⟨fun c => (h.1 c).2, h.2⟩) (run m ρ hr)

/-- The idealised kernel terminates from tables in range, leaves its arguments unchanged and its counters at zero. -/
theorem frame_ideal : Cert.quiescent_Kernel2Ideal := fun m ρ hp => frame m ρ fun c => in_range (F := Ideal) _ _ _ _ _ _ (hp c)

/-- So does the kernel, whose text is the same. -/
theorem frame_kernel : Cert.quiescent_Kernel2 := by
  intro m ρ hp
  refine cast ?_ (frame (F := Bits) m ρ fun c => in_range (F := Bits) _ _ _ _ _ _ (hp c))
  sl_kernel_rfl

/-- The reference ends with its arguments unchanged. -/
theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The same from the memories of the precondition. -/
theorem frame_reference_pre : Cert.quiescent_Reference2Ideal_pre_tables_in_range := fun m ρ _ => frame_reference m ρ trivial

/-- The idealisation rewrites nothing. -/
theorem preserves : Cert.preserves_Kernel2_Kernel2Ideal := trivial

/-- The kernel and the reference end at equal results. -/
theorem algebraic : Cert.algebraic_Kernel2Ideal_Reference2Ideal := by
  intro m ρ m' ρ' hpre hagree
  have hr : ∀ c : Dev Cert.Kernel2Ideal.nD, InRange (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)) :=
    fun c => in_range (F := Ideal) _ _ _ _ _ _ (hpre c)
  refine ⟨fun c => result (tabs m hr) m ρ c, (θ_run Cert.Kernel2Ideal.defs _ _).mono (fun _ h => h.1) (run (F := Ideal) m ρ hr), ?_⟩
  refine (θ_run Cert.Reference2Ideal.defs _ _).mono (fun _ h c => ⟨(h c).1.trans ?_, (h c).2⟩)
    (Cert.Reference2Ideal.Value.run (F := Ideal) m' ρ')
  obtain rfl : c = 0 := Subsingleton.elim _ _
  obtain ⟨h0, h1, h2, h3, h4, h5⟩ := hagree 0
  refine funext fun (I : Cert.Kernel2Ideal.S671744x128.Idx) => ?_
  obtain ⟨R, C, rfl⟩ : ∃ (R : Fin 671744) (C : Fin 128), I = ix2 R C := ⟨I 0, I 1, eq_ix2 I⟩
  have et : (Fin.ofNat 164 (R.val / 4096) : Fin 164) = ⟨R.val / 4096, by omega⟩ := Fin.ext (Nat.mod_eq_of_lt (by omega))
  have he := (hr 0).expert_lt (R.val / 4096)
  unfold expert at he
  rw [et] at he
  refine (Cert.Reference2Ideal.Trip.final m' 0 _ _ _ _ _ _ h0 h1 h2 h3 h4 h5 (hr 0).used_le R C he).trans ?_
  refine Eq.trans ?_ (result_apply (tabs m hr) m ρ (hr 0) 0 R C).symm
  have ex : expert ((tabs m hr).1 0) (R.val / 4096) = BitVec.toNat (w := 32) ((m (((0 : Dev Cert.Kernel2Ideal.nD).tc : Thread Cert.Kernel2Ideal.nD Cert.Kernel2Ideal.τ).loc Cert.Kernel2Ideal.main_arg0) : IVec Cert.Kernel2Ideal.S164 32) (ix1 (⟨R.val / 4096, by omega⟩ : Fin 164))) := by
    rw [← et]
    rfl
  have e3 : (⟨expert ((tabs m hr).1 0) (R.val / 4096), (hr 0).expert_lt _⟩ : Fin 32) = ⟨_, he⟩ := Fin.ext ex
  rw [e3]
  rfl

end Cert.Proof.Experts

end
-- ==== Proof.Proj3.lean ====
module
public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Lib.Claim
public import Idealize.ShloMosaic.Lib.Pointwise
public import Idealize.ShloMosaic.Lib.Pipeline.ValueKit.Point
public import Idealize.ShloMosaic.Lib.Tactic.CleanTypes
public import Idealize.ShloMosaic.Adequacy
public import Idealize.ShloMosaic.Init

/-!
# The sample's keys

The one step of the call takes the 512 tokens through its 1024 columns of the combined projection; the whole result is the projection's
columns.
-/

@[expose] public section

set_option maxRecDepth 16384

noncomputable section

namespace Cert.Kernel3Ideal.Proj

open Idealize.ShloMosaic Idealize.ShloMosaic.TcCoe Idealize.SL.Sem
open Cert.Kernel3Ideal Cert.Kernel3Ideal.Gen Cert.Kernel3Ideal.Value

variable (m : (ℓ : Loc nD τ sig) → Buf (Elt Ideal) ℓ)

/-- The call's columns of the combined projection, at a token. -/
def lin (u : FVec Ideal S128x4x2048 .f32) (w : FVec Ideal S1x2048x7168 .f32) (R : Fin 512) (d : Fin 1024) : EReal :=
  ∑ k : Fin 2048, u (ix3 ⟨R.val / 4, by omega⟩ ⟨R.val % 4, Nat.mod_lt _ (by norm_num)⟩ k) * w (ix3 0 k ⟨5120 + d.val, by omega⟩)

/-- The block of every array at a step. -/
theorem blk_idx : ∀ t : Fin cfg0.N, win0_0.index t = ![t.val, 0] ∧ win0_1.index t = ![0, 0, 5] ∧ win0_2.index t = ![t.val, 0] := by
  decide +kernel

/-- The tokens of a step. -/
theorem blk_u (c : Dev nD) (t : Fin cfg0.N) (r : Fin 512) (R : Fin 512) (hR : R.val = 512 * t.val + r.val) (k : Fin 2048) :
    iblk m c 0 t (ix2 r k) = m ((c : Thread nD τ).loc main_arg0) (ix3 ⟨R.val / 4, by omega⟩ ⟨R.val % 4, Nat.mod_lt _ (by norm_num)⟩ k) := by
  blk_simp [iblk, blk_idx t]
  entry_read
  have e : ((View.whole main_v1).slice (win0_0.rect t)).emb (ix2 r k) = ix2 R k := by
    blk_ext [blk_idx t, hR]
  rw [e]
  pointwise

/-- The weights of every step. -/
theorem blk_w (c : Dev nD) (t : Fin cfg0.N) (k : Fin 2048) (d : Fin 1024) :
    iblk m c 1 t (ix3 0 k d) = m ((c : Thread nD τ).loc main_arg1) (ix3 0 k ⟨5120 + d.val, by omega⟩) := by
  blk_simp [iblk, blk_idx t]
  entry_read
  have e : ((View.whole main_v2).slice (win0_1.rect t)).emb (ix3 0 k d) = ix3 0 k ⟨5120 + d.val, by omega⟩ := by
    blk_ext [blk_idx t]
  rw [e]
  pointwise

/-- What a step computes, at an element. -/
theorem pay_apply (x : Vec Ideal S512x2048 .bf16) (w : Vec Ideal S1x2048x1024 .bf16) (r : Fin 512) (d : Fin 1024) :
    (k0_pay1 x w : FVec Ideal S512x1024 .f32) (ix2 r d)
      = ∑ k : Fin 2048, x (ix2 r k) * w (ix3 0 k d) := by
  pointwise [k0_pay1]

/-- What the call leaves, at an element. -/
theorem out_apply (c : Dev nD) (R : Fin 512) (d : Fin 1024) :
    ((dats m 0 c).arrAt 2 cfg0.N : S512x1024.Idx → EReal) (ix2 R d)
      = lin (m ((c : Thread nD τ).loc main_arg0)) (m ((c : Thread nD τ).loc main_arg1)) R d := by
  have hN : cfg0.N = 1 := by decide +kernel
  have hR := R.isLt
  have ht : R.val / 512 < cfg0.N := by rw [hN]; omega
  have hr : R.val % 512 < 512 := Nat.mod_lt _ (by norm_num)
  have key := congrFun ((blocks2 m c ⟨R.val / 512, ht⟩ (flush0_2 _)).trans (flushed2 m c _)) (ix2 ⟨R.val % 512, hr⟩ d)
  have hz : (![0, 0] : Fin S512x1024.rank → ℕ) = fun _ => 0 := by funext a; fin_cases a <;> rfl
  have hx : (![0, 0] : Fin S512x2048.rank → ℕ) = fun _ => 0 := by funext a; fin_cases a <;> rfl
  have hw : (![0, 0, 0] : Fin S1x2048x1024.rank → ℕ) = fun _ => 0 := by funext a; fin_cases a <;> rfl
  have e : ((View.whole main_v3).slice (win0_2.rect ⟨R.val / 512, ht⟩)).emb (ix2 ⟨R.val % 512, hr⟩ d) = ix2 R d := by
    blk_ext [blk_idx ⟨R.val / 512, ht⟩]
  have h1 : ((cfg0.win 2).blk ⟨R.val / 512, ht⟩).view.read (Elt Ideal) ((dats m 0 c).arrAt 2 cfg0.N) (ix2 ⟨R.val % 512, hr⟩ d)
      = ((dats m 0 c).arrAt 2 cfg0.N : S512x1024.Idx → EReal) (ix2 R d) := by
    rw [← e]; rfl
  have h2 : (cfg0.win 2).cut (grid0.coords ⟨R.val / 512, ht⟩)
        (out0_2 (iblk m c 0 ⟨R.val / 512, ht⟩) (iblk m c 1 ⟨R.val / 512, ht⟩)) (ix2 ⟨R.val % 512, hr⟩ d)
      = (k0_pay1 (iblk m c 0 ⟨R.val / 512, ht⟩) (iblk m c 1 ⟨R.val / 512, ht⟩) : FVec Ideal S512x1024 .f32)
        (ix2 ⟨R.val % 512, hr⟩ d) := by
    rw [out0_2, View.canon_unit_zero hz, View.ld_unit_zero hx, View.ld_unit_zero hw]
    rfl
  rw [← h1, key, h2, pay_apply]
  have hb : ∀ k : Fin 2048, iblk m c 0 ⟨R.val / 512, ht⟩ (ix2 ⟨R.val % 512, hr⟩ k)
      = m ((c : Thread nD τ).loc main_arg0) (ix3 ⟨R.val / 4, by omega⟩ ⟨R.val % 4, Nat.mod_lt _ (by norm_num)⟩ k) :=
    fun k => blk_u m c _ _ R (by show R.val = 512 * (R.val / 512) + R.val % 512; omega) k
  simp only [hb, blk_w]
  rfl

end Cert.Kernel3Ideal.Proj

namespace Cert.Proof.Proj3

open Idealize.ShloMosaic Idealize.ShloMosaic.TcCoe Idealize.SL.Sem
open Idealize.ShloMosaic.ValueIdx (contrEquiv1 contrEquiv1_symm_val)

/-- The reference's cut of the combined projection, at an element. -/
theorem ref_cut (X : FVec Ideal Cert.Reference3Ideal.S128x4x7168 .f32) (a : Fin 128) (b : Fin 4) (d : Fin 1024) :
    (extractStridedSlice Cert.Reference3Ideal.S128x4x1024 ![0, 0, 5120] X Cert.Reference3Ideal.Gen.slices_S128x4x7168_S128x4x1024_0_0_5120 : FVec Ideal Cert.Reference3Ideal.S128x4x1024 .f32)
      (ix3 a b d) = X (ix3 a b ⟨5120 + d.val, by omega⟩) := by
  pointwise

/-- The combined projection's columns of the call, at an element. -/
theorem ref_lin (u : FVec Ideal Cert.Reference3Ideal.S128x4x2048 .f32) (w : FVec Ideal Cert.Reference3Ideal.S1x2048x7168 .f32) (R : Fin 512) (d : Fin 1024) :
    (extractStridedSlice Cert.Reference3Ideal.S128x4x1024 ![0, 0, 5120]
        (Host.dotGeneral Cert.Reference3Ideal.dot_S128x4x2048_S2048x7168_S128x4x7168_2_0_01_1_n_n none u
          (shapeCast _ w Cert.Reference3Ideal.Gen.shapeCasts_S1x2048x7168_S2048x7168)) Cert.Reference3Ideal.Gen.slices_S128x4x7168_S128x4x1024_0_0_5120 : FVec Ideal Cert.Reference3Ideal.S128x4x1024 .f32)
      (ix3 ⟨R.val / 4, by omega⟩ ⟨R.val % 4, Nat.mod_lt _ (by norm_num)⟩ d) = Cert.Kernel3Ideal.Proj.lin u w R d := by
  have h : ∀ (a : Fin 128) (b : Fin 4) (j : Fin 7168),
      (Host.dotGeneral Cert.Reference3Ideal.dot_S128x4x2048_S2048x7168_S128x4x7168_2_0_01_1_n_n none u
          (shapeCast _ w Cert.Reference3Ideal.Gen.shapeCasts_S1x2048x7168_S2048x7168) : FVec Ideal Cert.Reference3Ideal.S128x4x7168 .f32) (ix3 a b j)
        = ∑ k : Fin 2048, u (ix3 a b k) * w (ix3 0 k j) := by
    intro a b j
    let D := Cert.Reference3Ideal.dot_S128x4x2048_S2048x7168_S128x4x7168_2_0_01_1_n_n
    show FloatOps.dotGeneral D none _ u _ (ix3 a b j) = _
    rw [Ideal.dotGeneral_apply, ← Equiv.sum_comp (contrEquiv1 D 2048 rfl rfl).symm]
    refine Finset.sum_congr rfl fun k _ => ?_
    have hk := contrEquiv1_symm_val D 2048 rfl rfl k
    have el : D.lhsIdx (ix3 a b j) ((contrEquiv1 D 2048 rfl rfl).symm k) = ix3 a b k := by
      funext ax; apply Fin.ext
      match ax with
      | ⟨0, _⟩ => rfl
      | ⟨1, _⟩ => rfl
      | ⟨2, _⟩ => exact hk
    have er : D.rhsIdx (ix3 a b j) ((contrEquiv1 D 2048 rfl rfl).symm k) = ix2 k j := by
      funext ax; apply Fin.ext
      match ax with
      | ⟨0, _⟩ => exact hk
      | ⟨1, _⟩ => rfl
    rw [el, er]
    pointwise
  exact (ref_cut _ _ _ d).trans (h _ _ ⟨5120 + d.val, by omega⟩)

/-- What the reference makes of the columns, at an element. -/
theorem ref_act (X : FVec Ideal Cert.Reference3Ideal.S128x4x1024 .f32) (R : Fin 512) (d : Fin 1024) :
    (shapeCast Cert.Reference3Ideal.S512x1024 X Cert.Reference3Ideal.Gen.shapeCasts_S128x4x1024_S512x1024 : FVec Ideal Cert.Reference3Ideal.S512x1024 .f32) (ix2 R d)
      = X (ix3 ⟨R.val / 4, by omega⟩ ⟨R.val % 4, Nat.mod_lt _ (by norm_num)⟩ d) := by
  pointwise

/-- The compiled call ends, on every device, with its arguments unchanged and no semaphore pending. -/
theorem frame_kernel : Cert.quiescent_Kernel3 := fun m ρ _ => Cert.Kernel3.Gen.frame m ρ

/-- So does the call over the reals. -/
theorem frame_ideal : Cert.quiescent_Kernel3Ideal := fun m ρ _ => Cert.Kernel3Ideal.Gen.frame m ρ

/-- So does the reference. -/
theorem frame_reference : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- Over the reals the call and the reference leave the same result. -/
theorem algebraic : Cert.algebraic_Kernel3Ideal_Reference3Ideal := by
  intro m ρ m' ρ' _ hagree
  refine ⟨fun c => (Cert.Kernel3Ideal.Gen.dats m 0 c).arrAt 2 Cert.Kernel3Ideal.cfg0.N, Cert.Kernel3Ideal.Value.run_blocks m ρ, ?_⟩
  refine (θ_run Cert.Reference3Ideal.defs _ _).mono (fun _ h c => ⟨(h c).1.trans ?_, (h c).2⟩)
    (Cert.Reference3Ideal.Value.run (F := Ideal) m' ρ')
  obtain ⟨h0, h1⟩ := hagree c
  refine funext fun (I : Cert.Kernel3Ideal.S512x1024.Idx) => ?_
  obtain ⟨R, d, rfl⟩ : ∃ (R : Fin 512) (d : Fin 1024), I = ix2 R d := ⟨I 0, I 1, eq_ix2 I⟩
  refine Eq.trans ?_ (Cert.Kernel3Ideal.Proj.out_apply m c R d).symm
  rw [← h0, ← h1, ← ref_lin]
  exact ref_act _ R d

end Cert.Proof.Proj3

end
-- ==== Proof.Proj4.lean ====
module
public import proofs.«01_k».proof.Defs
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import Idealize.ShloMosaic.Lib.Claim
public import Idealize.ShloMosaic.Lib.Pointwise
public import Idealize.ShloMosaic.Lib.Pipeline.ValueKit.Point
public import Idealize.ShloMosaic.Lib.Tactic.CleanTypes
public import Idealize.ShloMosaic.Adequacy
public import Idealize.ShloMosaic.Init

/-!
# The sample's values

The one step of the call takes the 512 tokens through its 1024 columns of the combined projection; the whole result is the projection's
columns.
-/

@[expose] public section

set_option maxRecDepth 16384

noncomputable section

namespace Cert.Kernel4Ideal.Proj

open Idealize.ShloMosaic Idealize.ShloMosaic.TcCoe Idealize.SL.Sem
open Cert.Kernel4Ideal Cert.Kernel4Ideal.Gen Cert.Kernel4Ideal.Value

variable (m : (ℓ : Loc nD τ sig) → Buf (Elt Ideal) ℓ)

/-- The call's columns of the combined projection, at a token. -/
def lin (u : FVec Ideal S128x4x2048 .f32) (w : FVec Ideal S1x2048x7168 .f32) (R : Fin 512) (d : Fin 1024) : EReal :=
  ∑ k : Fin 2048, u (ix3 ⟨R.val / 4, by omega⟩ ⟨R.val % 4, Nat.mod_lt _ (by norm_num)⟩ k) * w (ix3 0 k ⟨6144 + d.val, by omega⟩)

/-- The block of every array at a step. -/
theorem blk_idx : ∀ t : Fin cfg0.N, win0_0.index t = ![t.val, 0] ∧ win0_1.index t = ![0, 0, 6] ∧ win0_2.index t = ![t.val, 0] := by
  decide +kernel

/-- The tokens of a step. -/
theorem blk_u (c : Dev nD) (t : Fin cfg0.N) (r : Fin 512) (R : Fin 512) (hR : R.val = 512 * t.val + r.val) (k : Fin 2048) :
    iblk m c 0 t (ix2 r k) = m ((c : Thread nD τ).loc main_arg0) (ix3 ⟨R.val / 4, by omega⟩ ⟨R.val % 4, Nat.mod_lt _ (by norm_num)⟩ k) := by
  blk_simp [iblk, blk_idx t]
  entry_read
  have e : ((View.whole main_v1).slice (win0_0.rect t)).emb (ix2 r k) = ix2 R k := by
    blk_ext [blk_idx t, hR]
  rw [e]
  pointwise

/-- The weights of every step. -/
theorem blk_w (c : Dev nD) (t : Fin cfg0.N) (k : Fin 2048) (d : Fin 1024) :
    iblk m c 1 t (ix3 0 k d) = m ((c : Thread nD τ).loc main_arg1) (ix3 0 k ⟨6144 + d.val, by omega⟩) := by
  blk_simp [iblk, blk_idx t]
  entry_read
  have e : ((View.whole main_v2).slice (win0_1.rect t)).emb (ix3 0 k d) = ix3 0 k ⟨6144 + d.val, by omega⟩ := by
    blk_ext [blk_idx t]
  rw [e]
  pointwise

/-- What a step computes, at an element. -/
theorem pay_apply (x : Vec Ideal S512x2048 .bf16) (w : Vec Ideal S1x2048x1024 .bf16) (r : Fin 512) (d : Fin 1024) :
    (k0_pay1 x w : FVec Ideal S512x1024 .f32) (ix2 r d)
      = ∑ k : Fin 2048, x (ix2 r k) * w (ix3 0 k d) := by
  pointwise [k0_pay1]

/-- What the call leaves, at an element. -/
theorem out_apply (c : Dev nD) (R : Fin 512) (d : Fin 1024) :
    ((dats m 0 c).arrAt 2 cfg0.N : S512x1024.Idx → EReal) (ix2 R d)
      = lin (m ((c : Thread nD τ).loc main_arg0)) (m ((c : Thread nD τ).loc main_arg1)) R d := by
  have hN : cfg0.N = 1 := by decide +kernel
  have hR := R.isLt
  have ht : R.val / 512 < cfg0.N := by rw [hN]; omega
  have hr : R.val % 512 < 512 := Nat.mod_lt _ (by norm_num)
  have key := congrFun ((blocks2 m c ⟨R.val / 512, ht⟩ (flush0_2 _)).trans (flushed2 m c _)) (ix2 ⟨R.val % 512, hr⟩ d)
  have hz : (![0, 0] : Fin S512x1024.rank → ℕ) = fun _ => 0 := by funext a; fin_cases a <;> rfl
  have hx : (![0, 0] : Fin S512x2048.rank → ℕ) = fun _ => 0 := by funext a; fin_cases a <;> rfl
  have hw : (![0, 0, 0] : Fin S1x2048x1024.rank → ℕ) = fun _ => 0 := by funext a; fin_cases a <;> rfl
  have e : ((View.whole main_v3).slice (win0_2.rect ⟨R.val / 512, ht⟩)).emb (ix2 ⟨R.val % 512, hr⟩ d) = ix2 R d := by
    blk_ext [blk_idx ⟨R.val / 512, ht⟩]
  have h1 : ((cfg0.win 2).blk ⟨R.val / 512, ht⟩).view.read (Elt Ideal) ((dats m 0 c).arrAt 2 cfg0.N) (ix2 ⟨R.val % 512, hr⟩ d)
      = ((dats m 0 c).arrAt 2 cfg0.N : S512x1024.Idx → EReal) (ix2 R d) := by
    rw [← e]; rfl
  have h2 : (cfg0.win 2).cut (grid0.coords ⟨R.val / 512, ht⟩)
        (out0_2 (iblk m c 0 ⟨R.val / 512, ht⟩) (iblk m c 1 ⟨R.val / 512, ht⟩)) (ix2 ⟨R.val % 512, hr⟩ d)
      = (k0_pay1 (iblk m c 0 ⟨R.val / 512, ht⟩) (iblk m c 1 ⟨R.val / 512, ht⟩) : FVec Ideal S512x1024 .f32)
        (ix2 ⟨R.val % 512, hr⟩ d) := by
    rw [out0_2, View.canon_unit_zero hz, View.ld_unit_zero hx, View.ld_unit_zero hw]
    rfl
  rw [← h1, key, h2, pay_apply]
  have hb : ∀ k : Fin 2048, iblk m c 0 ⟨R.val / 512, ht⟩ (ix2 ⟨R.val % 512, hr⟩ k)
      = m ((c : Thread nD τ).loc main_arg0) (ix3 ⟨R.val / 4, by omega⟩ ⟨R.val % 4, Nat.mod_lt _ (by norm_num)⟩ k) :=
    fun k => blk_u m c _ _ R (by show R.val = 512 * (R.val / 512) + R.val % 512; omega) k
  simp only [hb, blk_w]
  rfl

end Cert.Kernel4Ideal.Proj

namespace Cert.Proof.Proj4

open Idealize.ShloMosaic Idealize.ShloMosaic.TcCoe Idealize.SL.Sem
open Idealize.ShloMosaic.ValueIdx (contrEquiv1 contrEquiv1_symm_val)

/-- The reference's cut of the combined projection, at an element. -/
theorem ref_cut (X : FVec Ideal Cert.Reference4Ideal.S128x4x7168 .f32) (a : Fin 128) (b : Fin 4) (d : Fin 1024) :
    (extractStridedSlice Cert.Reference4Ideal.S128x4x1024 ![0, 0, 6144] X Cert.Reference4Ideal.Gen.slices_S128x4x7168_S128x4x1024_0_0_6144 : FVec Ideal Cert.Reference4Ideal.S128x4x1024 .f32)
      (ix3 a b d) = X (ix3 a b ⟨6144 + d.val, by omega⟩) := by
  pointwise

/-- The combined projection's columns of the call, at an element. -/
theorem ref_lin (u : FVec Ideal Cert.Reference4Ideal.S128x4x2048 .f32) (w : FVec Ideal Cert.Reference4Ideal.S1x2048x7168 .f32) (R : Fin 512) (d : Fin 1024) :
    (extractStridedSlice Cert.Reference4Ideal.S128x4x1024 ![0, 0, 6144]
        (Host.dotGeneral Cert.Reference4Ideal.dot_S128x4x2048_S2048x7168_S128x4x7168_2_0_01_1_n_n none u
          (shapeCast _ w Cert.Reference4Ideal.Gen.shapeCasts_S1x2048x7168_S2048x7168)) Cert.Reference4Ideal.Gen.slices_S128x4x7168_S128x4x1024_0_0_6144 : FVec Ideal Cert.Reference4Ideal.S128x4x1024 .f32)
      (ix3 ⟨R.val / 4, by omega⟩ ⟨R.val % 4, Nat.mod_lt _ (by norm_num)⟩ d) = Cert.Kernel4Ideal.Proj.lin u w R d := by
  have h : ∀ (a : Fin 128) (b : Fin 4) (j : Fin 7168),
      (Host.dotGeneral Cert.Reference4Ideal.dot_S128x4x2048_S2048x7168_S128x4x7168_2_0_01_1_n_n none u
          (shapeCast _ w Cert.Reference4Ideal.Gen.shapeCasts_S1x2048x7168_S2048x7168) : FVec Ideal Cert.Reference4Ideal.S128x4x7168 .f32) (ix3 a b j)
        = ∑ k : Fin 2048, u (ix3 a b k) * w (ix3 0 k j) := by
    intro a b j
    let D := Cert.Reference4Ideal.dot_S128x4x2048_S2048x7168_S128x4x7168_2_0_01_1_n_n
    show FloatOps.dotGeneral D none _ u _ (ix3 a b j) = _
    rw [Ideal.dotGeneral_apply, ← Equiv.sum_comp (contrEquiv1 D 2048 rfl rfl).symm]
    refine Finset.sum_congr rfl fun k _ => ?_
    have hk := contrEquiv1_symm_val D 2048 rfl rfl k
    have el : D.lhsIdx (ix3 a b j) ((contrEquiv1 D 2048 rfl rfl).symm k) = ix3 a b k := by
      funext ax; apply Fin.ext
      match ax with
      | ⟨0, _⟩ => rfl
      | ⟨1, _⟩ => rfl
      | ⟨2, _⟩ => exact hk
    have er : D.rhsIdx (ix3 a b j) ((contrEquiv1 D 2048 rfl rfl).symm k) = ix2 k j := by
      funext ax; apply Fin.ext
      match ax with
      | ⟨0, _⟩ => exact hk
      | ⟨1, _⟩ => rfl
    rw [el, er]
    pointwise
  exact (ref_cut _ _ _ d).trans (h _ _ ⟨6144 + d.val, by omega⟩)

/-- What the reference makes of the columns, at an element. -/
theorem ref_act (X : FVec Ideal Cert.Reference4Ideal.S128x4x1024 .f32) (R : Fin 512) (d : Fin 1024) :
    (shapeCast Cert.Reference4Ideal.S512x1024 X Cert.Reference4Ideal.Gen.shapeCasts_S128x4x1024_S512x1024 : FVec Ideal Cert.Reference4Ideal.S512x1024 .f32) (ix2 R d)
      = X (ix3 ⟨R.val / 4, by omega⟩ ⟨R.val % 4, Nat.mod_lt _ (by norm_num)⟩ d) := by
  pointwise

/-- The compiled call ends, on every device, with its arguments unchanged and no semaphore pending. -/
theorem frame_kernel : Cert.quiescent_Kernel4 := fun m ρ _ => Cert.Kernel4.Gen.frame m ρ

/-- So does the call over the reals. -/
theorem frame_ideal : Cert.quiescent_Kernel4Ideal := fun m ρ _ => Cert.Kernel4Ideal.Gen.frame m ρ

/-- So does the reference. -/
theorem frame_reference : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- Over the reals the call and the reference leave the same result. -/
theorem algebraic : Cert.algebraic_Kernel4Ideal_Reference4Ideal := by
  intro m ρ m' ρ' _ hagree
  refine ⟨fun c => (Cert.Kernel4Ideal.Gen.dats m 0 c).arrAt 2 Cert.Kernel4Ideal.cfg0.N, Cert.Kernel4Ideal.Value.run_blocks m ρ, ?_⟩
  refine (θ_run Cert.Reference4Ideal.defs _ _).mono (fun _ h c => ⟨(h c).1.trans ?_, (h c).2⟩)
    (Cert.Reference4Ideal.Value.run (F := Ideal) m' ρ')
  obtain ⟨h0, h1⟩ := hagree c
  refine funext fun (I : Cert.Kernel4Ideal.S512x1024.Idx) => ?_
  obtain ⟨R, d, rfl⟩ : ∃ (R : Fin 512) (d : Fin 1024), I = ix2 R d := ⟨I 0, I 1, eq_ix2 I⟩
  refine Eq.trans ?_ (Cert.Kernel4Ideal.Proj.out_apply m c R d).symm
  rw [← h0, ← h1, ← ref_lin]
  exact ref_act _ R d

end Cert.Proof.Proj4

end
-- ==== Proof.Proj5.lean ====
module
public import proofs.«01_k».proof.Defs
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import Idealize.ShloMosaic.Lib.Claim
public import Idealize.ShloMosaic.Lib.Pointwise
public import Idealize.ShloMosaic.Lib.Pipeline.ValueKit.Point
public import Idealize.ShloMosaic.Lib.Tactic.CleanTypes
public import Idealize.ShloMosaic.Adequacy
public import Idealize.ShloMosaic.Init

/-!
# The prompt's queries of the gated recurrence

Step `t` of the call takes 1024 tokens through its 1024 columns of the combined projection; the whole result is the projection's
columns through `silu`.
-/

@[expose] public section

set_option maxRecDepth 16384

noncomputable section

namespace Cert.Kernel5Ideal.Proj

open Idealize.ShloMosaic Idealize.ShloMosaic.TcCoe Idealize.SL.Sem
open Cert.Kernel5Ideal Cert.Kernel5Ideal.Gen Cert.Kernel5Ideal.Value

variable (m : (ℓ : Loc nD τ sig) → Buf (Elt Ideal) ℓ)

/-- The call's columns of the combined projection, at a token. -/
def lin (u : FVec Ideal S8x2048x2048 .f32) (w : FVec Ideal S1x2048x7168 .f32) (R : Fin 16384) (d : Fin 1024) : EReal :=
  ∑ k : Fin 2048, u (ix3 ⟨R.val / 2048, by omega⟩ ⟨R.val % 2048, Nat.mod_lt _ (by norm_num)⟩ k) * w (ix3 0 k ⟨0 + d.val, by omega⟩)

/-- `silu`. -/
def act (z : EReal) : EReal := z * Ideal.logistic z

/-- The block of every array at a step. -/
theorem blk_idx : ∀ t : Fin cfg0.N, win0_0.index t = ![t.val, 0] ∧ win0_1.index t = ![0, 0, 0] ∧ win0_2.index t = ![t.val, 0] := by
  decide +kernel

/-- The tokens of a step. -/
theorem blk_u (c : Dev nD) (t : Fin cfg0.N) (r : Fin 1024) (R : Fin 16384) (hR : R.val = 1024 * t.val + r.val) (k : Fin 2048) :
    iblk m c 0 t (ix2 r k) = m ((c : Thread nD τ).loc main_arg0) (ix3 ⟨R.val / 2048, by omega⟩ ⟨R.val % 2048, Nat.mod_lt _ (by norm_num)⟩ k) := by
  blk_simp [iblk, blk_idx t]
  entry_read
  have e : ((View.whole main_v1).slice (win0_0.rect t)).emb (ix2 r k) = ix2 R k := by
    blk_ext [blk_idx t, hR]
  rw [e]
  pointwise

/-- The weights of every step. -/
theorem blk_w (c : Dev nD) (t : Fin cfg0.N) (k : Fin 2048) (d : Fin 1024) :
    iblk m c 1 t (ix3 0 k d) = m ((c : Thread nD τ).loc main_arg1) (ix3 0 k ⟨0 + d.val, by omega⟩) := by
  blk_simp [iblk, blk_idx t]
  entry_read
  have e : ((View.whole main_v2).slice (win0_1.rect t)).emb (ix3 0 k d) = ix3 0 k ⟨0 + d.val, by omega⟩ := by
    blk_ext [blk_idx t]
  rw [e]
  pointwise

/-- What a step computes, at an element. -/
theorem pay_apply (x : Vec Ideal S1024x2048 .bf16) (w : Vec Ideal S1x2048x1024 .bf16) (r d : Fin 1024) :
    (k0_pay1 x w : FVec Ideal S1024x1024 .f32) (ix2 r d)
      = (∑ k : Fin 2048, x (ix2 r k) * w (ix3 0 k d)) * Ideal.logistic (∑ k : Fin 2048, x (ix2 r k) * w (ix3 0 k d)) := by
  pointwise [k0_pay1]

/-- What the call leaves, at an element. -/
theorem out_apply (c : Dev nD) (R : Fin 16384) (d : Fin 1024) :
    ((dats m 0 c).arrAt 2 cfg0.N : S16384x1024.Idx → EReal) (ix2 R d)
      = act (lin (m ((c : Thread nD τ).loc main_arg0)) (m ((c : Thread nD τ).loc main_arg1)) R d) := by
  have hN : cfg0.N = 16 := by decide +kernel
  have hR := R.isLt
  have ht : R.val / 1024 < cfg0.N := by rw [hN]; omega
  have hr : R.val % 1024 < 1024 := Nat.mod_lt _ (by norm_num)
  have key := congrFun ((blocks2 m c ⟨R.val / 1024, ht⟩ (flush0_2 _)).trans (flushed2 m c _)) (ix2 ⟨R.val % 1024, hr⟩ d)
  have hz : (![0, 0] : Fin S1024x1024.rank → ℕ) = fun _ => 0 := by funext a; fin_cases a <;> rfl
  have hx : (![0, 0] : Fin S1024x2048.rank → ℕ) = fun _ => 0 := by funext a; fin_cases a <;> rfl
  have hw : (![0, 0, 0] : Fin S1x2048x1024.rank → ℕ) = fun _ => 0 := by funext a; fin_cases a <;> rfl
  have e : ((View.whole main_v3).slice (win0_2.rect ⟨R.val / 1024, ht⟩)).emb (ix2 ⟨R.val % 1024, hr⟩ d) = ix2 R d := by
    blk_ext [blk_idx ⟨R.val / 1024, ht⟩]
  have h1 : ((cfg0.win 2).blk ⟨R.val / 1024, ht⟩).view.read (Elt Ideal) ((dats m 0 c).arrAt 2 cfg0.N) (ix2 ⟨R.val % 1024, hr⟩ d)
      = ((dats m 0 c).arrAt 2 cfg0.N : S16384x1024.Idx → EReal) (ix2 R d) := by
    rw [← e]; rfl
  have h2 : (cfg0.win 2).cut (grid0.coords ⟨R.val / 1024, ht⟩)
        (out0_2 (iblk m c 0 ⟨R.val / 1024, ht⟩) (iblk m c 1 ⟨R.val / 1024, ht⟩)) (ix2 ⟨R.val % 1024, hr⟩ d)
      = (k0_pay1 (iblk m c 0 ⟨R.val / 1024, ht⟩) (iblk m c 1 ⟨R.val / 1024, ht⟩) : FVec Ideal S1024x1024 .f32)
        (ix2 ⟨R.val % 1024, hr⟩ d) := by
    rw [out0_2, View.canon_unit_zero hz, View.ld_unit_zero hx, View.ld_unit_zero hw]
    rfl
  rw [← h1, key, h2, pay_apply]
  have hb : ∀ k : Fin 2048, iblk m c 0 ⟨R.val / 1024, ht⟩ (ix2 ⟨R.val % 1024, hr⟩ k)
      = m ((c : Thread nD τ).loc main_arg0) (ix3 ⟨R.val / 2048, by omega⟩ ⟨R.val % 2048, Nat.mod_lt _ (by norm_num)⟩ k) :=
    fun k => blk_u m c _ _ R (by show R.val = 1024 * (R.val / 1024) + R.val % 1024; omega) k
  simp only [hb, blk_w]
  rfl

end Cert.Kernel5Ideal.Proj

namespace Cert.Proof.Proj5

open Idealize.ShloMosaic Idealize.ShloMosaic.TcCoe Idealize.SL.Sem
open Idealize.ShloMosaic.ValueIdx (contrEquiv1 contrEquiv1_symm_val)

/-- The reference's cut of the combined projection, at an element. -/
theorem ref_cut (X : FVec Ideal Cert.Reference5Ideal.S8x2048x7168 .f32) (a : Fin 8) (b : Fin 2048) (d : Fin 1024) :
    (extractStridedSlice Cert.Reference5Ideal.S8x2048x1024 ![0, 0, 0] X Cert.Reference5Ideal.Gen.slices_S8x2048x7168_S8x2048x1024_0_0_0 : FVec Ideal Cert.Reference5Ideal.S8x2048x1024 .f32)
      (ix3 a b d) = X (ix3 a b ⟨0 + d.val, by omega⟩) := by
  pointwise

/-- The combined projection's columns of the call, at an element. -/
theorem ref_lin (u : FVec Ideal Cert.Reference5Ideal.S8x2048x2048 .f32) (w : FVec Ideal Cert.Reference5Ideal.S1x2048x7168 .f32) (R : Fin 16384) (d : Fin 1024) :
    (extractStridedSlice Cert.Reference5Ideal.S8x2048x1024 ![0, 0, 0]
        (Host.dotGeneral Cert.Reference5Ideal.dot_S8x2048x2048_S2048x7168_S8x2048x7168_2_0_01_1_n_n none u
          (shapeCast _ w Cert.Reference5Ideal.Gen.shapeCasts_S1x2048x7168_S2048x7168)) Cert.Reference5Ideal.Gen.slices_S8x2048x7168_S8x2048x1024_0_0_0 : FVec Ideal Cert.Reference5Ideal.S8x2048x1024 .f32)
      (ix3 ⟨R.val / 2048, by omega⟩ ⟨R.val % 2048, Nat.mod_lt _ (by norm_num)⟩ d) = Cert.Kernel5Ideal.Proj.lin u w R d := by
  have h : ∀ (a : Fin 8) (b : Fin 2048) (j : Fin 7168),
      (Host.dotGeneral Cert.Reference5Ideal.dot_S8x2048x2048_S2048x7168_S8x2048x7168_2_0_01_1_n_n none u
          (shapeCast _ w Cert.Reference5Ideal.Gen.shapeCasts_S1x2048x7168_S2048x7168) : FVec Ideal Cert.Reference5Ideal.S8x2048x7168 .f32) (ix3 a b j)
        = ∑ k : Fin 2048, u (ix3 a b k) * w (ix3 0 k j) := by
    intro a b j
    let D := Cert.Reference5Ideal.dot_S8x2048x2048_S2048x7168_S8x2048x7168_2_0_01_1_n_n
    show FloatOps.dotGeneral D none _ u _ (ix3 a b j) = _
    rw [Ideal.dotGeneral_apply, ← Equiv.sum_comp (contrEquiv1 D 2048 rfl rfl).symm]
    refine Finset.sum_congr rfl fun k _ => ?_
    have hk := contrEquiv1_symm_val D 2048 rfl rfl k
    have el : D.lhsIdx (ix3 a b j) ((contrEquiv1 D 2048 rfl rfl).symm k) = ix3 a b k := by
      funext ax; apply Fin.ext
      match ax with
      | ⟨0, _⟩ => rfl
      | ⟨1, _⟩ => rfl
      | ⟨2, _⟩ => exact hk
    have er : D.rhsIdx (ix3 a b j) ((contrEquiv1 D 2048 rfl rfl).symm k) = ix2 k j := by
      funext ax; apply Fin.ext
      match ax with
      | ⟨0, _⟩ => exact hk
      | ⟨1, _⟩ => rfl
    rw [el, er]
    pointwise
  exact (ref_cut _ _ _ d).trans (h _ _ ⟨0 + d.val, by omega⟩)

/-- What the reference makes of the columns, at an element. -/
theorem ref_act (X : FVec Ideal Cert.Reference5Ideal.S8x2048x1024 .f32) (R : Fin 16384) (d : Fin 1024) :
    (shapeCast Cert.Reference5Ideal.S16384x1024 (mulf X (Host.divf (broadcastInDim Cert.Reference5Ideal.S8x2048x1024 ![] Cert.Reference5Ideal.Gen.bcast_S_S8x2048x1024 (constant Cert.Reference5Ideal.S_ .f32 0x3F800000#32))
        (addf (broadcastInDim Cert.Reference5Ideal.S8x2048x1024 ![] Cert.Reference5Ideal.Gen.bcast_S_S8x2048x1024 (constant Cert.Reference5Ideal.S_ .f32 0x3F800000#32))
          (Host.exp (Host.negf X))))) Cert.Reference5Ideal.Gen.shapeCasts_S8x2048x1024_S16384x1024 : FVec Ideal Cert.Reference5Ideal.S16384x1024 .f32) (ix2 R d)
      = Cert.Kernel5Ideal.Proj.act (X (ix3 ⟨R.val / 2048, by omega⟩ ⟨R.val % 2048, Nat.mod_lt _ (by norm_num)⟩ d)) := by
  pointwise
  rfl

/-- The compiled call ends, on every device, with its arguments unchanged and no semaphore pending. -/
theorem frame_kernel : Cert.quiescent_Kernel5 := fun m ρ _ => Cert.Kernel5.Gen.frame m ρ

/-- So does the call over the reals. -/
theorem frame_ideal : Cert.quiescent_Kernel5Ideal := fun m ρ _ => Cert.Kernel5Ideal.Gen.frame m ρ

/-- So does the reference. -/
theorem frame_reference : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- Over the reals the call and the reference leave the same result. -/
theorem algebraic : Cert.algebraic_Kernel5Ideal_Reference5Ideal := by
  intro m ρ m' ρ' _ hagree
  refine ⟨fun c => (Cert.Kernel5Ideal.Gen.dats m 0 c).arrAt 2 Cert.Kernel5Ideal.cfg0.N, Cert.Kernel5Ideal.Value.run_blocks m ρ, ?_⟩
  refine (θ_run Cert.Reference5Ideal.defs _ _).mono (fun _ h c => ⟨(h c).1.trans ?_, (h c).2⟩)
    (Cert.Reference5Ideal.Value.run (F := Ideal) m' ρ')
  obtain ⟨h0, h1⟩ := hagree c
  refine funext fun (I : Cert.Kernel5Ideal.S16384x1024.Idx) => ?_
  obtain ⟨R, d, rfl⟩ : ∃ (R : Fin 16384) (d : Fin 1024), I = ix2 R d := ⟨I 0, I 1, eq_ix2 I⟩
  refine Eq.trans ?_ (Cert.Kernel5Ideal.Proj.out_apply m c R d).symm
  rw [← h0, ← h1, ← ref_lin]
  exact ref_act _ R d

end Cert.Proof.Proj5

end
-- ==== Proof.Proj6.lean ====
module
public import proofs.«01_k».proof.Defs
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import Idealize.ShloMosaic.Lib.Claim
public import Idealize.ShloMosaic.Lib.Pointwise
public import Idealize.ShloMosaic.Lib.Pipeline.ValueKit.Point
public import Idealize.ShloMosaic.Lib.Tactic.CleanTypes
public import Idealize.ShloMosaic.Adequacy
public import Idealize.ShloMosaic.Init

/-!
# The prompt's gates of the gated recurrence

Step `t` of the call takes 1024 tokens through its 1024 columns of the combined projection; the whole result is the projection's
columns through `sigmoid`, raised above the lower bounds. The bounds are never opened: the call and the reference compute them by
the same operations.
-/

@[expose] public section

set_option maxRecDepth 16384

noncomputable section

namespace Cert.Kernel6Ideal.Proj

open Idealize.ShloMosaic Idealize.ShloMosaic.TcCoe Idealize.SL.Sem
open Cert.Kernel6Ideal Cert.Kernel6Ideal.Gen Cert.Kernel6Ideal.Value

variable (m : (ℓ : Loc nD τ sig) → Buf (Elt Ideal) ℓ)

/-- The call's columns of the combined projection, at a token. -/
def lin (u : FVec Ideal S8x2048x2048 .f32) (w : FVec Ideal S1x2048x7168 .f32) (R : Fin 16384) (d : Fin 1024) : EReal :=
  ∑ k : Fin 2048, u (ix3 ⟨R.val / 2048, by omega⟩ ⟨R.val % 2048, Nat.mod_lt _ (by norm_num)⟩ k) * w (ix3 0 k ⟨1024 + d.val, by omega⟩)

/-- A gate above its lower bound. -/
def act (b z : EReal) : EReal := b + (1 - b) * Ideal.logistic z

/-- The block of every array at a step. -/
theorem blk_idx : ∀ t : Fin cfg0.N, win0_0.index t = ![t.val, 0] ∧ win0_1.index t = ![0, 0, 1] ∧ win0_2.index t = ![0, 0] ∧ win0_3.index t = ![t.val, 0] := by
  decide +kernel

/-- The tokens as the call takes them. -/
theorem V_u (c : Dev nD) : V m c main_v13 = (truncf .bf16 (shapeCast S16384x2048 (m ((c : Thread nD τ).loc main_arg0) : FVec Ideal S8x2048x2048 .f32)
      shapeCasts_S8x2048x2048_S16384x2048) bitsLt_bf16_f32 : FVec Ideal S16384x2048 .bf16) := by
  entry_read
  rfl

/-- The weights as the call takes them. -/
theorem V_w (c : Dev nD) : V m c main_v14 = (truncf .bf16 (m ((c : Thread nD τ).loc main_arg1) : FVec Ideal S1x2048x7168 .f32) bitsLt_bf16_f32 : FVec Ideal S1x2048x7168 .bf16) := by
  entry_read
  rfl

/-- A token of the rows of tokens, at an element. -/
theorem flat_tokens (u : FVec Ideal S8x2048x2048 .f32) (R : Fin 16384) (k : Fin 2048) :
    (truncf .bf16 (shapeCast S16384x2048 u shapeCasts_S8x2048x2048_S16384x2048) bitsLt_bf16_f32 : FVec Ideal S16384x2048 .bf16) (ix2 R k)
      = u (ix3 ⟨R.val / 2048, by omega⟩ ⟨R.val % 2048, Nat.mod_lt _ (by norm_num)⟩ k) := by
  pointwise

/-- The tokens of a step. -/
theorem blk_u (c : Dev nD) (t : Fin cfg0.N) (r : Fin 1024) (R : Fin 16384) (hR : R.val = 1024 * t.val + r.val) (k : Fin 2048) :
    iblk m c 0 t (ix2 r k) = m ((c : Thread nD τ).loc main_arg0) (ix3 ⟨R.val / 2048, by omega⟩ ⟨R.val % 2048, Nat.mod_lt _ (by norm_num)⟩ k) := by
  blk_simp [iblk, blk_idx t]
  have e : ((View.whole main_v13).slice (win0_0.rect t)).emb (ix2 r k) = ix2 R k := by
    blk_ext [blk_idx t, hR]
  rw [e, V_u]
  exact flat_tokens _ R k

/-- The weights of every step. -/
theorem blk_w (c : Dev nD) (t : Fin cfg0.N) (k : Fin 2048) (d : Fin 1024) :
    iblk m c 1 t (ix3 0 k d) = m ((c : Thread nD τ).loc main_arg1) (ix3 0 k ⟨1024 + d.val, by omega⟩) := by
  blk_simp [iblk, blk_idx t]
  have e : ((View.whole main_v14).slice (win0_1.rect t)).emb (ix3 0 k d) = ix3 0 k ⟨1024 + d.val, by omega⟩ := by
    blk_ext [blk_idx t]
  rw [e, V_w]
  pointwise

/-- The lower bounds of the first layer. -/
def bound (z : FVec Ideal S2x1024 .f32) : FVec Ideal S1024 .f32 :=
  let e : FVec Ideal S2x1024 .f32 := Host.exp (subf z (broadcastInDim S2x1024 ![0, 1] bcast_S1x1024_S2x1024_0_1
    (broadcastInDim S1x1024 ![1] bcast_S1024_S1x1024_1 (maximumf (broadcastInDim S1024 ![] bcast_S_S1024 (constant S_ .f32 0xFF800000#32))
      (Host.reduce FloatOps.maximumf z (constant S_ .f32 0xFF800000#32) reducesTo_S2x1024_S1024_d0 h_S_)))))
  shapeCast _ (extractStridedSlice S1x1024 ![0, 0] (Host.reduceWindowAdd ![2, 1] ![1, 1] ![1, 0] ![0, 0]
    (Host.divf e (broadcastInDim S2x1024 ![0, 1] bcast_S1x1024_S2x1024_0_1 (broadcastInDim S1x1024 ![1] bcast_S1024_S1x1024_1
      (Host.reduceAdd e (constant S_ .f32 0x00000000#32) reducesTo_S2x1024_S1024_d0 h_S_))))
    (broadcastInDim S_ ![] bcast_S_S_ (constant S_ .f32 0x00000000#32)) reduceWindows_S2x1024_S2x1024_w2s1p1_0_w1s1p0_0 h_S_)
    slices_S2x1024_S1x1024_0_0) shapeCasts_S1x1024_S1024

/-- The lower bounds as the call takes them. -/
theorem V_bound (c : Dev nD) : V m c main_v17 = shapeCast S1x1024 (bound (m ((c : Thread nD τ).loc main_arg2))) shapeCasts_S1024_S1x1024 := by
  entry_read
  rfl

/-- The lower bounds of every step. -/
theorem blk_b (c : Dev nD) (t : Fin cfg0.N) (d : Fin 1024) :
    iblk m c 2 t (ix2 0 d) = bound (m ((c : Thread nD τ).loc main_arg2)) (ix1 d) := by
  blk_simp [iblk, blk_idx t]
  have e : ((View.whole main_v17).slice (win0_2.rect t)).emb (ix2 0 d) = ix2 0 d := by
    blk_ext [blk_idx t]
  rw [e]
  rw [V_bound]
  pointwise

/-- What a step computes, at an element. -/
theorem pay_apply (x : Vec Ideal S1024x2048 .bf16) (w : Vec Ideal S1x2048x1024 .bf16) (b : Vec Ideal S1x1024 .f32) (r d : Fin 1024) :
    (k0_pay1 x w b : FVec Ideal S1024x1024 .f32) (ix2 r d)
      = act (b (ix2 0 d)) (∑ k : Fin 2048, x (ix2 r k) * w (ix3 0 k d)) := by
  pointwise [k0_pay1]
  rfl

/-- What the call leaves, at an element. -/
theorem out_apply (c : Dev nD) (R : Fin 16384) (d : Fin 1024) :
    ((dats m 0 c).arrAt 3 cfg0.N : S16384x1024.Idx → EReal) (ix2 R d)
      = act (bound (m ((c : Thread nD τ).loc main_arg2)) (ix1 d)) (lin (m ((c : Thread nD τ).loc main_arg0)) (m ((c : Thread nD τ).loc main_arg1)) R d) := by
  have hN : cfg0.N = 16 := by decide +kernel
  have hR := R.isLt
  have ht : R.val / 1024 < cfg0.N := by rw [hN]; omega
  have hr : R.val % 1024 < 1024 := Nat.mod_lt _ (by norm_num)
  have key := congrFun ((blocks3 m c ⟨R.val / 1024, ht⟩ (flush0_3 _)).trans (flushed3 m c _)) (ix2 ⟨R.val % 1024, hr⟩ d)
  have hz : (![0, 0] : Fin S1024x1024.rank → ℕ) = fun _ => 0 := by funext a; fin_cases a <;> rfl
  have hx : (![0, 0] : Fin S1024x2048.rank → ℕ) = fun _ => 0 := by funext a; fin_cases a <;> rfl
  have hw : (![0, 0, 0] : Fin S1x2048x1024.rank → ℕ) = fun _ => 0 := by funext a; fin_cases a <;> rfl
  have hbz : (![0, 0] : Fin S1x1024.rank → ℕ) = fun _ => 0 := by funext a; fin_cases a <;> rfl
  have e : ((View.whole main_v18).slice (win0_3.rect ⟨R.val / 1024, ht⟩)).emb (ix2 ⟨R.val % 1024, hr⟩ d) = ix2 R d := by
    blk_ext [blk_idx ⟨R.val / 1024, ht⟩]
  have h1 : ((cfg0.win 3).blk ⟨R.val / 1024, ht⟩).view.read (Elt Ideal) ((dats m 0 c).arrAt 3 cfg0.N) (ix2 ⟨R.val % 1024, hr⟩ d)
      = ((dats m 0 c).arrAt 3 cfg0.N : S16384x1024.Idx → EReal) (ix2 R d) := by
    rw [← e]; rfl
  have h2 : (cfg0.win 3).cut (grid0.coords ⟨R.val / 1024, ht⟩)
        (out0_3 (iblk m c 0 ⟨R.val / 1024, ht⟩) (iblk m c 1 ⟨R.val / 1024, ht⟩) (iblk m c 2 ⟨R.val / 1024, ht⟩)) (ix2 ⟨R.val % 1024, hr⟩ d)
      = (k0_pay1 (iblk m c 0 ⟨R.val / 1024, ht⟩) (iblk m c 1 ⟨R.val / 1024, ht⟩) (iblk m c 2 ⟨R.val / 1024, ht⟩) : FVec Ideal S1024x1024 .f32)
        (ix2 ⟨R.val % 1024, hr⟩ d) := by
    rw [out0_3, View.canon_unit_zero hz, View.ld_unit_zero hx, View.ld_unit_zero hw, View.ld_unit_zero hbz]
    rfl
  rw [← h1, key, h2, pay_apply]
  have hb : ∀ k : Fin 2048, iblk m c 0 ⟨R.val / 1024, ht⟩ (ix2 ⟨R.val % 1024, hr⟩ k)
      = m ((c : Thread nD τ).loc main_arg0) (ix3 ⟨R.val / 2048, by omega⟩ ⟨R.val % 2048, Nat.mod_lt _ (by norm_num)⟩ k) :=
    fun k => blk_u m c _ _ R (by show R.val = 1024 * (R.val / 1024) + R.val % 1024; omega) k
  simp only [hb, blk_w, blk_b]
  rfl

end Cert.Kernel6Ideal.Proj

namespace Cert.Proof.Proj6

open Idealize.ShloMosaic Idealize.ShloMosaic.TcCoe Idealize.SL.Sem
open Idealize.ShloMosaic.ValueIdx (contrEquiv1 contrEquiv1_symm_val)

/-- The reference's cut of the combined projection, at an element. -/
theorem ref_cut (X : FVec Ideal Cert.Reference6Ideal.S8x2048x7168 .f32) (a : Fin 8) (b : Fin 2048) (d : Fin 1024) :
    (extractStridedSlice Cert.Reference6Ideal.S8x2048x1024 ![0, 0, 1024] X Cert.Reference6Ideal.Gen.slices_S8x2048x7168_S8x2048x1024_0_0_1024 : FVec Ideal Cert.Reference6Ideal.S8x2048x1024 .f32)
      (ix3 a b d) = X (ix3 a b ⟨1024 + d.val, by omega⟩) := by
  pointwise

/-- The combined projection's columns of the call, at an element. -/
theorem ref_lin (u : FVec Ideal Cert.Reference6Ideal.S8x2048x2048 .f32) (w : FVec Ideal Cert.Reference6Ideal.S1x2048x7168 .f32) (R : Fin 16384) (d : Fin 1024) :
    (extractStridedSlice Cert.Reference6Ideal.S8x2048x1024 ![0, 0, 1024]
        (Host.dotGeneral Cert.Reference6Ideal.dot_S8x2048x2048_S2048x7168_S8x2048x7168_2_0_01_1_n_n none u
          (shapeCast _ w Cert.Reference6Ideal.Gen.shapeCasts_S1x2048x7168_S2048x7168)) Cert.Reference6Ideal.Gen.slices_S8x2048x7168_S8x2048x1024_0_0_1024 : FVec Ideal Cert.Reference6Ideal.S8x2048x1024 .f32)
      (ix3 ⟨R.val / 2048, by omega⟩ ⟨R.val % 2048, Nat.mod_lt _ (by norm_num)⟩ d) = Cert.Kernel6Ideal.Proj.lin u w R d := by
  have h : ∀ (a : Fin 8) (b : Fin 2048) (j : Fin 7168),
      (Host.dotGeneral Cert.Reference6Ideal.dot_S8x2048x2048_S2048x7168_S8x2048x7168_2_0_01_1_n_n none u
          (shapeCast _ w Cert.Reference6Ideal.Gen.shapeCasts_S1x2048x7168_S2048x7168) : FVec Ideal Cert.Reference6Ideal.S8x2048x7168 .f32) (ix3 a b j)
        = ∑ k : Fin 2048, u (ix3 a b k) * w (ix3 0 k j) := by
    intro a b j
    let D := Cert.Reference6Ideal.dot_S8x2048x2048_S2048x7168_S8x2048x7168_2_0_01_1_n_n
    show FloatOps.dotGeneral D none _ u _ (ix3 a b j) = _
    rw [Ideal.dotGeneral_apply, ← Equiv.sum_comp (contrEquiv1 D 2048 rfl rfl).symm]
    refine Finset.sum_congr rfl fun k _ => ?_
    have hk := contrEquiv1_symm_val D 2048 rfl rfl k
    have el : D.lhsIdx (ix3 a b j) ((contrEquiv1 D 2048 rfl rfl).symm k) = ix3 a b k := by
      funext ax; apply Fin.ext
      match ax with
      | ⟨0, _⟩ => rfl
      | ⟨1, _⟩ => rfl
      | ⟨2, _⟩ => exact hk
    have er : D.rhsIdx (ix3 a b j) ((contrEquiv1 D 2048 rfl rfl).symm k) = ix2 k j := by
      funext ax; apply Fin.ext
      match ax with
      | ⟨0, _⟩ => exact hk
      | ⟨1, _⟩ => rfl
    rw [el, er]
    pointwise
  exact (ref_cut _ _ _ d).trans (h _ _ ⟨1024 + d.val, by omega⟩)

/-- What the reference makes of the columns, at an element. -/
theorem ref_act (X : FVec Ideal Cert.Reference6Ideal.S8x2048x1024 .f32) (y : FVec Ideal Cert.Reference6Ideal.S1024 .f32) (R : Fin 16384) (d : Fin 1024) :
    (shapeCast Cert.Reference6Ideal.S16384x1024 (addf (broadcastInDim Cert.Reference6Ideal.S8x2048x1024 ![0, 1, 2] Cert.Reference6Ideal.Gen.bcast_S1x1x1024_S8x2048x1024_0_1_2 (broadcastInDim Cert.Reference6Ideal.S1x1x1024 ![2] Cert.Reference6Ideal.Gen.bcast_S1024_S1x1x1024_2 y))
        (mulf (broadcastInDim Cert.Reference6Ideal.S8x2048x1024 ![0, 1, 2] Cert.Reference6Ideal.Gen.bcast_S1x1x1024_S8x2048x1024_0_1_2 (broadcastInDim Cert.Reference6Ideal.S1x1x1024 ![2] Cert.Reference6Ideal.Gen.bcast_S1024_S1x1x1024_2
          (subf (broadcastInDim Cert.Reference6Ideal.S1024 ![] Cert.Reference6Ideal.Gen.bcast_S_S1024 (constant Cert.Reference6Ideal.S_ .f32 0x3F800000#32)) y)))
          (Host.divf (broadcastInDim Cert.Reference6Ideal.S8x2048x1024 ![] Cert.Reference6Ideal.Gen.bcast_S_S8x2048x1024 (constant Cert.Reference6Ideal.S_ .f32 0x3F800000#32))
            (addf (broadcastInDim Cert.Reference6Ideal.S8x2048x1024 ![] Cert.Reference6Ideal.Gen.bcast_S_S8x2048x1024 (constant Cert.Reference6Ideal.S_ .f32 0x3F800000#32))
              (Host.exp (Host.negf X)))))) Cert.Reference6Ideal.Gen.shapeCasts_S8x2048x1024_S16384x1024 : FVec Ideal Cert.Reference6Ideal.S16384x1024 .f32) (ix2 R d)
      = Cert.Kernel6Ideal.Proj.act (y (ix1 d)) (X (ix3 ⟨R.val / 2048, by omega⟩ ⟨R.val % 2048, Nat.mod_lt _ (by norm_num)⟩ d)) := by
  pointwise
  rfl

/-- The compiled call ends, on every device, with its arguments unchanged and no semaphore pending. -/
theorem frame_kernel : Cert.quiescent_Kernel6 := fun m ρ _ => Cert.Kernel6.Gen.frame m ρ

/-- So does the call over the reals. -/
theorem frame_ideal : Cert.quiescent_Kernel6Ideal := fun m ρ _ => Cert.Kernel6Ideal.Gen.frame m ρ

/-- So does the reference. -/
theorem frame_reference : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- Over the reals the call and the reference leave the same result. -/
theorem algebraic : Cert.algebraic_Kernel6Ideal_Reference6Ideal := by
  intro m ρ m' ρ' _ hagree
  refine ⟨fun c => (Cert.Kernel6Ideal.Gen.dats m 0 c).arrAt 3 Cert.Kernel6Ideal.cfg0.N, Cert.Kernel6Ideal.Value.run_blocks m ρ, ?_⟩
  refine (θ_run Cert.Reference6Ideal.defs _ _).mono (fun _ h c => ⟨(h c).1.trans ?_, (h c).2⟩)
    (Cert.Reference6Ideal.Value.run (F := Ideal) m' ρ')
  obtain ⟨h0, h1, h2⟩ := hagree c
  refine funext fun (I : Cert.Kernel6Ideal.S16384x1024.Idx) => ?_
  obtain ⟨R, d, rfl⟩ : ∃ (R : Fin 16384) (d : Fin 1024), I = ix2 R d := ⟨I 0, I 1, eq_ix2 I⟩
  refine Eq.trans ?_ (Cert.Kernel6Ideal.Proj.out_apply m c R d).symm
  rw [← h0, ← h1, ← h2, ← ref_lin]
  exact ref_act _ (Cert.Kernel6Ideal.Proj.bound _) R d

end Cert.Proof.Proj6

end
-- ==== Proof.Proj7.lean ====
module
public import proofs.«01_k».proof.Defs
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import Idealize.ShloMosaic.Lib.Claim
public import Idealize.ShloMosaic.Lib.Pointwise
public import Idealize.ShloMosaic.Lib.Pipeline.ValueKit.Point
public import Idealize.ShloMosaic.Lib.Tactic.CleanTypes
public import Idealize.ShloMosaic.Adequacy
public import Idealize.ShloMosaic.Init

/-!
# The prompt's values of the gated recurrence

Step `t` of the call takes 1024 tokens through its 1024 columns of the combined projection; the whole result is the projection's
columns.
-/

@[expose] public section

set_option maxRecDepth 16384

noncomputable section

namespace Cert.Kernel7Ideal.Proj

open Idealize.ShloMosaic Idealize.ShloMosaic.TcCoe Idealize.SL.Sem
open Cert.Kernel7Ideal Cert.Kernel7Ideal.Gen Cert.Kernel7Ideal.Value

variable (m : (ℓ : Loc nD τ sig) → Buf (Elt Ideal) ℓ)

/-- The call's columns of the combined projection, at a token. -/
def lin (u : FVec Ideal S8x2048x2048 .f32) (w : FVec Ideal S1x2048x7168 .f32) (R : Fin 16384) (d : Fin 1024) : EReal :=
  ∑ k : Fin 2048, u (ix3 ⟨R.val / 2048, by omega⟩ ⟨R.val % 2048, Nat.mod_lt _ (by norm_num)⟩ k) * w (ix3 0 k ⟨2048 + d.val, by omega⟩)

/-- The block of every array at a step. -/
theorem blk_idx : ∀ t : Fin cfg0.N, win0_0.index t = ![t.val, 0] ∧ win0_1.index t = ![0, 0, 2] ∧ win0_2.index t = ![t.val, 0] := by
  decide +kernel

/-- The tokens of a step. -/
theorem blk_u (c : Dev nD) (t : Fin cfg0.N) (r : Fin 1024) (R : Fin 16384) (hR : R.val = 1024 * t.val + r.val) (k : Fin 2048) :
    iblk m c 0 t (ix2 r k) = m ((c : Thread nD τ).loc main_arg0) (ix3 ⟨R.val / 2048, by omega⟩ ⟨R.val % 2048, Nat.mod_lt _ (by norm_num)⟩ k) := by
  blk_simp [iblk, blk_idx t]
  entry_read
  have e : ((View.whole main_v1).slice (win0_0.rect t)).emb (ix2 r k) = ix2 R k := by
    blk_ext [blk_idx t, hR]
  rw [e]
  pointwise

/-- The weights of every step. -/
theorem blk_w (c : Dev nD) (t : Fin cfg0.N) (k : Fin 2048) (d : Fin 1024) :
    iblk m c 1 t (ix3 0 k d) = m ((c : Thread nD τ).loc main_arg1) (ix3 0 k ⟨2048 + d.val, by omega⟩) := by
  blk_simp [iblk, blk_idx t]
  entry_read
  have e : ((View.whole main_v2).slice (win0_1.rect t)).emb (ix3 0 k d) = ix3 0 k ⟨2048 + d.val, by omega⟩ := by
    blk_ext [blk_idx t]
  rw [e]
  pointwise

/-- What a step computes, at an element. -/
theorem pay_apply (x : Vec Ideal S1024x2048 .bf16) (w : Vec Ideal S1x2048x1024 .bf16) (r d : Fin 1024) :
    (k0_pay1 x w : FVec Ideal S1024x1024 .bf16) (ix2 r d)
      = ∑ k : Fin 2048, x (ix2 r k) * w (ix3 0 k d) := by
  pointwise [k0_pay1]

/-- What the call leaves, at an element. -/
theorem out_apply (c : Dev nD) (R : Fin 16384) (d : Fin 1024) :
    ((dats m 0 c).arrAt 2 cfg0.N : S16384x1024.Idx → EReal) (ix2 R d)
      = lin (m ((c : Thread nD τ).loc main_arg0)) (m ((c : Thread nD τ).loc main_arg1)) R d := by
  have hN : cfg0.N = 16 := by decide +kernel
  have hR := R.isLt
  have ht : R.val / 1024 < cfg0.N := by rw [hN]; omega
  have hr : R.val % 1024 < 1024 := Nat.mod_lt _ (by norm_num)
  have key := congrFun ((blocks2 m c ⟨R.val / 1024, ht⟩ (flush0_2 _)).trans (flushed2 m c _)) (ix2 ⟨R.val % 1024, hr⟩ d)
  have hz : (![0, 0] : Fin S1024x1024.rank → ℕ) = fun _ => 0 := by funext a; fin_cases a <;> rfl
  have hx : (![0, 0] : Fin S1024x2048.rank → ℕ) = fun _ => 0 := by funext a; fin_cases a <;> rfl
  have hw : (![0, 0, 0] : Fin S1x2048x1024.rank → ℕ) = fun _ => 0 := by funext a; fin_cases a <;> rfl
  have e : ((View.whole main_v3).slice (win0_2.rect ⟨R.val / 1024, ht⟩)).emb (ix2 ⟨R.val % 1024, hr⟩ d) = ix2 R d := by
    blk_ext [blk_idx ⟨R.val / 1024, ht⟩]
  have h1 : ((cfg0.win 2).blk ⟨R.val / 1024, ht⟩).view.read (Elt Ideal) ((dats m 0 c).arrAt 2 cfg0.N) (ix2 ⟨R.val % 1024, hr⟩ d)
      = ((dats m 0 c).arrAt 2 cfg0.N : S16384x1024.Idx → EReal) (ix2 R d) := by
    rw [← e]; rfl
  have h2 : (cfg0.win 2).cut (grid0.coords ⟨R.val / 1024, ht⟩)
        (out0_2 (iblk m c 0 ⟨R.val / 1024, ht⟩) (iblk m c 1 ⟨R.val / 1024, ht⟩)) (ix2 ⟨R.val % 1024, hr⟩ d)
      = (k0_pay1 (iblk m c 0 ⟨R.val / 1024, ht⟩) (iblk m c 1 ⟨R.val / 1024, ht⟩) : FVec Ideal S1024x1024 .bf16)
        (ix2 ⟨R.val % 1024, hr⟩ d) := by
    rw [out0_2, View.canon_unit_zero hz, View.ld_unit_zero hx, View.ld_unit_zero hw]
    rfl
  rw [← h1, key, h2, pay_apply]
  have hb : ∀ k : Fin 2048, iblk m c 0 ⟨R.val / 1024, ht⟩ (ix2 ⟨R.val % 1024, hr⟩ k)
      = m ((c : Thread nD τ).loc main_arg0) (ix3 ⟨R.val / 2048, by omega⟩ ⟨R.val % 2048, Nat.mod_lt _ (by norm_num)⟩ k) :=
    fun k => blk_u m c _ _ R (by show R.val = 1024 * (R.val / 1024) + R.val % 1024; omega) k
  simp only [hb, blk_w]
  rfl

end Cert.Kernel7Ideal.Proj

namespace Cert.Proof.Proj7

open Idealize.ShloMosaic Idealize.ShloMosaic.TcCoe Idealize.SL.Sem
open Idealize.ShloMosaic.ValueIdx (contrEquiv1 contrEquiv1_symm_val)

/-- The reference's cut of the combined projection, at an element. -/
theorem ref_cut (X : FVec Ideal Cert.Reference7Ideal.S8x2048x7168 .f32) (a : Fin 8) (b : Fin 2048) (d : Fin 1024) :
    (extractStridedSlice Cert.Reference7Ideal.S8x2048x1024 ![0, 0, 2048] X Cert.Reference7Ideal.Gen.slices_S8x2048x7168_S8x2048x1024_0_0_2048 : FVec Ideal Cert.Reference7Ideal.S8x2048x1024 .f32)
      (ix3 a b d) = X (ix3 a b ⟨2048 + d.val, by omega⟩) := by
  pointwise

/-- The combined projection's columns of the call, at an element. -/
theorem ref_lin (u : FVec Ideal Cert.Reference7Ideal.S8x2048x2048 .f32) (w : FVec Ideal Cert.Reference7Ideal.S1x2048x7168 .f32) (R : Fin 16384) (d : Fin 1024) :
    (extractStridedSlice Cert.Reference7Ideal.S8x2048x1024 ![0, 0, 2048]
        (Host.dotGeneral Cert.Reference7Ideal.dot_S8x2048x2048_S2048x7168_S8x2048x7168_2_0_01_1_n_n none u
          (shapeCast _ w Cert.Reference7Ideal.Gen.shapeCasts_S1x2048x7168_S2048x7168)) Cert.Reference7Ideal.Gen.slices_S8x2048x7168_S8x2048x1024_0_0_2048 : FVec Ideal Cert.Reference7Ideal.S8x2048x1024 .f32)
      (ix3 ⟨R.val / 2048, by omega⟩ ⟨R.val % 2048, Nat.mod_lt _ (by norm_num)⟩ d) = Cert.Kernel7Ideal.Proj.lin u w R d := by
  have h : ∀ (a : Fin 8) (b : Fin 2048) (j : Fin 7168),
      (Host.dotGeneral Cert.Reference7Ideal.dot_S8x2048x2048_S2048x7168_S8x2048x7168_2_0_01_1_n_n none u
          (shapeCast _ w Cert.Reference7Ideal.Gen.shapeCasts_S1x2048x7168_S2048x7168) : FVec Ideal Cert.Reference7Ideal.S8x2048x7168 .f32) (ix3 a b j)
        = ∑ k : Fin 2048, u (ix3 a b k) * w (ix3 0 k j) := by
    intro a b j
    let D := Cert.Reference7Ideal.dot_S8x2048x2048_S2048x7168_S8x2048x7168_2_0_01_1_n_n
    show FloatOps.dotGeneral D none _ u _ (ix3 a b j) = _
    rw [Ideal.dotGeneral_apply, ← Equiv.sum_comp (contrEquiv1 D 2048 rfl rfl).symm]
    refine Finset.sum_congr rfl fun k _ => ?_
    have hk := contrEquiv1_symm_val D 2048 rfl rfl k
    have el : D.lhsIdx (ix3 a b j) ((contrEquiv1 D 2048 rfl rfl).symm k) = ix3 a b k := by
      funext ax; apply Fin.ext
      match ax with
      | ⟨0, _⟩ => rfl
      | ⟨1, _⟩ => rfl
      | ⟨2, _⟩ => exact hk
    have er : D.rhsIdx (ix3 a b j) ((contrEquiv1 D 2048 rfl rfl).symm k) = ix2 k j := by
      funext ax; apply Fin.ext
      match ax with
      | ⟨0, _⟩ => exact hk
      | ⟨1, _⟩ => rfl
    rw [el, er]
    pointwise
  exact (ref_cut _ _ _ d).trans (h _ _ ⟨2048 + d.val, by omega⟩)

/-- What the reference makes of the columns, at an element. -/
theorem ref_act (X : FVec Ideal Cert.Reference7Ideal.S8x2048x1024 .f32) (R : Fin 16384) (d : Fin 1024) :
    (truncf .bf16 (shapeCast Cert.Reference7Ideal.S16384x1024 X Cert.Reference7Ideal.Gen.shapeCasts_S8x2048x1024_S16384x1024) Cert.Reference7Ideal.Gen.bitsLt_bf16_f32 : FVec Ideal Cert.Reference7Ideal.S16384x1024 .bf16) (ix2 R d)
      = X (ix3 ⟨R.val / 2048, by omega⟩ ⟨R.val % 2048, Nat.mod_lt _ (by norm_num)⟩ d) := by
  pointwise

/-- The compiled call ends, on every device, with its arguments unchanged and no semaphore pending. -/
theorem frame_kernel : Cert.quiescent_Kernel7 := fun m ρ _ => Cert.Kernel7.Gen.frame m ρ

/-- So does the call over the reals. -/
theorem frame_ideal : Cert.quiescent_Kernel7Ideal := fun m ρ _ => Cert.Kernel7Ideal.Gen.frame m ρ

/-- So does the reference. -/
theorem frame_reference : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- Over the reals the call and the reference leave the same result. -/
theorem algebraic : Cert.algebraic_Kernel7Ideal_Reference7Ideal := by
  intro m ρ m' ρ' _ hagree
  refine ⟨fun c => (Cert.Kernel7Ideal.Gen.dats m 0 c).arrAt 2 Cert.Kernel7Ideal.cfg0.N, Cert.Kernel7Ideal.Value.run_blocks m ρ, ?_⟩
  refine (θ_run Cert.Reference7Ideal.defs _ _).mono (fun _ h c => ⟨(h c).1.trans ?_, (h c).2⟩)
    (Cert.Reference7Ideal.Value.run (F := Ideal) m' ρ')
  obtain ⟨h0, h1⟩ := hagree c
  refine funext fun (I : Cert.Kernel7Ideal.S16384x1024.Idx) => ?_
  obtain ⟨R, d, rfl⟩ : ∃ (R : Fin 16384) (d : Fin 1024), I = ix2 R d := ⟨I 0, I 1, eq_ix2 I⟩
  refine Eq.trans ?_ (Cert.Kernel7Ideal.Proj.out_apply m c R d).symm
  rw [← h0, ← h1, ← ref_lin]
  exact ref_act _ R d

end Cert.Proof.Proj7

end
-- ==== Proof.Proj8.lean ====
module
public import proofs.«01_k».proof.Defs
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import Idealize.ShloMosaic.Lib.Claim
public import Idealize.ShloMosaic.Lib.Pointwise
public import Idealize.ShloMosaic.Lib.Pipeline.ValueKit.Point
public import Idealize.ShloMosaic.Lib.Tactic.CleanTypes
public import Idealize.ShloMosaic.Adequacy
public import Idealize.ShloMosaic.Init

/-!
# The prompt's output gate

Step `t` of the call takes 1024 tokens through its 1024 columns of the combined projection; the whole result is the projection's
columns through `silu`.
-/

@[expose] public section

set_option maxRecDepth 16384

noncomputable section

namespace Cert.Kernel8Ideal.Proj

open Idealize.ShloMosaic Idealize.ShloMosaic.TcCoe Idealize.SL.Sem
open Cert.Kernel8Ideal Cert.Kernel8Ideal.Gen Cert.Kernel8Ideal.Value

variable (m : (ℓ : Loc nD τ sig) → Buf (Elt Ideal) ℓ)

/-- The call's columns of the combined projection, at a token. -/
def lin (u : FVec Ideal S8x2048x2048 .f32) (w : FVec Ideal S1x2048x7168 .f32) (R : Fin 16384) (d : Fin 1024) : EReal :=
  ∑ k : Fin 2048, u (ix3 ⟨R.val / 2048, by omega⟩ ⟨R.val % 2048, Nat.mod_lt _ (by norm_num)⟩ k) * w (ix3 0 k ⟨3072 + d.val, by omega⟩)

/-- `silu`. -/
def act (z : EReal) : EReal := z * Ideal.logistic z

/-- The block of every array at a step. -/
theorem blk_idx : ∀ t : Fin cfg0.N, win0_0.index t = ![t.val, 0] ∧ win0_1.index t = ![0, 0, 3] ∧ win0_2.index t = ![t.val, 0] := by
  decide +kernel

/-- The tokens of a step. -/
theorem blk_u (c : Dev nD) (t : Fin cfg0.N) (r : Fin 1024) (R : Fin 16384) (hR : R.val = 1024 * t.val + r.val) (k : Fin 2048) :
    iblk m c 0 t (ix2 r k) = m ((c : Thread nD τ).loc main_arg0) (ix3 ⟨R.val / 2048, by omega⟩ ⟨R.val % 2048, Nat.mod_lt _ (by norm_num)⟩ k) := by
  blk_simp [iblk, blk_idx t]
  entry_read
  have e : ((View.whole main_v1).slice (win0_0.rect t)).emb (ix2 r k) = ix2 R k := by
    blk_ext [blk_idx t, hR]
  rw [e]
  pointwise

/-- The weights of every step. -/
theorem blk_w (c : Dev nD) (t : Fin cfg0.N) (k : Fin 2048) (d : Fin 1024) :
    iblk m c 1 t (ix3 0 k d) = m ((c : Thread nD τ).loc main_arg1) (ix3 0 k ⟨3072 + d.val, by omega⟩) := by
  blk_simp [iblk, blk_idx t]
  entry_read
  have e : ((View.whole main_v2).slice (win0_1.rect t)).emb (ix3 0 k d) = ix3 0 k ⟨3072 + d.val, by omega⟩ := by
    blk_ext [blk_idx t]
  rw [e]
  pointwise

/-- What a step computes, at an element. -/
theorem pay_apply (x : Vec Ideal S1024x2048 .bf16) (w : Vec Ideal S1x2048x1024 .bf16) (r d : Fin 1024) :
    (k0_pay1 x w : FVec Ideal S1024x1024 .f32) (ix2 r d)
      = (∑ k : Fin 2048, x (ix2 r k) * w (ix3 0 k d)) * Ideal.logistic (∑ k : Fin 2048, x (ix2 r k) * w (ix3 0 k d)) := by
  pointwise [k0_pay1]

/-- What the call leaves, at an element. -/
theorem out_apply (c : Dev nD) (R : Fin 16384) (d : Fin 1024) :
    ((dats m 0 c).arrAt 2 cfg0.N : S16384x1024.Idx → EReal) (ix2 R d)
      = act (lin (m ((c : Thread nD τ).loc main_arg0)) (m ((c : Thread nD τ).loc main_arg1)) R d) := by
  have hN : cfg0.N = 16 := by decide +kernel
  have hR := R.isLt
  have ht : R.val / 1024 < cfg0.N := by rw [hN]; omega
  have hr : R.val % 1024 < 1024 := Nat.mod_lt _ (by norm_num)
  have key := congrFun ((blocks2 m c ⟨R.val / 1024, ht⟩ (flush0_2 _)).trans (flushed2 m c _)) (ix2 ⟨R.val % 1024, hr⟩ d)
  have hz : (![0, 0] : Fin S1024x1024.rank → ℕ) = fun _ => 0 := by funext a; fin_cases a <;> rfl
  have hx : (![0, 0] : Fin S1024x2048.rank → ℕ) = fun _ => 0 := by funext a; fin_cases a <;> rfl
  have hw : (![0, 0, 0] : Fin S1x2048x1024.rank → ℕ) = fun _ => 0 := by funext a; fin_cases a <;> rfl
  have e : ((View.whole main_v3).slice (win0_2.rect ⟨R.val / 1024, ht⟩)).emb (ix2 ⟨R.val % 1024, hr⟩ d) = ix2 R d := by
    blk_ext [blk_idx ⟨R.val / 1024, ht⟩]
  have h1 : ((cfg0.win 2).blk ⟨R.val / 1024, ht⟩).view.read (Elt Ideal) ((dats m 0 c).arrAt 2 cfg0.N) (ix2 ⟨R.val % 1024, hr⟩ d)
      = ((dats m 0 c).arrAt 2 cfg0.N : S16384x1024.Idx → EReal) (ix2 R d) := by
    rw [← e]; rfl
  have h2 : (cfg0.win 2).cut (grid0.coords ⟨R.val / 1024, ht⟩)
        (out0_2 (iblk m c 0 ⟨R.val / 1024, ht⟩) (iblk m c 1 ⟨R.val / 1024, ht⟩)) (ix2 ⟨R.val % 1024, hr⟩ d)
      = (k0_pay1 (iblk m c 0 ⟨R.val / 1024, ht⟩) (iblk m c 1 ⟨R.val / 1024, ht⟩) : FVec Ideal S1024x1024 .f32)
        (ix2 ⟨R.val % 1024, hr⟩ d) := by
    rw [out0_2, View.canon_unit_zero hz, View.ld_unit_zero hx, View.ld_unit_zero hw]
    rfl
  rw [← h1, key, h2, pay_apply]
  have hb : ∀ k : Fin 2048, iblk m c 0 ⟨R.val / 1024, ht⟩ (ix2 ⟨R.val % 1024, hr⟩ k)
      = m ((c : Thread nD τ).loc main_arg0) (ix3 ⟨R.val / 2048, by omega⟩ ⟨R.val % 2048, Nat.mod_lt _ (by norm_num)⟩ k) :=
    fun k => blk_u m c _ _ R (by show R.val = 1024 * (R.val / 1024) + R.val % 1024; omega) k
  simp only [hb, blk_w]
  rfl

end Cert.Kernel8Ideal.Proj

namespace Cert.Proof.Proj8

open Idealize.ShloMosaic Idealize.ShloMosaic.TcCoe Idealize.SL.Sem
open Idealize.ShloMosaic.ValueIdx (contrEquiv1 contrEquiv1_symm_val)

/-- The reference's cut of the combined projection, at an element. -/
theorem ref_cut (X : FVec Ideal Cert.Reference8Ideal.S8x2048x7168 .f32) (a : Fin 8) (b : Fin 2048) (d : Fin 1024) :
    (extractStridedSlice Cert.Reference8Ideal.S8x2048x1024 ![0, 0, 3072] X Cert.Reference8Ideal.Gen.slices_S8x2048x7168_S8x2048x1024_0_0_3072 : FVec Ideal Cert.Reference8Ideal.S8x2048x1024 .f32)
      (ix3 a b d) = X (ix3 a b ⟨3072 + d.val, by omega⟩) := by
  pointwise

/-- The combined projection's columns of the call, at an element. -/
theorem ref_lin (u : FVec Ideal Cert.Reference8Ideal.S8x2048x2048 .f32) (w : FVec Ideal Cert.Reference8Ideal.S1x2048x7168 .f32) (R : Fin 16384) (d : Fin 1024) :
    (extractStridedSlice Cert.Reference8Ideal.S8x2048x1024 ![0, 0, 3072]
        (Host.dotGeneral Cert.Reference8Ideal.dot_S8x2048x2048_S2048x7168_S8x2048x7168_2_0_01_1_n_n none u
          (shapeCast _ w Cert.Reference8Ideal.Gen.shapeCasts_S1x2048x7168_S2048x7168)) Cert.Reference8Ideal.Gen.slices_S8x2048x7168_S8x2048x1024_0_0_3072 : FVec Ideal Cert.Reference8Ideal.S8x2048x1024 .f32)
      (ix3 ⟨R.val / 2048, by omega⟩ ⟨R.val % 2048, Nat.mod_lt _ (by norm_num)⟩ d) = Cert.Kernel8Ideal.Proj.lin u w R d := by
  have h : ∀ (a : Fin 8) (b : Fin 2048) (j : Fin 7168),
      (Host.dotGeneral Cert.Reference8Ideal.dot_S8x2048x2048_S2048x7168_S8x2048x7168_2_0_01_1_n_n none u
          (shapeCast _ w Cert.Reference8Ideal.Gen.shapeCasts_S1x2048x7168_S2048x7168) : FVec Ideal Cert.Reference8Ideal.S8x2048x7168 .f32) (ix3 a b j)
        = ∑ k : Fin 2048, u (ix3 a b k) * w (ix3 0 k j) := by
    intro a b j
    let D := Cert.Reference8Ideal.dot_S8x2048x2048_S2048x7168_S8x2048x7168_2_0_01_1_n_n
    show FloatOps.dotGeneral D none _ u _ (ix3 a b j) = _
    rw [Ideal.dotGeneral_apply, ← Equiv.sum_comp (contrEquiv1 D 2048 rfl rfl).symm]
    refine Finset.sum_congr rfl fun k _ => ?_
    have hk := contrEquiv1_symm_val D 2048 rfl rfl k
    have el : D.lhsIdx (ix3 a b j) ((contrEquiv1 D 2048 rfl rfl).symm k) = ix3 a b k := by
      funext ax; apply Fin.ext
      match ax with
      | ⟨0, _⟩ => rfl
      | ⟨1, _⟩ => rfl
      | ⟨2, _⟩ => exact hk
    have er : D.rhsIdx (ix3 a b j) ((contrEquiv1 D 2048 rfl rfl).symm k) = ix2 k j := by
      funext ax; apply Fin.ext
      match ax with
      | ⟨0, _⟩ => exact hk
      | ⟨1, _⟩ => rfl
    rw [el, er]
    pointwise
  exact (ref_cut _ _ _ d).trans (h _ _ ⟨3072 + d.val, by omega⟩)

/-- What the reference makes of the columns, at an element. -/
theorem ref_act (X : FVec Ideal Cert.Reference8Ideal.S8x2048x1024 .f32) (R : Fin 16384) (d : Fin 1024) :
    (shapeCast Cert.Reference8Ideal.S16384x1024 (mulf X (Host.divf (broadcastInDim Cert.Reference8Ideal.S8x2048x1024 ![] Cert.Reference8Ideal.Gen.bcast_S_S8x2048x1024 (constant Cert.Reference8Ideal.S_ .f32 0x3F800000#32))
        (addf (broadcastInDim Cert.Reference8Ideal.S8x2048x1024 ![] Cert.Reference8Ideal.Gen.bcast_S_S8x2048x1024 (constant Cert.Reference8Ideal.S_ .f32 0x3F800000#32))
          (Host.exp (Host.negf X))))) Cert.Reference8Ideal.Gen.shapeCasts_S8x2048x1024_S16384x1024 : FVec Ideal Cert.Reference8Ideal.S16384x1024 .f32) (ix2 R d)
      = Cert.Kernel8Ideal.Proj.act (X (ix3 ⟨R.val / 2048, by omega⟩ ⟨R.val % 2048, Nat.mod_lt _ (by norm_num)⟩ d)) := by
  pointwise
  rfl

/-- The compiled call ends, on every device, with its arguments unchanged and no semaphore pending. -/
theorem frame_kernel : Cert.quiescent_Kernel8 := fun m ρ _ => Cert.Kernel8.Gen.frame m ρ

/-- So does the call over the reals. -/
theorem frame_ideal : Cert.quiescent_Kernel8Ideal := fun m ρ _ => Cert.Kernel8Ideal.Gen.frame m ρ

/-- So does the reference. -/
theorem frame_reference : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- Over the reals the call and the reference leave the same result. -/
theorem algebraic : Cert.algebraic_Kernel8Ideal_Reference8Ideal := by
  intro m ρ m' ρ' _ hagree
  refine ⟨fun c => (Cert.Kernel8Ideal.Gen.dats m 0 c).arrAt 2 Cert.Kernel8Ideal.cfg0.N, Cert.Kernel8Ideal.Value.run_blocks m ρ, ?_⟩
  refine (θ_run Cert.Reference8Ideal.defs _ _).mono (fun _ h c => ⟨(h c).1.trans ?_, (h c).2⟩)
    (Cert.Reference8Ideal.Value.run (F := Ideal) m' ρ')
  obtain ⟨h0, h1⟩ := hagree c
  refine funext fun (I : Cert.Kernel8Ideal.S16384x1024.Idx) => ?_
  obtain ⟨R, d, rfl⟩ : ∃ (R : Fin 16384) (d : Fin 1024), I = ix2 R d := ⟨I 0, I 1, eq_ix2 I⟩
  refine Eq.trans ?_ (Cert.Kernel8Ideal.Proj.out_apply m c R d).symm
  rw [← h0, ← h1, ← ref_lin]
  exact ref_act _ R d

end Cert.Proof.Proj8

end
-- ==== Proof.Proj9.lean ====
module
public import proofs.«01_k».proof.Defs
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import Idealize.ShloMosaic.Lib.Claim
public import Idealize.ShloMosaic.Lib.Pointwise
public import Idealize.ShloMosaic.Lib.Pipeline.ValueKit.Point
public import Idealize.ShloMosaic.Lib.Tactic.CleanTypes
public import Idealize.ShloMosaic.Adequacy
public import Idealize.ShloMosaic.Init

/-!
# The prompt's queries of the stick-breaking attention

Step `t` of the call takes 1024 tokens through its 1024 columns of the combined projection; the whole result is the projection's
columns.
-/

@[expose] public section

set_option maxRecDepth 16384

noncomputable section

namespace Cert.Kernel9Ideal.Proj

open Idealize.ShloMosaic Idealize.ShloMosaic.TcCoe Idealize.SL.Sem
open Cert.Kernel9Ideal Cert.Kernel9Ideal.Gen Cert.Kernel9Ideal.Value

variable (m : (ℓ : Loc nD τ sig) → Buf (Elt Ideal) ℓ)

/-- The call's columns of the combined projection, at a token. -/
def lin (u : FVec Ideal S8x2048x2048 .f32) (w : FVec Ideal S1x2048x7168 .f32) (R : Fin 16384) (d : Fin 1024) : EReal :=
  ∑ k : Fin 2048, u (ix3 ⟨R.val / 2048, by omega⟩ ⟨R.val % 2048, Nat.mod_lt _ (by norm_num)⟩ k) * w (ix3 0 k ⟨4096 + d.val, by omega⟩)

/-- The block of every array at a step. -/
theorem blk_idx : ∀ t : Fin cfg0.N, win0_0.index t = ![t.val, 0] ∧ win0_1.index t = ![0, 0, 4] ∧ win0_2.index t = ![t.val, 0] := by
  decide +kernel

/-- The tokens of a step. -/
theorem blk_u (c : Dev nD) (t : Fin cfg0.N) (r : Fin 1024) (R : Fin 16384) (hR : R.val = 1024 * t.val + r.val) (k : Fin 2048) :
    iblk m c 0 t (ix2 r k) = m ((c : Thread nD τ).loc main_arg0) (ix3 ⟨R.val / 2048, by omega⟩ ⟨R.val % 2048, Nat.mod_lt _ (by norm_num)⟩ k) := by
  blk_simp [iblk, blk_idx t]
  entry_read
  have e : ((View.whole main_v1).slice (win0_0.rect t)).emb (ix2 r k) = ix2 R k := by
    blk_ext [blk_idx t, hR]
  rw [e]
  pointwise

/-- The weights of every step. -/
theorem blk_w (c : Dev nD) (t : Fin cfg0.N) (k : Fin 2048) (d : Fin 1024) :
    iblk m c 1 t (ix3 0 k d) = m ((c : Thread nD τ).loc main_arg1) (ix3 0 k ⟨4096 + d.val, by omega⟩) := by
  blk_simp [iblk, blk_idx t]
  entry_read
  have e : ((View.whole main_v2).slice (win0_1.rect t)).emb (ix3 0 k d) = ix3 0 k ⟨4096 + d.val, by omega⟩ := by
    blk_ext [blk_idx t]
  rw [e]
  pointwise

/-- What a step computes, at an element. -/
theorem pay_apply (x : Vec Ideal S1024x2048 .bf16) (w : Vec Ideal S1x2048x1024 .bf16) (r d : Fin 1024) :
    (k0_pay1 x w : FVec Ideal S1024x1024 .bf16) (ix2 r d)
      = ∑ k : Fin 2048, x (ix2 r k) * w (ix3 0 k d) := by
  pointwise [k0_pay1]

/-- What the call leaves, at an element. -/
theorem out_apply (c : Dev nD) (R : Fin 16384) (d : Fin 1024) :
    ((dats m 0 c).arrAt 2 cfg0.N : S16384x1024.Idx → EReal) (ix2 R d)
      = lin (m ((c : Thread nD τ).loc main_arg0)) (m ((c : Thread nD τ).loc main_arg1)) R d := by
  have hN : cfg0.N = 16 := by decide +kernel
  have hR := R.isLt
  have ht : R.val / 1024 < cfg0.N := by rw [hN]; omega
  have hr : R.val % 1024 < 1024 := Nat.mod_lt _ (by norm_num)
  have key := congrFun ((blocks2 m c ⟨R.val / 1024, ht⟩ (flush0_2 _)).trans (flushed2 m c _)) (ix2 ⟨R.val % 1024, hr⟩ d)
  have hz : (![0, 0] : Fin S1024x1024.rank → ℕ) = fun _ => 0 := by funext a; fin_cases a <;> rfl
  have hx : (![0, 0] : Fin S1024x2048.rank → ℕ) = fun _ => 0 := by funext a; fin_cases a <;> rfl
  have hw : (![0, 0, 0] : Fin S1x2048x1024.rank → ℕ) = fun _ => 0 := by funext a; fin_cases a <;> rfl
  have e : ((View.whole main_v3).slice (win0_2.rect ⟨R.val / 1024, ht⟩)).emb (ix2 ⟨R.val % 1024, hr⟩ d) = ix2 R d := by
    blk_ext [blk_idx ⟨R.val / 1024, ht⟩]
  have h1 : ((cfg0.win 2).blk ⟨R.val / 1024, ht⟩).view.read (Elt Ideal) ((dats m 0 c).arrAt 2 cfg0.N) (ix2 ⟨R.val % 1024, hr⟩ d)
      = ((dats m 0 c).arrAt 2 cfg0.N : S16384x1024.Idx → EReal) (ix2 R d) := by
    rw [← e]; rfl
  have h2 : (cfg0.win 2).cut (grid0.coords ⟨R.val / 1024, ht⟩)
        (out0_2 (iblk m c 0 ⟨R.val / 1024, ht⟩) (iblk m c 1 ⟨R.val / 1024, ht⟩)) (ix2 ⟨R.val % 1024, hr⟩ d)
      = (k0_pay1 (iblk m c 0 ⟨R.val / 1024, ht⟩) (iblk m c 1 ⟨R.val / 1024, ht⟩) : FVec Ideal S1024x1024 .bf16)
        (ix2 ⟨R.val % 1024, hr⟩ d) := by
    rw [out0_2, View.canon_unit_zero hz, View.ld_unit_zero hx, View.ld_unit_zero hw]
    rfl
  rw [← h1, key, h2, pay_apply]
  have hb : ∀ k : Fin 2048, iblk m c 0 ⟨R.val / 1024, ht⟩ (ix2 ⟨R.val % 1024, hr⟩ k)
      = m ((c : Thread nD τ).loc main_arg0) (ix3 ⟨R.val / 2048, by omega⟩ ⟨R.val % 2048, Nat.mod_lt _ (by norm_num)⟩ k) :=
    fun k => blk_u m c _ _ R (by show R.val = 1024 * (R.val / 1024) + R.val % 1024; omega) k
  simp only [hb, blk_w]
  rfl

end Cert.Kernel9Ideal.Proj

namespace Cert.Proof.Proj9

open Idealize.ShloMosaic Idealize.ShloMosaic.TcCoe Idealize.SL.Sem
open Idealize.ShloMosaic.ValueIdx (contrEquiv1 contrEquiv1_symm_val)

/-- The reference's cut of the combined projection, at an element. -/
theorem ref_cut (X : FVec Ideal Cert.Reference9Ideal.S8x2048x7168 .f32) (a : Fin 8) (b : Fin 2048) (d : Fin 1024) :
    (extractStridedSlice Cert.Reference9Ideal.S8x2048x1024 ![0, 0, 4096] X Cert.Reference9Ideal.Gen.slices_S8x2048x7168_S8x2048x1024_0_0_4096 : FVec Ideal Cert.Reference9Ideal.S8x2048x1024 .f32)
      (ix3 a b d) = X (ix3 a b ⟨4096 + d.val, by omega⟩) := by
  pointwise

/-- The combined projection's columns of the call, at an element. -/
theorem ref_lin (u : FVec Ideal Cert.Reference9Ideal.S8x2048x2048 .f32) (w : FVec Ideal Cert.Reference9Ideal.S1x2048x7168 .f32) (R : Fin 16384) (d : Fin 1024) :
    (extractStridedSlice Cert.Reference9Ideal.S8x2048x1024 ![0, 0, 4096]
        (Host.dotGeneral Cert.Reference9Ideal.dot_S8x2048x2048_S2048x7168_S8x2048x7168_2_0_01_1_n_n none u
          (shapeCast _ w Cert.Reference9Ideal.Gen.shapeCasts_S1x2048x7168_S2048x7168)) Cert.Reference9Ideal.Gen.slices_S8x2048x7168_S8x2048x1024_0_0_4096 : FVec Ideal Cert.Reference9Ideal.S8x2048x1024 .f32)
      (ix3 ⟨R.val / 2048, by omega⟩ ⟨R.val % 2048, Nat.mod_lt _ (by norm_num)⟩ d) = Cert.Kernel9Ideal.Proj.lin u w R d := by
  have h : ∀ (a : Fin 8) (b : Fin 2048) (j : Fin 7168),
      (Host.dotGeneral Cert.Reference9Ideal.dot_S8x2048x2048_S2048x7168_S8x2048x7168_2_0_01_1_n_n none u
          (shapeCast _ w Cert.Reference9Ideal.Gen.shapeCasts_S1x2048x7168_S2048x7168) : FVec Ideal Cert.Reference9Ideal.S8x2048x7168 .f32) (ix3 a b j)
        = ∑ k : Fin 2048, u (ix3 a b k) * w (ix3 0 k j) := by
    intro a b j
    let D := Cert.Reference9Ideal.dot_S8x2048x2048_S2048x7168_S8x2048x7168_2_0_01_1_n_n
    show FloatOps.dotGeneral D none _ u _ (ix3 a b j) = _
    rw [Ideal.dotGeneral_apply, ← Equiv.sum_comp (contrEquiv1 D 2048 rfl rfl).symm]
    refine Finset.sum_congr rfl fun k _ => ?_
    have hk := contrEquiv1_symm_val D 2048 rfl rfl k
    have el : D.lhsIdx (ix3 a b j) ((contrEquiv1 D 2048 rfl rfl).symm k) = ix3 a b k := by
      funext ax; apply Fin.ext
      match ax with
      | ⟨0, _⟩ => rfl
      | ⟨1, _⟩ => rfl
      | ⟨2, _⟩ => exact hk
    have er : D.rhsIdx (ix3 a b j) ((contrEquiv1 D 2048 rfl rfl).symm k) = ix2 k j := by
      funext ax; apply Fin.ext
      match ax with
      | ⟨0, _⟩ => exact hk
      | ⟨1, _⟩ => rfl
    rw [el, er]
    pointwise
  exact (ref_cut _ _ _ d).trans (h _ _ ⟨4096 + d.val, by omega⟩)

/-- What the reference makes of the columns, at an element. -/
theorem ref_act (X : FVec Ideal Cert.Reference9Ideal.S8x2048x1024 .f32) (R : Fin 16384) (d : Fin 1024) :
    (truncf .bf16 (shapeCast Cert.Reference9Ideal.S16384x1024 X Cert.Reference9Ideal.Gen.shapeCasts_S8x2048x1024_S16384x1024) Cert.Reference9Ideal.Gen.bitsLt_bf16_f32 : FVec Ideal Cert.Reference9Ideal.S16384x1024 .bf16) (ix2 R d)
      = X (ix3 ⟨R.val / 2048, by omega⟩ ⟨R.val % 2048, Nat.mod_lt _ (by norm_num)⟩ d) := by
  pointwise

/-- The compiled call ends, on every device, with its arguments unchanged and no semaphore pending. -/
theorem frame_kernel : Cert.quiescent_Kernel9 := fun m ρ _ => Cert.Kernel9.Gen.frame m ρ

/-- So does the call over the reals. -/
theorem frame_ideal : Cert.quiescent_Kernel9Ideal := fun m ρ _ => Cert.Kernel9Ideal.Gen.frame m ρ

/-- So does the reference. -/
theorem frame_reference : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- Over the reals the call and the reference leave the same result. -/
theorem algebraic : Cert.algebraic_Kernel9Ideal_Reference9Ideal := by
  intro m ρ m' ρ' _ hagree
  refine ⟨fun c => (Cert.Kernel9Ideal.Gen.dats m 0 c).arrAt 2 Cert.Kernel9Ideal.cfg0.N, Cert.Kernel9Ideal.Value.run_blocks m ρ, ?_⟩
  refine (θ_run Cert.Reference9Ideal.defs _ _).mono (fun _ h c => ⟨(h c).1.trans ?_, (h c).2⟩)
    (Cert.Reference9Ideal.Value.run (F := Ideal) m' ρ')
  obtain ⟨h0, h1⟩ := hagree c
  refine funext fun (I : Cert.Kernel9Ideal.S16384x1024.Idx) => ?_
  obtain ⟨R, d, rfl⟩ : ∃ (R : Fin 16384) (d : Fin 1024), I = ix2 R d := ⟨I 0, I 1, eq_ix2 I⟩
  refine Eq.trans ?_ (Cert.Kernel9Ideal.Proj.out_apply m c R d).symm
  rw [← h0, ← h1, ← ref_lin]
  exact ref_act _ R d

end Cert.Proof.Proj9

end
-- ==== Proof.lean ====
module

public import proofs.«01_k».proof.Defs
public import proofs.«01_k».proof.Proof.Claims
public import proofs.«01_k».proof.Proof.ExpertClaims
public import proofs.«01_k».proof.Proof.Proj3
public import proofs.«01_k».proof.Proof.Proj4
public import proofs.«01_k».proof.Proof.Proj5
public import proofs.«01_k».proof.Proof.Proj6
public import proofs.«01_k».proof.Proof.Proj7
public import proofs.«01_k».proof.Proof.Proj8
public import proofs.«01_k».proof.Proof.Proj9
public import proofs.«01_k».proof.Proof.Gen.Kernel
public import proofs.«01_k».proof.Proof.Gen.KernelIdeal
public import proofs.«01_k».proof.Proof.Gen.ReferenceIdeal
public import proofs.«01_k».proof.Proof.Gen.Pre_finite_and_positive
public import proofs.«01_k».proof.Proof.Gen.Kernel2
public import proofs.«01_k».proof.Proof.Gen.Kernel2Ideal
public import proofs.«01_k».proof.Proof.Gen.Reference2Ideal
public import proofs.«01_k».proof.Proof.Gen.Pre_tables_in_range
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_finite_and_positive.Gen.facts, Cert.Pre_tables_in_range.Gen.facts,
    Prompt.frame_kernel, Prompt.frame_ideal, Prompt.frame_ideal_pre, Prompt.frame_reference, Prompt.frame_reference_pre,
    Experts.frame_kernel, Experts.frame_ideal, Experts.frame_reference, Experts.frame_reference_pre,
    Proj3.frame_kernel, Proj3.frame_ideal, Proj3.frame_reference,
    Proj4.frame_kernel, Proj4.frame_ideal, Proj4.frame_reference,
    Proj5.frame_kernel, Proj5.frame_ideal, Proj5.frame_reference,
    Proj6.frame_kernel, Proj6.frame_ideal, Proj6.frame_reference,
    Proj7.frame_kernel, Proj7.frame_ideal, Proj7.frame_reference,
    Proj8.frame_kernel, Proj8.frame_ideal, Proj8.frame_reference,
    Proj9.frame_kernel, Proj9.frame_ideal, Proj9.frame_reference,
    Prompt.preserves, Prompt.algebraic, Experts.preserves, Experts.algebraic,
    trivial, Proj3.algebraic,
    trivial, Proj4.algebraic,
    trivial, Proj5.algebraic,
    trivial, Proj6.algebraic,
    trivial, Proj7.algebraic,
    trivial, Proj8.algebraic,
    trivial, Proj9.algebraic⟩

end Cert.Proof
